-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_fox [hPre_finite_fox : Cert.Pre_finite_fox.Facts] (m : (ℓ : Loc Cert.FoxIdeal.nD Cert.FoxIdeal.τ Cert.FoxIdeal.sig) → Buf (Elt Ideal) ℓ) : Prop :=
  ∀ c : Dev Cert.FoxIdeal.nD,
    (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_fox [hPre_finite_fox : Cert.Pre_finite_fox.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite_band [hPre_finite_band : Cert.Pre_finite_band.Facts] (m : (ℓ : Loc Cert.BandIdeal.nD Cert.BandIdeal.τ Cert.BandIdeal.sig) → Buf (Elt Ideal) ℓ) : Prop :=
  ∀ c : Dev Cert.BandIdeal.nD,
    (Cert.Pre_finite_band.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite_band [hPre_finite_band : Cert.Pre_finite_band.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite_band.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_LastNorm (m : (ℓ : Loc Cert.LastNorm.nD Cert.LastNorm.τ Cert.LastNorm.sig) → Buf (Elt Bits) ℓ) : Prop :=
  True

def Pre_LastNormIdeal (m : (ℓ : Loc Cert.LastNormIdeal.nD Cert.LastNormIdeal.τ Cert.LastNormIdeal.sig) → Buf (Elt Ideal) ℓ) : Prop :=
  True

def Pre_LastNormRefIdeal (m : (ℓ : Loc Cert.LastNormRefIdeal.nD Cert.LastNormRefIdeal.τ Cert.LastNormRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetIdeal_finite_forget [hPre_finite_forget : Cert.Pre_finite_forget.Facts] (m : (ℓ : Loc Cert.ForgetIdeal.nD Cert.ForgetIdeal.τ Cert.ForgetIdeal.sig) → Buf (Elt Ideal) ℓ) : Prop :=
  ∀ c : Dev Cert.ForgetIdeal.nD,
    (Cert.Pre_finite_forget.fn (F := Ideal) (m ((c.tc : Thread Cert.ForgetIdeal.nD Cert.ForgetIdeal.τ).loc Cert.ForgetIdeal.main_arg0)) (m ((c.tc : Thread Cert.ForgetIdeal.nD Cert.ForgetIdeal.τ).loc Cert.ForgetIdeal.main_arg1)) (m ((c.tc : Thread Cert.ForgetIdeal.nD Cert.ForgetIdeal.τ).loc Cert.ForgetIdeal.main_arg2)) (m ((c.tc : Thread Cert.ForgetIdeal.nD Cert.ForgetIdeal.τ).loc Cert.ForgetIdeal.main_arg3))) = (fun _ => 1#1)

def Pre_ForgetRefIdeal (m : (ℓ : Loc Cert.ForgetRefIdeal.nD Cert.ForgetRefIdeal.τ Cert.ForgetRefIdeal.sig) → Buf (Elt Ideal) ℓ) : Prop :=
  True

def Pre_ForgetRefIdeal_finite_forget [hPre_finite_forget : Cert.Pre_finite_forget.Facts] (m : (ℓ : Loc Cert.ForgetRefIdeal.nD Cert.ForgetRefIdeal.τ Cert.ForgetRefIdeal.sig) → Buf (Elt Ideal) ℓ) : Prop :=
  ∀ c : Dev Cert.ForgetRefIdeal.nD,
    (Cert.Pre_finite_forget.fn (F := Ideal) (m ((c.tc : Thread Cert.ForgetRefIdeal.nD Cert.ForgetRefIdeal.τ).loc Cert.ForgetRefIdeal.main_arg0)) (m ((c.tc : Thread Cert.ForgetRefIdeal.nD Cert.ForgetRefIdeal.τ).loc Cert.ForgetRefIdeal.main_arg1)) (m ((c.tc : Thread Cert.ForgetRefIdeal.nD Cert.ForgetRefIdeal.τ).loc Cert.ForgetRefIdeal.main_arg2)) (m ((c.tc : Thread Cert.ForgetRefIdeal.nD Cert.ForgetRefIdeal.τ).loc Cert.ForgetRefIdeal.main_arg3))) = (fun _ => 1#1)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_finite_fox [hFoxIdeal : Cert.FoxIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_finite_fox [hFoxRefIdeal : Cert.FoxRefIdeal.Facts] [hPre_finite_fox : Cert.Pre_finite_fox.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_fox m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_finite_band [hBandIdeal : Cert.BandIdeal.Facts] [hPre_finite_band : Cert.Pre_finite_band.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite_band m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_finite_band [hBandRefIdeal : Cert.BandRefIdeal.Facts] [hPre_finite_band : Cert.Pre_finite_band.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite_band m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_LastNorm [hLastNorm : Cert.LastNorm.Facts] : Prop :=
  ∀ (m : (ℓ : Loc Cert.LastNorm.nD Cert.LastNorm.τ Cert.LastNorm.sig) → Buf (Elt Bits) ℓ) (g : Dev Cert.LastNorm.nD → PrngReg), Pre_LastNorm m →
    θ_run (Cert.LastNorm.defs (F := Bits)) (onTc (τ := Cert.LastNorm.τ) (Cert.LastNorm.main (F := Bits))) ⟨m, fun _ => 0, g⟩ (fun r => (∀ c : Dev Cert.LastNorm.nD,
      r.2.mem ((c.tc : Thread Cert.LastNorm.nD Cert.LastNorm.τ).loc Cert.LastNorm.main_arg0) = m ((c.tc : Thread Cert.LastNorm.nD Cert.LastNorm.τ).loc Cert.LastNorm.main_arg0)
      ∧ r.2.mem ((c.tc : Thread Cert.LastNorm.nD Cert.LastNorm.τ).loc Cert.LastNorm.main_arg1) = m ((c.tc : Thread Cert.LastNorm.nD Cert.LastNorm.τ).loc Cert.LastNorm.main_arg1))
      ∧ r.2.sem = fun _ => 0)

def quiescent_LastNormIdeal [hLastNormIdeal : Cert.LastNormIdeal.Facts] : Prop :=
  ∀ (m : (ℓ : Loc Cert.LastNormIdeal.nD Cert.LastNormIdeal.τ Cert.LastNormIdeal.sig) → Buf (Elt Ideal) ℓ) (g : Dev Cert.LastNormIdeal.nD → PrngReg), Pre_LastNormIdeal m →
    θ_run (Cert.LastNormIdeal.defs (F := Ideal)) (onTc (τ := Cert.LastNormIdeal.τ) (Cert.LastNormIdeal.main (F := Ideal))) ⟨m, fun _ => 0, g⟩ (fun r => (∀ c : Dev Cert.LastNormIdeal.nD,
      r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
      ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1))
      ∧ r.2.sem = fun _ => 0)

def quiescent_LastNormRefIdeal [hLastNormRefIdeal : Cert.LastNormRefIdeal.Facts] : Prop :=
  ∀ (m : (ℓ : Loc Cert.LastNormRefIdeal.nD Cert.LastNormRefIdeal.τ Cert.LastNormRefIdeal.sig) → Buf (Elt Ideal) ℓ) (g : Dev Cert.LastNormRefIdeal.nD → PrngReg), Pre_LastNormRefIdeal m →
    θ_run (Cert.LastNormRefIdeal.defs (F := Ideal)) (onTc (τ := Cert.LastNormRefIdeal.τ) (Cert.LastNormRefIdeal.main (F := Ideal))) ⟨m, fun _ => 0, g⟩ (fun r => (∀ c : Dev Cert.LastNormRefIdeal.nD,
      r.2.mem ((c.tc : Thread Cert.LastNormRefIdeal.nD Cert.LastNormRefIdeal.τ).loc Cert.LastNormRefIdeal.main_arg0) = m ((c.tc : Thread Cert.LastNormRefIdeal.nD Cert.LastNormRefIdeal.τ).loc Cert.LastNormRefIdeal.main_arg0)
      ∧ r.2.mem ((c.tc : Thread Cert.LastNormRefIdeal.nD Cert.LastNormRefIdeal.τ).loc Cert.LastNormRefIdeal.main_arg1) = m ((c.tc : Thread Cert.LastNormRefIdeal.nD Cert.LastNormRefIdeal.τ).loc Cert.LastNormRefIdeal.main_arg1))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2)
      ∧ r.2.mem ((c.tc : Thread Cert.Forget.nD Cert.Forget.τ).loc Cert.Forget.main_arg3) = m ((c.tc : Thread Cert.Forget.nD Cert.Forget.τ).loc Cert.Forget.main_arg3))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetIdeal_pre_finite_forget [hForgetIdeal : Cert.ForgetIdeal.Facts] [hPre_finite_forget : Cert.Pre_finite_forget.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal_finite_forget m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_ForgetRefIdeal_pre_finite_forget [hForgetRefIdeal : Cert.ForgetRefIdeal.Facts] [hPre_finite_forget : Cert.Pre_finite_forget.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal_finite_forget m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite_fox [hFoxIdeal : Cert.FoxIdeal.Facts] [hFoxRefIdeal : Cert.FoxRefIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_fox m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v41) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_Band_BandIdeal : Prop :=
  IdealRules.named_const.Statement Cert.BandIdeal.κ "mask" .f32 0xF149F2CA#32 ⊥

def algebraic_BandIdeal_BandRefIdeal_pre_finite_band [hBandIdeal : Cert.BandIdeal.Facts] [hBandRefIdeal : Cert.BandRefIdeal.Facts] [hPre_finite_band : Cert.Pre_finite_band.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite_band m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v10)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v10) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v58) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v6) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v10) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Gates_GatesIdeal : Prop :=
  True

def algebraic_GatesIdeal_GatesRefIdeal_on_gates_heads [hGatesIdeal : Cert.GatesIdeal.Facts] [hGatesRefIdeal : Cert.GatesRefIdeal.Facts] [hOn_gates_heads : Cert.On_gates_heads.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v3_0)) (v1 : (c : Dev Cert.GatesIdeal.nD) → Buf (Elt Ideal) ((c.tc : Thread Cert.GatesIdeal.nD Cert.GatesIdeal.τ).loc Cert.GatesIdeal.main_v3_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          (∀ i : (⟨3, ![4, 2048, 128]⟩ : Shape).Idx, (Cert.On_gates_heads.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2))).1 i = 1#1 → r.2.mem ((c.tc : Thread Cert.GatesIdeal.nD Cert.GatesIdeal.τ).loc Cert.GatesIdeal.main_v3_0) i = v0 c i)
          ∧ (∀ i : (⟨3, ![4, 8, 2048]⟩ : Shape).Idx, (Cert.On_gates_heads.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2))).2 i = 1#1 → r.2.mem ((c.tc : Thread Cert.GatesIdeal.nD Cert.GatesIdeal.τ).loc Cert.GatesIdeal.main_v3_1) i = v1 c i)
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          (∀ i : (⟨3, ![4, 2048, 128]⟩ : Shape).Idx, (Cert.On_gates_heads.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2))).1 i = 1#1 → r.2.mem ((c.tc : Thread Cert.GatesRefIdeal.nD Cert.GatesRefIdeal.τ).loc Cert.GatesRefIdeal.main_v9) i = v0 c i)
          ∧ (∀ i : (⟨3, ![4, 8, 2048]⟩ : Shape).Idx, (Cert.On_gates_heads.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2))).2 i = 1#1 → r.2.mem ((c.tc : Thread Cert.GatesRefIdeal.nD Cert.GatesRefIdeal.τ).loc Cert.GatesRefIdeal.main_v10) i = v1 c i)
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_LastNorm_LastNormIdeal : Prop :=
  True

def algebraic_LastNormIdeal_LastNormRefIdeal [hLastNormIdeal : Cert.LastNormIdeal.Facts] [hLastNormRefIdeal : Cert.LastNormRefIdeal.Facts] : Prop :=
  ∀ (m : (ℓ : Loc Cert.LastNormIdeal.nD Cert.LastNormIdeal.τ Cert.LastNormIdeal.sig) → Buf (Elt Ideal) ℓ) (g : Dev Cert.LastNormIdeal.nD → PrngReg)
    (m' : (ℓ : Loc Cert.LastNormRefIdeal.nD Cert.LastNormRefIdeal.τ Cert.LastNormRefIdeal.sig) → Buf (Elt Ideal) ℓ) (g' : Dev Cert.LastNormRefIdeal.nD → PrngReg), Pre_LastNormIdeal m →
    (∀ c : Dev Cert.LastNormIdeal.nD,
      m' ((c.tc : Thread Cert.LastNormRefIdeal.nD Cert.LastNormRefIdeal.τ).loc Cert.LastNormRefIdeal.main_arg0) = m ((c.tc : Thread Cert.LastNormIdeal.nD Cert.LastNormIdeal.τ).loc Cert.LastNormIdeal.main_arg0)
      ∧ m' ((c.tc : Thread Cert.LastNormRefIdeal.nD Cert.LastNormRefIdeal.τ).loc Cert.LastNormRefIdeal.main_arg1) = m ((c.tc : Thread Cert.LastNormIdeal.nD Cert.LastNormIdeal.τ).loc Cert.LastNormIdeal.main_arg1)) →
    ∃ (v0 : (c : Dev Cert.LastNormIdeal.nD) → Buf (Elt Ideal) ((c.tc : Thread Cert.LastNormIdeal.nD Cert.LastNormIdeal.τ).loc Cert.LastNormIdeal.main_v1)),
      θ_run (Cert.LastNormIdeal.defs (F := Ideal)) (onTc (τ := Cert.LastNormIdeal.τ) (Cert.LastNormIdeal.main (F := Ideal))) ⟨m, fun _ => 0, g⟩ (fun r => ∀ c : Dev Cert.LastNormIdeal.nD,
          r.2.mem ((c.tc : Thread Cert.LastNormIdeal.nD Cert.LastNormIdeal.τ).loc Cert.LastNormIdeal.main_v1) = v0 c
          ∧ r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
          ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1))
      ∧ θ_run (Cert.LastNormRefIdeal.defs (F := Ideal)) (onTc (τ := Cert.LastNormRefIdeal.τ) (Cert.LastNormRefIdeal.main (F := Ideal))) ⟨m', fun _ => 0, g'⟩ (fun r => ∀ c : Dev Cert.LastNormRefIdeal.nD,
          r.2.mem ((c.tc : Thread Cert.LastNormRefIdeal.nD Cert.LastNormRefIdeal.τ).loc Cert.LastNormRefIdeal.main_v12) = v0 c
          ∧ r.2.mem ((c.tc : Thread Cert.LastNormRefIdeal.nD Cert.LastNormRefIdeal.τ).loc Cert.LastNormRefIdeal.main_arg0) = m' ((c.tc : Thread Cert.LastNormRefIdeal.nD Cert.LastNormRefIdeal.τ).loc Cert.LastNormRefIdeal.main_arg0)
          ∧ r.2.mem ((c.tc : Thread Cert.LastNormRefIdeal.nD Cert.LastNormRefIdeal.τ).loc Cert.LastNormRefIdeal.main_arg1) = m' ((c.tc : Thread Cert.LastNormRefIdeal.nD Cert.LastNormRefIdeal.τ).loc Cert.LastNormRefIdeal.main_arg1))

def preserves_Forget_ForgetIdeal : Prop :=
  IdealRules.named_const.Statement Cert.ForgetIdeal.κ "mask" .f32 0xF149F2CA#32 ⊥

def algebraic_ForgetIdeal_ForgetRefIdeal_pre_finite_forget [hForgetIdeal : Cert.ForgetIdeal.Facts] [hForgetRefIdeal : Cert.ForgetRefIdeal.Facts] [hPre_finite_forget : Cert.Pre_finite_forget.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal_finite_forget m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)
      ∧ m' ((c.tc : Thread Cert.ForgetRefIdeal.nD Cert.ForgetRefIdeal.τ).loc Cert.ForgetRefIdeal.main_arg3) = m ((c.tc : Thread Cert.ForgetIdeal.nD Cert.ForgetIdeal.τ).loc Cert.ForgetIdeal.main_arg3)) →
    ∃ (v0 : (c : Dev Cert.ForgetIdeal.nD) → Buf (Elt Ideal) ((c.tc : Thread Cert.ForgetIdeal.nD Cert.ForgetIdeal.τ).loc Cert.ForgetIdeal.main_v4)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v4) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
          ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v48) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2)
          ∧ r.2.mem ((c.tc : Thread Cert.ForgetRefIdeal.nD Cert.ForgetRefIdeal.τ).loc Cert.ForgetRefIdeal.main_arg3) = m' ((c.tc : Thread Cert.ForgetRefIdeal.nD Cert.ForgetRefIdeal.τ).loc Cert.ForgetRefIdeal.main_arg3))

def Claim : Prop :=
  ∃ (hFox : Cert.Fox.Facts) (hFoxIdeal : Cert.FoxIdeal.Facts) (hFoxRefIdeal : Cert.FoxRefIdeal.Facts) (hBand : Cert.Band.Facts) (hBandIdeal : Cert.BandIdeal.Facts) (hBandRefIdeal : Cert.BandRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hPle : Cert.Ple.Facts) (hPleIdeal : Cert.PleIdeal.Facts) (hPleRefIdeal : Cert.PleRefIdeal.Facts) (hGates : Cert.Gates.Facts) (hGatesIdeal : Cert.GatesIdeal.Facts) (hGatesRefIdeal : Cert.GatesRefIdeal.Facts) (hNorm : Cert.Norm.Facts) (hNormIdeal : Cert.NormIdeal.Facts) (hNormRefIdeal : Cert.NormRefIdeal.Facts) (hLastNorm : Cert.LastNorm.Facts) (hLastNormIdeal : Cert.LastNormIdeal.Facts) (hLastNormRefIdeal : Cert.LastNormRefIdeal.Facts) (hForget : Cert.Forget.Facts) (hForgetIdeal : Cert.ForgetIdeal.Facts) (hForgetRefIdeal : Cert.ForgetRefIdeal.Facts) (hPre_finite_fox : Cert.Pre_finite_fox.Facts) (hPre_finite_band : Cert.Pre_finite_band.Facts) (hPre_finite_forget : Cert.Pre_finite_forget.Facts) (hOn_gates_heads : Cert.On_gates_heads.Facts),
    quiescent_Fox (hFox := hFox)
    ∧ quiescent_FoxIdeal (hFoxIdeal := hFoxIdeal)
    ∧ quiescent_FoxIdeal_pre_finite_fox (hFoxIdeal := hFoxIdeal) (hPre_finite_fox := hPre_finite_fox)
    ∧ quiescent_FoxRefIdeal (hFoxRefIdeal := hFoxRefIdeal)
    ∧ quiescent_FoxRefIdeal_pre_finite_fox (hFoxRefIdeal := hFoxRefIdeal) (hPre_finite_fox := hPre_finite_fox)
    ∧ quiescent_Band (hBand := hBand)
    ∧ quiescent_BandIdeal (hBandIdeal := hBandIdeal)
    ∧ quiescent_BandIdeal_pre_finite_band (hBandIdeal := hBandIdeal) (hPre_finite_band := hPre_finite_band)
    ∧ quiescent_BandRefIdeal (hBandRefIdeal := hBandRefIdeal)
    ∧ quiescent_BandRefIdeal_pre_finite_band (hBandRefIdeal := hBandRefIdeal) (hPre_finite_band := hPre_finite_band)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ple (hPle := hPle)
    ∧ quiescent_PleIdeal (hPleIdeal := hPleIdeal)
    ∧ quiescent_PleRefIdeal (hPleRefIdeal := hPleRefIdeal)
    ∧ quiescent_Gates (hGates := hGates)
    ∧ quiescent_GatesIdeal (hGatesIdeal := hGatesIdeal)
    ∧ quiescent_GatesRefIdeal (hGatesRefIdeal := hGatesRefIdeal)
    ∧ quiescent_Norm (hNorm := hNorm)
    ∧ quiescent_NormIdeal (hNormIdeal := hNormIdeal)
    ∧ quiescent_NormRefIdeal (hNormRefIdeal := hNormRefIdeal)
    ∧ quiescent_LastNorm (hLastNorm := hLastNorm)
    ∧ quiescent_LastNormIdeal (hLastNormIdeal := hLastNormIdeal)
    ∧ quiescent_LastNormRefIdeal (hLastNormRefIdeal := hLastNormRefIdeal)
    ∧ quiescent_Forget (hForget := hForget)
    ∧ quiescent_ForgetIdeal (hForgetIdeal := hForgetIdeal)
    ∧ quiescent_ForgetIdeal_pre_finite_forget (hForgetIdeal := hForgetIdeal) (hPre_finite_forget := hPre_finite_forget)
    ∧ quiescent_ForgetRefIdeal (hForgetRefIdeal := hForgetRefIdeal)
    ∧ quiescent_ForgetRefIdeal_pre_finite_forget (hForgetRefIdeal := hForgetRefIdeal) (hPre_finite_forget := hPre_finite_forget)
    ∧ preserves_Fox_FoxIdeal
    ∧ algebraic_FoxIdeal_FoxRefIdeal_pre_finite_fox (hFoxIdeal := hFoxIdeal) (hFoxRefIdeal := hFoxRefIdeal) (hPre_finite_fox := hPre_finite_fox)
    ∧ preserves_Band_BandIdeal
    ∧ algebraic_BandIdeal_BandRefIdeal_pre_finite_band (hBandIdeal := hBandIdeal) (hBandRefIdeal := hBandRefIdeal) (hPre_finite_band := hPre_finite_band)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Ple_PleIdeal
    ∧ algebraic_PleIdeal_PleRefIdeal (hPleIdeal := hPleIdeal) (hPleRefIdeal := hPleRefIdeal)
    ∧ preserves_Gates_GatesIdeal
    ∧ algebraic_GatesIdeal_GatesRefIdeal_on_gates_heads (hGatesIdeal := hGatesIdeal) (hGatesRefIdeal := hGatesRefIdeal) (hOn_gates_heads := hOn_gates_heads)
    ∧ preserves_Norm_NormIdeal
    ∧ algebraic_NormIdeal_NormRefIdeal (hNormIdeal := hNormIdeal) (hNormRefIdeal := hNormRefIdeal)
    ∧ preserves_LastNorm_LastNormIdeal
    ∧ algebraic_LastNormIdeal_LastNormRefIdeal (hLastNormIdeal := hLastNormIdeal) (hLastNormRefIdeal := hLastNormRefIdeal)
    ∧ preserves_Forget_ForgetIdeal
    ∧ algebraic_ForgetIdeal_ForgetRefIdeal_pre_finite_forget (hForgetIdeal := hForgetIdeal) (hForgetRefIdeal := hForgetRefIdeal) (hPre_finite_forget := hPre_finite_forget)
-- ==== On_gates_heads.lean ====
abbrev S4x2048x2048 : Shape := ⟨3, ![4, 2048, 2048]⟩
abbrev S2048x6152 : Shape := ⟨2, ![2048, 6152]⟩
abbrev S8 : Shape := ⟨1, ![8]⟩
abbrev S4x2048x128 : Shape := ⟨3, ![4, 2048, 128]⟩
abbrev S4x8x2048 : Shape := ⟨3, ![4, 8, 2048]⟩
abbrev S_ : Shape := ⟨0, ![]⟩

class Facts : Prop where
  bcast_S_S4x2048x128 : S_.BroadcastsInDim S4x2048x128 (![] : Fin 0 → Fin S4x2048x128.rank)
  bcast_S_S4x8x2048 : S_.BroadcastsInDim S4x8x2048 (![] : Fin 0 → Fin S4x8x2048.rank)

variable [Facts]

def fn {F : FTy → Type} [FloatOps F] (main_arg0 : FVec F S4x2048x2048 .bf16) (main_arg1 : FVec F S2048x6152 .f32) (main_arg2 : FVec F S8 .f32) : IVec S4x2048x128 1 × IVec S4x8x2048 1 :=
  let main_v0 : IVec S4x2048x128 32 := iotaInDim S4x2048x128 32 2
  let main_v1 : IVec S4x8x2048 32 := iotaInDim S4x8x2048 32 1
  let main_c : IVec S_ 32 := constantI S_ 32 8#32
  let main_v2 : IVec S4x2048x128 32 := broadcastInDim S4x2048x128 ![] bcast_S_S4x2048x128 main_c
  let main_v3 : IVec S4x2048x128 1 := cmpi .slt main_v0 main_v2
  let main_c_0 : IVec S_ 32 := constantI S_ 32 8#32
  let main_v4 : IVec S4x8x2048 32 := broadcastInDim S4x8x2048 ![] bcast_S_S4x8x2048 main_c_0
  let main_v5 : IVec S4x8x2048 1 := cmpi .slt main_v1 main_v4
  (main_v3, main_v5)
-- ==== Pre_finite_band.lean ====
abbrev S4x2048x6144 : Shape := ⟨3, ![4, 2048, 6144]⟩
abbrev S8x513 : Shape := ⟨2, ![8, 513]⟩
abbrev S_ : Shape := ⟨0, ![]⟩

class Facts : Prop where
  bitsLt_bf16_f32 : FTy.bits .bf16 < FTy.bits .f32
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S4x2048x6144 .bf16) (main_arg1 : FVec F S8x513 .f32) : IVec S_ 1 :=
  let main_v0 : FVec F S4x2048x6144 .f32 := (extf .f32 · bitsLt_bf16_f32) main_arg0
  let main_v1 : FVec F S4x2048x6144 .f32 := Host.absf main_v0
  let main_cst : FVec F S_ .f32 := constant S_ .f32 0x7F800000#32
  let main_v2 : FVec F S4x2048x6144 .f32 := broadcastInDim S4x2048x6144 ![] bcast_S_S4x2048x6144 main_cst
  let main_v3 : IVec S4x2048x6144 1 := cmpf .olt main_v1 main_v2
  let main_c : IVec S_ 1 := constantI S_ 1 1#1
  let main_v4 : IVec S_ 1 := (fun x v => Host.reduce IntOp.andi x v reducesTo_S4x2048x6144_S_d0_1_2 h_S_) main_v3 main_c
  let main_v5 : FVec F S8x513 .f32 := Host.absf main_arg1
  let main_cst_0 : FVec F S_ .f32 := constant S_ .f32 0x7F800000#32
  let main_v6 : FVec F S8x513 .f32 := broadcastInDim S8x513 ![] bcast_S_S8x513 main_cst_0
  let main_v7 : IVec S8x513 1 := cmpf .olt main_v5 main_v6
  let main_c_1 : IVec S_ 1 := constantI S_ 1 1#1
  let main_v8 : IVec S_ 1 := (fun x v => Host.reduce IntOp.andi x v reducesTo_S8x513_S_d0_1 h_S_) main_v7 main_c_1
  let main_v9 : IVec S_ 1 := andi main_v4 main_v8
  main_v9
-- ==== Pre_finite_forget.lean ====
abbrev S4x2048x6144 : Shape := ⟨3, ![4, 2048, 6144]⟩
abbrev S4x2048x2048 : Shape := ⟨3, ![4, 2048, 2048]⟩
abbrev S2048x6152 : Shape := ⟨2, ![2048, 6152]⟩
abbrev S8 : Shape := ⟨1, ![8]⟩
abbrev S_ : Shape := ⟨0, ![]⟩

class Facts : Prop where
  bitsLt_bf16_f32 : FTy.bits .bf16 < FTy.bits .f32
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S2048x6152 : S_.BroadcastsInDim S2048x6152 (![] : Fin 0 → Fin S2048x6152.rank)
  reducesTo_S2048x6152_S_d0_1 : S2048x6152.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v15 : IVec S_ 1) (main_v16 : FVec F S8 .f32) (main_cst_4 : FVec F S_ .f32) : IVec S_ 1 :=
  let main_v17 : FVec F S8 .f32 := broadcastInDim S8 ![] bcast_S_S8 main_cst_4
  let main_v18 : IVec S8 1 := cmpf .olt main_v16 main_v17
  let main_c_5 : IVec S_ 1 := constantI S_ 1 1#1
  let main_v19 : IVec S_ 1 := (fun x v => Host.reduce IntOp.andi x v reducesTo_S8_S_d0 h_S_) main_v18 main_c_5
  let main_v20 : IVec S_ 1 := andi main_v15 main_v19
  main_v20

def fn {F : FTy → Type} [FloatOps F] (main_arg0 : FVec F S4x2048x6144 .bf16) (main_arg1 : FVec F S4x2048x2048 .bf16) (main_arg2 : FVec F S2048x6152 .f32) (main_arg3 : FVec F S8 .f32) : IVec S_ 1 :=
  let main_v0 : FVec F S4x2048x6144 .f32 := (extf .f32 · bitsLt_bf16_f32) main_arg0
  let main_v1 : FVec F S4x2048x6144 .f32 := Host.absf main_v0
  let main_cst : FVec F S_ .f32 := constant S_ .f32 0x7F800000#32
  let main_v2 : FVec F S4x2048x6144 .f32 := broadcastInDim S4x2048x6144 ![] bcast_S_S4x2048x6144 main_cst
  let main_v3 : IVec S4x2048x6144 1 := cmpf .olt main_v1 main_v2
  let main_c : IVec S_ 1 := constantI S_ 1 1#1
  let main_v4 : IVec S_ 1 := (fun x v => Host.reduce IntOp.andi x v reducesTo_S4x2048x6144_S_d0_1_2 h_S_) main_v3 main_c
  let main_v5 : FVec F S4x2048x2048 .f32 := (extf .f32 · bitsLt_bf16_f32) main_arg1
  let main_v6 : FVec F S4x2048x2048 .f32 := Host.absf main_v5
  let main_cst_0 : FVec F S_ .f32 := constant S_ .f32 0x7F800000#32
  let main_v7 : FVec F S4x2048x2048 .f32 := broadcastInDim S4x2048x2048 ![] bcast_S_S4x2048x2048 main_cst_0
  let main_v8 : IVec S4x2048x2048 1 := cmpf .olt main_v6 main_v7
  let main_c_1 : IVec S_ 1 := constantI S_ 1 1#1
  let main_v9 : IVec S_ 1 := (fun x v => Host.reduce IntOp.andi x v reducesTo_S4x2048x2048_S_d0_1_2 h_S_) main_v8 main_c_1
  let main_v10 : IVec S_ 1 := andi main_v4 main_v9
  let main_v11 : FVec F S2048x6152 .f32 := Host.absf main_arg2
  let main_cst_2 : FVec F S_ .f32 := constant S_ .f32 0x7F800000#32
  let main_v12 : FVec F S2048x6152 .f32 := broadcastInDim S2048x6152 ![] bcast_S_S2048x6152 main_cst_2
  let main_v13 : IVec S2048x6152 1 := cmpf .olt main_v11 main_v12
  let main_c_3 : IVec S_ 1 := constantI S_ 1 1#1
  let main_v14 : IVec S_ 1 := (fun x v => Host.reduce IntOp.andi x v reducesTo_S2048x6152_S_d0_1 h_S_) main_v13 main_c_3
  let main_v15 : IVec S_ 1 := andi main_v10 main_v14
  let main_v16 : FVec F S8 .f32 := Host.absf main_arg3
  let main_cst_4 : FVec F S_ .f32 := constant S_ .f32 0x7F800000#32
  fn_part1 (F := F) main_v15 main_v16 main_cst_4
-- ==== Pre_finite_fox.lean ====
abbrev S4x2048x6144 : Shape := ⟨3, ![4, 2048, 6144]⟩
abbrev S4x2048x128 : Shape := ⟨3, ![4, 2048, 128]⟩
abbrev S4x8x2048 : Shape := ⟨3, ![4, 8, 2048]⟩
abbrev S_ : Shape := ⟨0, ![]⟩

class Facts : Prop where
  bitsLt_bf16_f32 : FTy.bits .bf16 < FTy.bits .f32
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S4x8x2048 : S_.BroadcastsInDim S4x8x2048 (![] : Fin 0 → Fin S4x8x2048.rank)
  reducesTo_S4x8x2048_S_d0_1_2 : S4x8x2048.ReducesTo [0, 1, 2] S_

variable [Facts]

def fn {F : FTy → Type} [FloatOps F] (main_arg0 : FVec F S4x2048x6144 .bf16) (main_arg1 : FVec F S4x2048x128 .f32) (main_arg2 : FVec F S4x8x2048 .f32) : IVec S_ 1 :=
  let main_v0 : FVec F S4x2048x6144 .f32 := (extf .f32 · bitsLt_bf16_f32) main_arg0
  let main_v1 : FVec F S4x2048x6144 .f32 := Host.absf main_v0
  let main_cst : FVec F S_ .f32 := constant S_ .f32 0x7F800000#32
  let main_v2 : FVec F S4x2048x6144 .f32 := broadcastInDim S4x2048x6144 ![] bcast_S_S4x2048x6144 main_cst
  let main_v3 : IVec S4x2048x6144 1 := cmpf .olt main_v1 main_v2
  let main_c : IVec S_ 1 := constantI S_ 1 1#1
  let main_v4 : IVec S_ 1 := (fun x v => Host.reduce IntOp.andi x v reducesTo_S4x2048x6144_S_d0_1_2 h_S_) main_v3 main_c
  let main_v5 : FVec F S4x2048x128 .f32 := Host.absf main_arg1
  let main_cst_0 : FVec F S_ .f32 := constant S_ .f32 0x7F800000#32
  let main_v6 : FVec F S4x2048x128 .f32 := broadcastInDim S4x2048x128 ![] bcast_S_S4x2048x128 main_cst_0
  let main_v7 : IVec S4x2048x128 1 := cmpf .olt main_v5 main_v6
  let main_c_1 : IVec S_ 1 := constantI S_ 1 1#1
  let main_v8 : IVec S_ 1 := (fun x v => Host.reduce IntOp.andi x v reducesTo_S4x2048x128_S_d0_1_2 h_S_) main_v7 main_c_1
  let main_v9 : IVec S_ 1 := andi main_v4 main_v8
  let main_v10 : FVec F S4x8x2048 .f32 := Host.absf main_arg2
  let main_cst_2 : FVec F S_ .f32 := constant S_ .f32 0x7F800000#32
  let main_v11 : FVec F S4x8x2048 .f32 := broadcastInDim S4x8x2048 ![] bcast_S_S4x8x2048 main_cst_2
  let main_v12 : IVec S4x8x2048 1 := cmpf .olt main_v10 main_v11
  let main_c_3 : IVec S_ 1 := constantI S_ 1 1#1
  let main_v13 : IVec S_ 1 := (fun x v => Host.reduce IntOp.andi x v reducesTo_S4x8x2048_S_d0_1_2 h_S_) main_v12 main_c_3
  let main_v14 : IVec S_ 1 := andi main_v9 main_v13
  main_v14
-- ==== Fox.lean ====
abbrev S4x2048x6144 : Shape := ⟨3, ![4, 2048, 6144]⟩
abbrev S4x2048x128 : Shape := ⟨3, ![4, 2048, 128]⟩
abbrev S4x8x2048 : Shape := ⟨3, ![4, 8, 2048]⟩
abbrev S4x2048x1024 : Shape := ⟨3, ![4, 2048, 1024]⟩
abbrev S1x2048x128 : Shape := ⟨3, ![1, 2048, 128]⟩
abbrev S1x8x2048 : Shape := ⟨3, ![1, 8, 2048]⟩
abbrev S256x128 : Shape := ⟨2, ![256, 128]⟩
abbrev S256x256 : Shape := ⟨2, ![256, 256]⟩
abbrev S1x256x128 : Shape := ⟨3, ![1, 256, 128]⟩
abbrev S256 : Shape := ⟨1, ![256]⟩
abbrev S256x1 : Shape := ⟨2, ![256, 1]⟩
abbrev S1x1x256 : Shape := ⟨3, ![1, 1, 256]⟩
abbrev S1x256 : Shape := ⟨2, ![1, 256]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1x512 : Shape := ⟨3, ![1, 1, 512]⟩
abbrev S1x512 : Shape := ⟨2, ![1, 512]⟩
abbrev S1x1024x128 : Shape := ⟨3, ![1, 1024, 128]⟩
abbrev S1024x128 : Shape := ⟨2, ![1024, 128]⟩
abbrev S256x1024 : Shape := ⟨2, ![256, 1024]⟩
abbrev S1x1x768 : Shape := ⟨3, ![1, 1, 768]⟩
abbrev S1x768 : Shape := ⟨2, ![1, 768]⟩
abbrev S1x1280x128 : Shape := ⟨3, ![1, 1280, 128]⟩
abbrev S1280x128 : Shape := ⟨2, ![1280, 128]⟩
abbrev S256x1280 : Shape := ⟨2, ![256, 1280]⟩
abbrev S1x1x1024 : Shape := ⟨3, ![1, 1, 1024]⟩
abbrev S1x1024 : Shape := ⟨2, ![1, 1024]⟩
abbrev S1x1536x128 : Shape := ⟨3, ![1, 1536, 128]⟩
abbrev S1536x128 : Shape := ⟨2, ![1536, 128]⟩
abbrev S256x1536 : Shape := ⟨2, ![256, 1536]⟩
abbrev S1x1x1280 : Shape := ⟨3, ![1, 1, 1280]⟩
abbrev S1x1280 : Shape := ⟨2, ![1, 1280]⟩
abbrev S1x1792x128 : Shape := ⟨3, ![1, 1792, 128]⟩
abbrev S1792x128 : Shape := ⟨2, ![1792, 128]⟩
abbrev S256x1792 : Shape := ⟨2, ![256, 1792]⟩
abbrev S1x1x1536 : Shape := ⟨3, ![1, 1, 1536]⟩
abbrev S1x1536 : Shape := ⟨2, ![1, 1536]⟩
abbrev S1x1x1792 : Shape := ⟨3, ![1, 1, 1792]⟩
abbrev S1x1792 : Shape := ⟨2, ![1, 1792]⟩

abbrev nBuf : Space → Nat
  | .hbm => 4
  | .vmem => 12
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x128, .f32⟩
  | .hbm, ⟨2, _⟩ => ⟨S4x8x2048, .f32⟩
  | .hbm, ⟨3, _⟩ => ⟨S4x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x8x2048, .f32⟩
  | .local _ .vmem, ⟨9, _⟩ => ⟨S1x8x2048, .f32⟩
  | .local _ .vmem, ⟨10, _⟩ => ⟨S1x2048x128, .bf16⟩
  | .local _ .vmem, ⟨11, _⟩ => ⟨S1x2048x128, .bf16⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0_21 : Index := 0#32
  let arg1 : BitVec 32 := BitVec.ofNat 32 (i 1).val
  let v28 : Index := Scalar.indexCast arg1
  let c0_22 : Index := 0#32
  ![0, v28.toNat, 0]
def k0_off2 (i : grid0.Coords) : Fin 3 → Nat :=
  let c0_49 : Index := 0#32
  let arg1 : BitVec 32 := BitVec.ofNat 32 (i 1).val
  let v73 : Index := Scalar.indexCast arg1
  let c256_50 : Index := 256#32
  ![0, v73.toNat, 256]
def k0_off3 (i : grid0.Coords) : Fin 3 → Nat :=
  let c0_86 : Index := 0#32
  let arg1 : BitVec 32 := BitVec.ofNat 32 (i 1).val
  let v141 : Index := Scalar.indexCast arg1
  let c512_87 : Index := 512#32
  ![0, v141.toNat, 512]
def k0_off4 (i : grid0.Coords) : Fin 3 → Nat :=
  let c0_91 : Index := 0#32
  let arg1 : BitVec 32 := BitVec.ofNat 32 (i 1).val
  let v155 : Index := Scalar.indexCast arg1
  let c0_92 : Index := 0#32
  ![0, v155.toNat, 0]
def k0_off5 (i : grid0.Coords) : Fin 3 → Nat :=
  let c0_123 : Index := 0#32
  let arg1 : BitVec 32 := BitVec.ofNat 32 (i 1).val
  let v209 : Index := Scalar.indexCast arg1
  let c768_124 : Index := 768#32
  ![0, v209.toNat, 768]
def k0_off6 (i : grid0.Coords) : Fin 3 → Nat :=
  let c0_128 : Index := 0#32
  let arg1 : BitVec 32 := BitVec.ofNat 32 (i 1).val
  let v223 : Index := Scalar.indexCast arg1
  let c0_129 : Index := 0#32
  ![0, v223.toNat, 0]
def k0_off7 (i : grid0.Coords) : Fin 3 → Nat :=
  let c0_160 : Index := 0#32
  let arg1 : BitVec 32 := BitVec.ofNat 32 (i 1).val
  let v277 : Index := Scalar.indexCast arg1
  let c1024_161 : Index := 1024#32
  ![0, v277.toNat, 1024]
def k0_off8 (i : grid0.Coords) : Fin 3 → Nat :=
  let c0_165 : Index := 0#32
  let arg1 : BitVec 32 := BitVec.ofNat 32 (i 1).val
  let v291 : Index := Scalar.indexCast arg1
  let c0_166 : Index := 0#32
  ![0, v291.toNat, 0]
def k0_off9 (i : grid0.Coords) : Fin 3 → Nat :=
  let c0_197 : Index := 0#32
  let arg1 : BitVec 32 := BitVec.ofNat 32 (i 1).val
  let v345 : Index := Scalar.indexCast arg1
  let c1280_198 : Index := 1280#32
  ![0, v345.toNat, 1280]
def k0_off10 (i : grid0.Coords) : Fin 3 → Nat :=
  let c0_202 : Index := 0#32
  let arg1 : BitVec 32 := BitVec.ofNat 32 (i 1).val
  let v359 : Index := Scalar.indexCast arg1
  let c0_203 : Index := 0#32
  ![0, v359.toNat, 0]
def k0_off11 (i : grid0.Coords) : Fin 3 → Nat :=
  let c0_234 : Index := 0#32
  let arg1 : BitVec 32 := BitVec.ofNat 32 (i 1).val
  let v413 : Index := Scalar.indexCast arg1
  let c1536_235 : Index := 1536#32
  ![0, v413.toNat, 1536]
def k0_off12 (i : grid0.Coords) : Fin 3 → Nat :=
  let c0_239 : Index := 0#32
  let arg1 : BitVec 32 := BitVec.ofNat 32 (i 1).val
  let v427 : Index := Scalar.indexCast arg1
  let c0_240 : Index := 0#32
  ![0, v427.toNat, 0]
def k0_off13 (i : grid0.Coords) : Fin 3 → Nat :=
  let c0_261 : Index := 0#32
  let arg1 : BitVec 32 := BitVec.ofNat 32 (i 1).val
  let v473 : Index := Scalar.indexCast arg1
  let c1792_262 : Index := 1792#32
  ![0, v473.toNat, 1792]
def k0_off14 (i : grid0.Coords) : Fin 3 → Nat :=
  let c0_266 : Index := 0#32
  let arg1 : BitVec 32 := BitVec.ofNat 32 (i 1).val
  let v487 : Index := Scalar.indexCast arg1
  let c0_267 : Index := 0#32
  ![0, v487.toNat, 0]
def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S4x2048x6144 : Shape := ⟨3, ![4, 2048, 6144]⟩
abbrev S4x2048x128 : Shape := ⟨3, ![4, 2048, 128]⟩
abbrev S4x8x2048 : Shape := ⟨3, ![4, 8, 2048]⟩
abbrev S4x2048x1024 : Shape := ⟨3, ![4, 2048, 1024]⟩
abbrev S4x2048x8x128 : Shape := ⟨4, ![4, 2048, 8, 128]⟩
abbrev S4x2048x8 : Shape := ⟨3, ![4, 2048, 8]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x128x2048 : Shape := ⟨4, ![4, 8, 128, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x128, .f32⟩
  | .hbm, ⟨2, _⟩ => ⟨S4x8x2048, .f32⟩
  | .hbm, ⟨3, _⟩ => ⟨S4x2048x6144, .f32⟩
  | .hbm, ⟨4, _⟩ => ⟨S4x2048x1024, .f32⟩
  | .hbm, ⟨5, _⟩ => ⟨S4x2048x8x128, .f32⟩
  | .hbm, ⟨6, _⟩ => ⟨S4x2048x1024, .f32⟩
  | .hbm, ⟨7, _⟩ => ⟨S4x2048x8x128, .f32⟩
  | .hbm, ⟨8, _⟩ => ⟨S4x2048x1024, .f32⟩
  | .hbm, ⟨9, _⟩ => ⟨S4x2048x8x128, .f32⟩
  | .hbm, ⟨10, _⟩ => ⟨S4x2048x8, .f32⟩
  | .hbm, ⟨11, _⟩ => ⟨S4x8x2048, .f32⟩
  | .hbm, ⟨12, _⟩ => ⟨S4x8x2048x2048, .f32⟩
  | .hbm, ⟨13, _⟩ => ⟨S_, .f32⟩
  | .hbm, ⟨14, _⟩ => ⟨S4x8x2048x2048, .f32⟩
  | .hbm, ⟨15, _⟩ => ⟨S4x8x2048x2048, .f32⟩
  | .hbm, ⟨16, _⟩ => ⟨S4x8x2048x1, .f32⟩
  | .hbm, ⟨17, _⟩ => ⟨S4x8x2048x2048, .f32⟩
  | .hbm, ⟨18, _⟩ => ⟨S4x8x2048x2048, .f32⟩
  | .hbm, ⟨19, _⟩ => ⟨S4x8x1x2048, .f32⟩
  | .hbm, ⟨20, _⟩ => ⟨S4x8x2048x2048, .f32⟩
  | .hbm, ⟨21, _⟩ => ⟨S4x8x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x1x2048x2048, .i1⟩
  | .hbm, ⟨30, _⟩ => ⟨S_, .f32⟩
  | .hbm, ⟨31, _⟩ => ⟨S_, .f32⟩
  | .hbm, ⟨32, _⟩ => ⟨S4x8x2048x2048, .i1⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S_, .f32⟩
  | .hbm, ⟨38, _⟩ => ⟨S4x8x2048, .f32⟩
  | .hbm, ⟨39, _⟩ => ⟨S4x8x2048, .f32⟩
  | .hbm, ⟨40, _⟩ => ⟨S4x8x2048x1, .f32⟩
  | .hbm, ⟨41, _⟩ => ⟨S4x8x2048x2048, .f32⟩
  | .hbm, ⟨42, _⟩ => ⟨S4x8x2048x2048, .f32⟩
  | .hbm, ⟨43, _⟩ => ⟨S4x8x2048x2048, .f32⟩
  | .hbm, ⟨44, _⟩ => ⟨S_, .f32⟩
  | .hbm, ⟨45, _⟩ => ⟨S4x8x2048, .f32⟩
  | .hbm, ⟨46, _⟩ => ⟨S4x8x2048x1, .f32⟩
  | .hbm, ⟨47, _⟩ => ⟨S4x8x2048x2048, .f32⟩
  | .hbm, ⟨48, _⟩ => ⟨S4x8x2048x2048, .f32⟩
  | .hbm, ⟨49, _⟩ => ⟨S4x8x128x2048, .f32⟩
  | .hbm, ⟨50, _⟩ => ⟨S4x2048x8x128, .f32⟩
  | .hbm, ⟨51, _⟩ => ⟨S4x2048x1024, .f32⟩
  | .hbm, ⟨52, _⟩ => ⟨S4x2048x1024, .bf16⟩
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Band.lean ====
abbrev S4x2048x6144 : Shape := ⟨3, ![4, 2048, 6144]⟩
abbrev S8x513 : Shape := ⟨2, ![8, 513]⟩
abbrev S8x1 : Shape := ⟨2, ![8, 1]⟩
abbrev S1x8x1x1 : Shape := ⟨4, ![1, 8, 1, 1]⟩
abbrev S1x8x256x1 : Shape := ⟨4, ![1, 8, 256, 1]⟩
abbrev S8x256 : Shape := ⟨2, ![8, 256]⟩
abbrev S1x8x255x1 : Shape := ⟨4, ![1, 8, 255, 1]⟩
abbrev S8x255 : Shape := ⟨2, ![8, 255]⟩
abbrev S8x1024 : Shape := ⟨2, ![8, 1024]⟩
abbrev S8x1x1024 : Shape := ⟨3, ![8, 1, 1024]⟩
abbrev S4x2048x1024 : Shape := ⟨3, ![4, 2048, 1024]⟩
abbrev S1x1x1024 : Shape := ⟨3, ![1, 1, 1024]⟩
abbrev S1x2048x128 : Shape := ⟨3, ![1, 2048, 128]⟩
abbrev S128x640 : Shape := ⟨2, ![128, 640]⟩
abbrev S1x1024 : Shape := ⟨2, ![1, 1024]⟩
abbrev S128x1024 : Shape := ⟨2, ![128, 1024]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S1x384x128 : Shape := ⟨3, ![1, 384, 128]⟩
abbrev S384x128 : Shape := ⟨2, ![384, 128]⟩
abbrev S128x384 : Shape := ⟨2, ![128, 384]⟩
abbrev S1x512x128 : Shape := ⟨3, ![1, 512, 128]⟩
abbrev S512x128 : Shape := ⟨2, ![512, 128]⟩
abbrev S128x512 : Shape := ⟨2, ![128, 512]⟩
abbrev S1x640x128 : Shape := ⟨3, ![1, 640, 128]⟩
abbrev S640x128 : Shape := ⟨2, ![640, 128]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x6144, .bf16⟩
  | .hbm, ⟨1, _⟩ => ⟨S8x513, .f32⟩
  | .hbm, ⟨2, _⟩ => ⟨S8x1, .f32⟩
  | .hbm, ⟨3, _⟩ => ⟨S1x8x1x1, .f32⟩
  | .hbm, ⟨4, _⟩ => ⟨S1x8x256x1, .f32⟩
  | .hbm, ⟨5, _⟩ => ⟨S8x256, .f32⟩
  | .hbm, ⟨6, _⟩ => ⟨S8x513, .f32⟩
  | .hbm, ⟨7, _⟩ => ⟨S1x8x1x1, .f32⟩
  | .hbm, ⟨8, _⟩ => ⟨S1x8x255x1, .f32⟩
  | .hbm, ⟨9, _⟩ => ⟨S8x255, .f32⟩
  | .hbm, ⟨10, _⟩ => ⟨S8x1024, .f32⟩
  | .hbm, ⟨11, _⟩ => ⟨S8x1x1024, .f32⟩
  | .hbm, ⟨12, _⟩ => ⟨S4x2048x1024, .bf16⟩
  | .local _ .vmem, ⟨0, _⟩ => ⟨S1x1x1024, .f32⟩
  | .local _ .vmem, ⟨1, _⟩ => ⟨S1x1x1024, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S128x640, .f32⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BandIdeal.lean ====
variable {F : FTy → Type} [FloatOps F] [Named F]
def κ : String → Option EReal := fun
  | "mask" => some ⊥
  | _ => none
-- ==== BandRefIdeal.lean ====
abbrev S4x2048x6144 : Shape := ⟨3, ![4, 2048, 6144]⟩
abbrev S8x513 : Shape := ⟨2, ![8, 513]⟩
abbrev S4x2048x1024 : Shape := ⟨3, ![4, 2048, 1024]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S8x2048x2048 : Shape := ⟨3, ![8, 2048, 2048]⟩
abbrev S1x8x2048x2048 : Shape := ⟨4, ![1, 8, 2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩

abbrev nBuf : Space → Nat
  | .hbm => 114
  | .vmem => 0
  | .smem => 0
  | _ => 0

abbrev bufTy : (tb : Table) → Fin (tcTables nBuf tb) → BufTy
  | .hbm, ⟨0, _⟩ => ⟨S4x2048x6144, .bf16⟩
  | .hbm, ⟨1, _⟩ => ⟨S8x513, .f32⟩
  | .hbm, ⟨2, _⟩ => ⟨S4x2048x6144, .f32⟩
  | .hbm, ⟨3, _⟩ => ⟨S4x2048x1024, .f32⟩
  | .hbm, ⟨4, _⟩ => ⟨S4x2048x8x128, .f32⟩
  | .hbm, ⟨5, _⟩ => ⟨S4x2048x1024, .f32⟩
  | .hbm, ⟨6, _⟩ => ⟨S4x2048x8x128, .f32⟩
  | .hbm, ⟨7, _⟩ => ⟨S4x2048x1024, .f32⟩
  | .hbm, ⟨8, _⟩ => ⟨S4x2048x8x128, .f32⟩
  | .hbm, ⟨9, _⟩ => ⟨S4x8x2048x2048, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S2048, .i32⟩
  | .hbm, ⟨14, _⟩ => ⟨S2048x1, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S_, .i32⟩
  | .hbm, ⟨31, _⟩ => ⟨S2048x2048, .i32⟩
  | .hbm, ⟨32, _⟩ => ⟨S2048x2048, .i1⟩
  | .hbm, ⟨33, _⟩ => ⟨S_, .i32⟩
  | .hbm, ⟨34, _⟩ => ⟨S2048x2048, .i32⟩
  | .hbm, ⟨35, _⟩ => ⟨S2048x2048, .i32⟩
  | .hbm, ⟨36, _⟩ => ⟨S2048x2048, .i32⟩
  | .hbm, ⟨37, _⟩ => ⟨S2048x2048x1, .i32⟩
  | .hbm, ⟨38, _⟩ => ⟨S8x2048x2048, .f32⟩
  | .hbm, ⟨39, _⟩ => ⟨S1x8x2048x2048, .f32⟩
  | .hbm, ⟨40, _⟩ => ⟨S4x8x2048x2048, .f32⟩
  | .hbm, ⟨41, _⟩ => ⟨S4x8x2048x2048, .f32⟩
  | .hbm, ⟨42, _⟩ => ⟨S_, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S2048, .i1⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .i32⟩
  | .hbm, ⟨60, _⟩ => ⟨S2048x1, .i32⟩
  | .hbm, ⟨61, _⟩ => ⟨S_, .i32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .i32⟩
  | .hbm, ⟨66, _⟩ => ⟨S_, .i32⟩
  | .hbm, ⟨67, _⟩ => ⟨S2048, .i32⟩
  | .hbm, ⟨68, _⟩ => ⟨S2048, .i1⟩
  | .hbm, ⟨69, _⟩ => ⟨S2048, .i32⟩
  | .hbm, ⟨70, _⟩ => ⟨S2048, .i32⟩
  | .hbm, ⟨71, _⟩ => ⟨S_, .i32⟩
  | .hbm, ⟨72, _⟩ => ⟨S2048, .i32⟩
  | .hbm, ⟨73, _⟩ => ⟨S2048, .i1⟩
  | .hbm, ⟨74, _⟩ => ⟨S2048, .i1⟩
  | .hbm, ⟨75, _⟩ => ⟨S_, .i32⟩
  | .hbm, ⟨76, _⟩ => ⟨S2048, .i32⟩
  | .hbm, ⟨77, _⟩ => ⟨S2048, .i32⟩
  | .hbm, ⟨78, _⟩ => ⟨S2048, .i32⟩
  | .hbm, ⟨79, _⟩ => ⟨S1x2048, .i32⟩
  | .hbm, ⟨80, _⟩ => ⟨S2048x2048, .i32⟩
  | .hbm, ⟨81, _⟩ => ⟨S2048x2048, .i32⟩
  | .hbm, ⟨82, _⟩ => ⟨S2048x2048, .i1⟩
  | .hbm, ⟨83, _⟩ => ⟨S_, .i32⟩
  | .hbm, ⟨84, _⟩ => ⟨S2048x1, .i32⟩
  | .hbm, ⟨85, _⟩ => ⟨S2048x1, .i32⟩
  | .hbm, ⟨86, _⟩ => ⟨S2048x2048, .i32⟩
  | .hbm, ⟨87, _⟩ => ⟨S2048x2048, .i32⟩
  | .hbm, ⟨88, _⟩ => ⟨S2048x2048, .i1⟩
  | .hbm, ⟨89, _⟩ => ⟨S2048x2048, .i1⟩
  | .hbm, ⟨90, _⟩ => ⟨S1x1x2048x2048, .i1⟩
  | .hbm, ⟨91, _⟩ => ⟨S_, .f32⟩
  | .hbm, ⟨92, _⟩ => ⟨S_, .f32⟩
  | .hbm, ⟨93, _⟩ => ⟨S4x8x2048x2048, .i1⟩
  | .hbm, ⟨94, _⟩ => ⟨S4x8x2048x2048, .f32⟩
  | .hbm, ⟨95, _⟩ => ⟨S4x8x2048x2048, .f32⟩
  | .hbm, ⟨96, _⟩ => ⟨S_, .f32⟩
  | .hbm, ⟨97, _⟩ => ⟨S4x8x2048, .f32⟩
  | .hbm, ⟨98, _⟩ => ⟨S_, .f32⟩
  | .hbm, ⟨99, _⟩ => ⟨S4x8x2048, .f32⟩
  | .hbm, ⟨100, _⟩ => ⟨S4x8x2048, .f32⟩
  | .hbm, ⟨101, _⟩ => ⟨S4x8x2048x1, .f32⟩
  | .hbm, ⟨102, _⟩ => ⟨S4x8x2048x2048, .f32⟩
  | .hbm, ⟨103, _⟩ => ⟨S4x8x2048x2048, .f32⟩
  | .hbm, ⟨104, _⟩ => ⟨S4x8x2048x2048, .f32⟩
  | .hbm, ⟨105, _⟩ => ⟨S_, .f32⟩
  | .hbm, ⟨106, _⟩ => ⟨S4x8x2048, .f32⟩
  | .hbm, ⟨107, _⟩ => ⟨S4x8x2048x1, .f32⟩
  | .hbm, ⟨108, _⟩ => ⟨S4x8x2048x2048, .f32⟩
  | .hbm, ⟨109, _⟩ => ⟨S4x8x2048x2048, .f32⟩
  | .hbm, ⟨110, _⟩ => ⟨S4x8x128x2048, .f32⟩
  | .hbm, ⟨111, _⟩ => ⟨S4x2048x8x128, .f32⟩
  | .hbm, ⟨112, _⟩ => ⟨S4x2048x1024, .f32⟩
  | .hbm, ⟨113, _⟩ => ⟨S4x2048x1024, .bf16⟩
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v29 : Ref sig .tc := ⟨.hbm, 59, rfl⟩
abbrev main_v30 : Ref sig .tc := ⟨.hbm, 60, rfl⟩
abbrev main_c_5 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_c_6 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_7 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v43 : Ref sig .tc := ⟨.hbm, 95, rfl⟩
abbrev main_cst_8 : Ref sig .tc := ⟨.hbm, 96, rfl⟩
abbrev main_v44 : Ref sig .tc := ⟨.hbm, 97, rfl⟩
abbrev main_cst_9 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_10 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩

abbrev nD : Nat := 1
abbrev τ : Topo := Topo.v7x

variable {F : FTy → Type} [FloatOps F]
-- ==== GateUp.lean ====
abbrev S8192x2048 : Shape := ⟨2, ![8192, 2048]⟩
abbrev S2048x11264 : Shape := ⟨2, ![2048, 11264]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x2048, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .f32⟩
  | .local _ .vmem, ⟨3, _⟩ => ⟨S5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InProj.lean ====
abbrev S8192x2048 : Shape := ⟨2, ![8192, 2048]⟩
abbrev S2048x6152 : Shape := ⟨2, ![2048, 6152]⟩
abbrev S6152x2048 : Shape := ⟨2, ![6152, 2048]⟩
abbrev S8192x6144 : Shape := ⟨2, ![8192, 6144]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6152, .f32⟩
  | .hbm, ⟨2, _⟩ => ⟨S6152x2048, .f32⟩
  | .hbm, ⟨3, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x2048 : Shape := ⟨2, ![8192, 2048]⟩
abbrev S2048x6152 : Shape := ⟨2, ![2048, 6152]⟩
abbrev S8192x6152 : Shape := ⟨2, ![8192, 6152]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6152, .f32⟩
  | .hbm, ⟨2, _⟩ => ⟨S8192x2048, .f32⟩
  | .hbm, ⟨3, _⟩ => ⟨S8192x6152, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S8192x1024 : Shape := ⟨2, ![8192, 1024]⟩
abbrev S2048x2048 : Shape := ⟨2, ![2048, 2048]⟩
abbrev S8192x2048 : Shape := ⟨2, ![8192, 2048]⟩
abbrev S1024x1024 : Shape := ⟨2, ![1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ple.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S1024x2048 : Shape := ⟨2, ![1024, 2048]⟩
abbrev S1024x256 : Shape := ⟨2, ![1024, 256]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x256, .f32⟩
  | .hbm, ⟨2, _⟩ => ⟨S2048x2048, .f32⟩
  | .hbm, ⟨3, _⟩ => ⟨S256x2048, .f32⟩
  | .hbm, ⟨4, _⟩ => ⟨S8192x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x256, .f32⟩
  | .local _ .vmem, ⟨3, _⟩ => ⟨S1024x256, .f32⟩
  | .local _ .vmem, ⟨4, _⟩ => ⟨S2048x1024, .f32⟩
  | .local _ .vmem, ⟨5, _⟩ => ⟨S2048x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | .local _ .vmem, ⟨13, _⟩ => ⟨S256x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x256, .f32⟩
  | .hbm, ⟨2, _⟩ => ⟨S2048x2048, .f32⟩
  | .hbm, ⟨3, _⟩ => ⟨S256x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Gates.lean ====
abbrev S4x2048x2048 : Shape := ⟨3, ![4, 2048, 2048]⟩
abbrev S2048x6152 : Shape := ⟨2, ![2048, 6152]⟩
abbrev S8 : Shape := ⟨1, ![8]⟩
abbrev S6152x2048 : Shape := ⟨2, ![6152, 2048]⟩
abbrev S_ : Shape := ⟨0, ![]⟩
abbrev S128 : Shape := ⟨1, ![128]⟩
abbrev S1x128 : Shape := ⟨2, ![1, 128]⟩
abbrev S4x2048x128 : Shape := ⟨3, ![4, 2048, 128]⟩
abbrev S4x8x2048 : Shape := ⟨3, ![4, 8, 2048]⟩
abbrev S1x2048x2048 : Shape := ⟨3, ![1, 2048, 2048]⟩
abbrev S8x2048 : Shape := ⟨2, ![8, 2048]⟩
abbrev S1x2048x128 : Shape := ⟨3, ![1, 2048, 128]⟩
abbrev S1x8x2048 : Shape := ⟨3, ![1, 8, 2048]⟩
abbrev S120x2048 : Shape := ⟨2, ![120, 2048]⟩
abbrev S128x2048 : Shape := ⟨2, ![128, 2048]⟩
abbrev S2048x2048 : Shape := ⟨2, ![2048, 2048]⟩
abbrev S2048x128 : Shape := ⟨2, ![2048, 128]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x2048, .bf16⟩
  | .hbm, ⟨1, _⟩ => ⟨S2048x6152, .f32⟩
  | .hbm, ⟨2, _⟩ => ⟨S8, .f32⟩
  | .hbm, ⟨3, _⟩ => ⟨S6152x2048, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S4x2048x128, .f32⟩
  | .hbm, ⟨9, _⟩ => ⟨S4x8x2048, .f32⟩
  | .local _ .vmem, ⟨0, _⟩ => ⟨S1x2048x2048, .bf16⟩
  | .local _ .vmem, ⟨1, _⟩ => ⟨S1x2048x2048, .bf16⟩
  | .local _ .vmem, ⟨2, _⟩ => ⟨S8x2048, .f32⟩
  | .local _ .vmem, ⟨3, _⟩ => ⟨S1x128, .f32⟩
  | .local _ .vmem, ⟨4, _⟩ => ⟨S1x2048x128, .f32⟩
  | .local _ .vmem, ⟨5, _⟩ => ⟨S1x2048x128, .f32⟩
  | .local _ .vmem, ⟨6, _⟩ => ⟨S1x8x2048, .f32⟩
  | .local _ .vmem, ⟨7, _⟩ => ⟨S1x8x2048, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c768_i32 : BitVec 32 := 768#32
  let c0_i32 : BitVec 32 := 0#32
  let c0_i32_0 : BitVec 32 := 0#32
  ![c768_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesRefIdeal.lean ====
abbrev S4x2048x2048 : Shape := ⟨3, ![4, 2048, 2048]⟩
abbrev S2048x6152 : Shape := ⟨2, ![2048, 6152]⟩
abbrev S8 : Shape := ⟨1, ![8]⟩
abbrev S2048x8 : Shape := ⟨2, ![2048, 8]⟩
abbrev S4x2048x8 : Shape := ⟨3, ![4, 2048, 8]⟩
abbrev S1x1x8 : Shape := ⟨3, ![1, 1, 8]⟩
abbrev S_ : Shape := ⟨0, ![]⟩
abbrev S4x2048x120 : Shape := ⟨3, ![4, 2048, 120]⟩
abbrev S4x2048x128 : Shape := ⟨3, ![4, 2048, 128]⟩
abbrev S4x8x2048 : Shape := ⟨3, ![4, 8, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x6152, .f32⟩
  | .hbm, ⟨2, _⟩ => ⟨S8, .f32⟩
  | .hbm, ⟨3, _⟩ => ⟨S4x2048x2048, .f32⟩
  | .hbm, ⟨4, _⟩ => ⟨S2048x8, .f32⟩
  | .hbm, ⟨5, _⟩ => ⟨S4x2048x8, .f32⟩
  | .hbm, ⟨6, _⟩ => ⟨S1x1x8, .f32⟩
  | .hbm, ⟨7, _⟩ => ⟨S4x2048x8, .f32⟩
  | .hbm, ⟨8, _⟩ => ⟨S4x2048x8, .f32⟩
  | .hbm, ⟨9, _⟩ => ⟨S4x2048x8, .f32⟩
  | .hbm, ⟨10, _⟩ => ⟨S_, .f32⟩
  | .hbm, ⟨11, _⟩ => ⟨S4x2048x8, .f32⟩
  | .hbm, ⟨12, _⟩ => ⟨S4x2048x8, .f32⟩
  | .hbm, ⟨13, _⟩ => ⟨S4x2048x8, .f32⟩
  | .hbm, ⟨14, _⟩ => ⟨S4x2048x8, .f32⟩
  | .hbm, ⟨15, _⟩ => ⟨S4x2048x8, .i1⟩
  | .hbm, ⟨16, _⟩ => ⟨S4x2048x8, .f32⟩
  | .hbm, ⟨17, _⟩ => ⟨S4x2048x8, .f32⟩
  | .hbm, ⟨18, _⟩ => ⟨S4x2048x8, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S4x2048x8, .f32⟩
  | .hbm, ⟨23, _⟩ => ⟨S4x2048x8, .f32⟩
  | .hbm, ⟨24, _⟩ => ⟨S4x2048x8, .f32⟩
  | .hbm, ⟨25, _⟩ => ⟨S_, .f32⟩
  | .hbm, ⟨26, _⟩ => ⟨S_, .f32⟩
  | .hbm, ⟨27, _⟩ => ⟨S4x2048x8, .f32⟩
  | .hbm, ⟨28, _⟩ => ⟨S_, .f32⟩
  | .hbm, ⟨29, _⟩ => ⟨S4x2048x120, .f32⟩
  | .hbm, ⟨30, _⟩ => ⟨S4x2048x128, .f32⟩
  | .hbm, ⟨31, _⟩ => ⟨S4x8x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v6 : Ref sig .tc := ⟨.hbm, 24, rfl⟩
abbrev main_call1_call0_cst : Ref sig .tc := ⟨.hbm, 25, rfl⟩
abbrev main_call1_call0_v0 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LastNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LastNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Forget.lean ====
abbrev S4x2048x6144 : Shape := ⟨3, ![4, 2048, 6144]⟩
abbrev S4x2048x2048 : Shape := ⟨3, ![4, 2048, 2048]⟩
abbrev S2048x6152 : Shape := ⟨2, ![2048, 6152]⟩
abbrev S8 : Shape := ⟨1, ![8]⟩
abbrev S6152x2048 : Shape := ⟨2, ![6152, 2048]⟩
abbrev S_ : Shape := ⟨0, ![]⟩
abbrev S128 : Shape := ⟨1, ![128]⟩
abbrev S1x128 : Shape := ⟨2, ![1, 128]⟩
abbrev S4x2048x128 : Shape := ⟨3, ![4, 2048, 128]⟩
abbrev S4x8x2048 : Shape := ⟨3, ![4, 8, 2048]⟩
abbrev S1x2048x2048 : Shape := ⟨3, ![1, 2048, 2048]⟩
abbrev S8x2048 : Shape := ⟨2, ![8, 2048]⟩
abbrev S1x2048x128 : Shape := ⟨3, ![1, 2048, 128]⟩
abbrev S1x8x2048 : Shape := ⟨3, ![1, 8, 2048]⟩
abbrev S120x2048 : Shape := ⟨2, ![120, 2048]⟩
abbrev S128x2048 : Shape := ⟨2, ![128, 2048]⟩
abbrev S2048x2048 : Shape := ⟨2, ![2048, 2048]⟩
abbrev S2048x128 : Shape := ⟨2, ![2048, 128]⟩
abbrev S4x2048x1024 : Shape := ⟨3, ![4, 2048, 1024]⟩
abbrev S256x128 : Shape := ⟨2, ![256, 128]⟩
abbrev S256x256 : Shape := ⟨2, ![256, 256]⟩
abbrev S1x256x128 : Shape := ⟨3, ![1, 256, 128]⟩
abbrev S256 : Shape := ⟨1, ![256]⟩
abbrev S256x1 : Shape := ⟨2, ![256, 1]⟩
abbrev S1x1x256 : Shape := ⟨3, ![1, 1, 256]⟩
abbrev S1x256 : Shape := ⟨2, ![1, 256]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1x512 : Shape := ⟨3, ![1, 1, 512]⟩
abbrev S1x512 : Shape := ⟨2, ![1, 512]⟩
abbrev S1x1024x128 : Shape := ⟨3, ![1, 1024, 128]⟩
abbrev S1024x128 : Shape := ⟨2, ![1024, 128]⟩
abbrev S256x1024 : Shape := ⟨2, ![256, 1024]⟩
abbrev S1x1x768 : Shape := ⟨3, ![1, 1, 768]⟩
abbrev S1x768 : Shape := ⟨2, ![1, 768]⟩
abbrev S1x1280x128 : Shape := ⟨3, ![1, 1280, 128]⟩
abbrev S1280x128 : Shape := ⟨2, ![1280, 128]⟩
abbrev S256x1280 : Shape := ⟨2, ![256, 1280]⟩
abbrev S1x1x1024 : Shape := ⟨3, ![1, 1, 1024]⟩
abbrev S1x1024 : Shape := ⟨2, ![1, 1024]⟩
abbrev S1x1536x128 : Shape := ⟨3, ![1, 1536, 128]⟩
abbrev S1536x128 : Shape := ⟨2, ![1536, 128]⟩
abbrev S256x1536 : Shape := ⟨2, ![256, 1536]⟩
abbrev S1x1x1280 : Shape := ⟨3, ![1, 1, 1280]⟩
abbrev S1x1280 : Shape := ⟨2, ![1, 1280]⟩
abbrev S1x1792x128 : Shape := ⟨3, ![1, 1792, 128]⟩
abbrev S1792x128 : Shape := ⟨2, ![1792, 128]⟩
abbrev S256x1792 : Shape := ⟨2, ![256, 1792]⟩
abbrev S1x1x1536 : Shape := ⟨3, ![1, 1, 1536]⟩
abbrev S1x1536 : Shape := ⟨2, ![1, 1536]⟩
abbrev S1x1x1792 : Shape := ⟨3, ![1, 1, 1792]⟩
abbrev S1x1792 : Shape := ⟨2, ![1, 1792]⟩

abbrev nBuf : Space → Nat
  | .hbm => 12
  | .vmem => 20
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x2048, .bf16⟩
  | .hbm, ⟨2, _⟩ => ⟨S2048x6152, .f32⟩
  | .hbm, ⟨3, _⟩ => ⟨S8, .f32⟩
  | .hbm, ⟨4, _⟩ => ⟨S6152x2048, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S4x2048x128, .f32⟩
  | .hbm, ⟨10, _⟩ => ⟨S4x8x2048, .f32⟩
  | .hbm, ⟨11, _⟩ => ⟨S4x2048x1024, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S8x2048, .f32⟩
  | .local _ .vmem, ⟨3, _⟩ => ⟨S1x128, .f32⟩
  | .local _ .vmem, ⟨4, _⟩ => ⟨S1x2048x128, .f32⟩
  | .local _ .vmem, ⟨5, _⟩ => ⟨S1x2048x128, .f32⟩
  | .local _ .vmem, ⟨6, _⟩ => ⟨S1x8x2048, .f32⟩
  | .local _ .vmem, ⟨7, _⟩ => ⟨S1x8x2048, .f32⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .f32⟩
  | .local _ .vmem, ⟨15, _⟩ => ⟨S1x2048x128, .f32⟩
  | .local _ .vmem, ⟨16, _⟩ => ⟨S1x8x2048, .f32⟩
  | .local _ .vmem, ⟨17, _⟩ => ⟨S1x8x2048, .f32⟩
  | .local _ .vmem, ⟨18, _⟩ => ⟨S1x2048x128, .bf16⟩
  | .local _ .vmem, ⟨19, _⟩ => ⟨S1x2048x128, .bf16⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c768_i32 : BitVec 32 := 768#32
  let c0_i32 : BitVec 32 := 0#32
  let c0_i32_0 : BitVec 32 := 0#32
  ![c768_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def k1_off1 (i : grid1.Coords) : Fin 3 → Nat :=
  let c0_21 : Index := 0#32
  let arg1 : BitVec 32 := BitVec.ofNat 32 (i 1).val
  let v28 : Index := Scalar.indexCast arg1
  let c0_22 : Index := 0#32
  ![0, v28.toNat, 0]
def k1_off2 (i : grid1.Coords) : Fin 3 → Nat :=
  let c0_49 : Index := 0#32
  let arg1 : BitVec 32 := BitVec.ofNat 32 (i 1).val
  let v73 : Index := Scalar.indexCast arg1
  let c256_50 : Index := 256#32
  ![0, v73.toNat, 256]
def k1_off3 (i : grid1.Coords) : Fin 3 → Nat :=
  let c0_86 : Index := 0#32
  let arg1 : BitVec 32 := BitVec.ofNat 32 (i 1).val
  let v141 : Index := Scalar.indexCast arg1
  let c512_87 : Index := 512#32
  ![0, v141.toNat, 512]
def k1_off4 (i : grid1.Coords) : Fin 3 → Nat :=
  let c0_91 : Index := 0#32
  let arg1 : BitVec 32 := BitVec.ofNat 32 (i 1).val
  let v155 : Index := Scalar.indexCast arg1
  let c0_92 : Index := 0#32
  ![0, v155.toNat, 0]
def k1_off5 (i : grid1.Coords) : Fin 3 → Nat :=
  let c0_123 : Index := 0#32
  let arg1 : BitVec 32 := BitVec.ofNat 32 (i 1).val
  let v209 : Index := Scalar.indexCast arg1
  let c768_124 : Index := 768#32
  ![0, v209.toNat, 768]
def k1_off6 (i : grid1.Coords) : Fin 3 → Nat :=
  let c0_128 : Index := 0#32
  let arg1 : BitVec 32 := BitVec.ofNat 32 (i 1).val
  let v223 : Index := Scalar.indexCast arg1
  let c0_129 : Index := 0#32
  ![0, v223.toNat, 0]
def k1_off7 (i : grid1.Coords) : Fin 3 → Nat :=
  let c0_160 : Index := 0#32
  let arg1 : BitVec 32 := BitVec.ofNat 32 (i 1).val
  let v277 : Index := Scalar.indexCast arg1
  let c1024_161 : Index := 1024#32
  ![0, v277.toNat, 1024]
def k1_off8 (i : grid1.Coords) : Fin 3 → Nat :=
  let c0_165 : Index := 0#32
  let arg1 : BitVec 32 := BitVec.ofNat 32 (i 1).val
  let v291 : Index := Scalar.indexCast arg1
  let c0_166 : Index := 0#32
  ![0, v291.toNat, 0]
def k1_off9 (i : grid1.Coords) : Fin 3 → Nat :=
  let c0_197 : Index := 0#32
  let arg1 : BitVec 32 := BitVec.ofNat 32 (i 1).val
  let v345 : Index := Scalar.indexCast arg1
  let c1280_198 : Index := 1280#32
  ![0, v345.toNat, 1280]
def k1_off10 (i : grid1.Coords) : Fin 3 → Nat :=
  let c0_202 : Index := 0#32
  let arg1 : BitVec 32 := BitVec.ofNat 32 (i 1).val
  let v359 : Index := Scalar.indexCast arg1
  let c0_203 : Index := 0#32
  ![0, v359.toNat, 0]
def k1_off11 (i : grid1.Coords) : Fin 3 → Nat :=
  let c0_234 : Index := 0#32
  let arg1 : BitVec 32 := BitVec.ofNat 32 (i 1).val
  let v413 : Index := Scalar.indexCast arg1
  let c1536_235 : Index := 1536#32
  ![0, v413.toNat, 1536]
def k1_off12 (i : grid1.Coords) : Fin 3 → Nat :=
  let c0_239 : Index := 0#32
  let arg1 : BitVec 32 := BitVec.ofNat 32 (i 1).val
  let v427 : Index := Scalar.indexCast arg1
  let c0_240 : Index := 0#32
  ![0, v427.toNat, 0]
def k1_off13 (i : grid1.Coords) : Fin 3 → Nat :=
  let c0_261 : Index := 0#32
  let arg1 : BitVec 32 := BitVec.ofNat 32 (i 1).val
  let v473 : Index := Scalar.indexCast arg1
  let c1792_262 : Index := 1792#32
  ![0, v473.toNat, 1792]
def k1_off14 (i : grid1.Coords) : Fin 3 → Nat :=
  let c0_266 : Index := 0#32
  let arg1 : BitVec 32 := BitVec.ofNat 32 (i 1).val
  let v487 : Index := Scalar.indexCast arg1
  let c0_267 : Index := 0#32
  ![0, v487.toNat, 0]
def cc1_transform_0 (i : grid1.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc1_transform_1 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x8x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ForgetIdeal.lean ====
variable {F : FTy → Type} [FloatOps F] [Named F]
def κ : String → Option EReal := fun
  | "mask" => some ⊥
  | _ => none
-- ==== ForgetRefIdeal.lean ====
abbrev S4x2048x6144 : Shape := ⟨3, ![4, 2048, 6144]⟩
abbrev S4x2048x2048 : Shape := ⟨3, ![4, 2048, 2048]⟩
abbrev S2048x6152 : Shape := ⟨2, ![2048, 6152]⟩
abbrev S8 : Shape := ⟨1, ![8]⟩
abbrev S2048x8 : Shape := ⟨2, ![2048, 8]⟩
abbrev S4x2048x8 : Shape := ⟨3, ![4, 2048, 8]⟩
abbrev S1x1x8 : Shape := ⟨3, ![1, 1, 8]⟩
abbrev S4x2048x1024 : Shape := ⟨3, ![4, 2048, 1024]⟩
abbrev S4x2048x8x128 : Shape := ⟨4, ![4, 2048, 8, 128]⟩
abbrev S_ : Shape := ⟨0, ![]⟩
abbrev S4x8x2048 : Shape := ⟨3, ![4, 8, 2048]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x128x2048 : Shape := ⟨4, ![4, 8, 128, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x2048, .bf16⟩
  | .hbm, ⟨2, _⟩ => ⟨S2048x6152, .f32⟩
  | .hbm, ⟨3, _⟩ => ⟨S8, .f32⟩
  | .hbm, ⟨4, _⟩ => ⟨S4x2048x2048, .f32⟩
  | .hbm, ⟨5, _⟩ => ⟨S2048x8, .f32⟩
  | .hbm, ⟨6, _⟩ => ⟨S4x2048x8, .f32⟩
  | .hbm, ⟨7, _⟩ => ⟨S1x1x8, .f32⟩
  | .hbm, ⟨8, _⟩ => ⟨S4x2048x8, .f32⟩
  | .hbm, ⟨9, _⟩ => ⟨S4x2048x8, .f32⟩
  | .hbm, ⟨10, _⟩ => ⟨S4x2048x6144, .f32⟩
  | .hbm, ⟨11, _⟩ => ⟨S4x2048x1024, .f32⟩
  | .hbm, ⟨12, _⟩ => ⟨S4x2048x8x128, .f32⟩
  | .hbm, ⟨13, _⟩ => ⟨S4x2048x1024, .f32⟩
  | .hbm, ⟨14, _⟩ => ⟨S4x2048x8x128, .f32⟩
  | .hbm, ⟨15, _⟩ => ⟨S4x2048x1024, .f32⟩
  | .hbm, ⟨16, _⟩ => ⟨S4x2048x8x128, .f32⟩
  | .hbm, ⟨17, _⟩ => ⟨S4x2048x8, .f32⟩
  | .hbm, ⟨18, _⟩ => ⟨S_, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S4x2048x8, .f32⟩
  | .hbm, ⟨23, _⟩ => ⟨S4x2048x8, .i1⟩
  | .hbm, ⟨24, _⟩ => ⟨S4x2048x8, .f32⟩
  | .hbm, ⟨25, _⟩ => ⟨S4x2048x8, .f32⟩
  | .hbm, ⟨26, _⟩ => ⟨S4x2048x8, .f32⟩
  | .hbm, ⟨27, _⟩ => ⟨S4x2048x8, .f32⟩
  | .hbm, ⟨28, _⟩ => ⟨S4x2048x8, .f32⟩
  | .hbm, ⟨29, _⟩ => ⟨S4x2048x8, .f32⟩
  | .hbm, ⟨30, _⟩ => ⟨S4x2048x8, .f32⟩
  | .hbm, ⟨31, _⟩ => ⟨S4x2048x8, .f32⟩
  | .hbm, ⟨32, _⟩ => ⟨S4x2048x8, .f32⟩
  | .hbm, ⟨33, _⟩ => ⟨S_, .f32⟩
  | .hbm, ⟨34, _⟩ => ⟨S_, .f32⟩
  | .hbm, ⟨35, _⟩ => ⟨S4x2048x8, .f32⟩
  | .hbm, ⟨36, _⟩ => ⟨S4x8x2048, .f32⟩
  | .hbm, ⟨37, _⟩ => ⟨S4x8x2048x2048, .f32⟩
  | .hbm, ⟨38, _⟩ => ⟨S_, .f32⟩
  | .hbm, ⟨39, _⟩ => ⟨S4x8x2048x2048, .f32⟩
  | .hbm, ⟨40, _⟩ => ⟨S4x8x2048x2048, .f32⟩
  | .hbm, ⟨41, _⟩ => ⟨S4x8x2048x1, .f32⟩
  | .hbm, ⟨42, _⟩ => ⟨S4x8x2048x2048, .f32⟩
  | .hbm, ⟨43, _⟩ => ⟨S4x8x2048x2048, .f32⟩
  | .hbm, ⟨44, _⟩ => ⟨S4x8x1x2048, .f32⟩
  | .hbm, ⟨45, _⟩ => ⟨S4x8x2048x2048, .f32⟩
  | .hbm, ⟨46, _⟩ => ⟨S4x8x2048x2048, .f32⟩
  | .hbm, ⟨47, _⟩ => ⟨S2048, .i32⟩
  | .hbm, ⟨48, _⟩ => ⟨S2048x1, .i32⟩
  | .hbm, ⟨49, _⟩ => ⟨S2048, .i32⟩
  | .hbm, ⟨50, _⟩ => ⟨S1x2048, .i32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S1x1x2048x2048, .i1⟩
  | .hbm, ⟨55, _⟩ => ⟨S_, .f32⟩
  | .hbm, ⟨56, _⟩ => ⟨S_, .f32⟩
  | .hbm, ⟨57, _⟩ => ⟨S4x8x2048x2048, .i1⟩
  | .hbm, ⟨58, _⟩ => ⟨S4x8x2048x2048, .f32⟩
  | .hbm, ⟨59, _⟩ => ⟨S4x8x2048x2048, .f32⟩
  | .hbm, ⟨60, _⟩ => ⟨S_, .f32⟩
  | .hbm, ⟨61, _⟩ => ⟨S4x8x2048, .f32⟩
  | .hbm, ⟨62, _⟩ => ⟨S_, .f32⟩
  | .hbm, ⟨63, _⟩ => ⟨S4x8x2048, .f32⟩
  | .hbm, ⟨64, _⟩ => ⟨S4x8x2048, .f32⟩
  | .hbm, ⟨65, _⟩ => ⟨S4x8x2048x1, .f32⟩
  | .hbm, ⟨66, _⟩ => ⟨S4x8x2048x2048, .f32⟩
  | .hbm, ⟨67, _⟩ => ⟨S4x8x2048x2048, .f32⟩
  | .hbm, ⟨68, _⟩ => ⟨S4x8x2048x2048, .f32⟩
  | .hbm, ⟨69, _⟩ => ⟨S_, .f32⟩
  | .hbm, ⟨70, _⟩ => ⟨S4x8x2048, .f32⟩
  | .hbm, ⟨71, _⟩ => ⟨S4x8x2048x1, .f32⟩
  | .hbm, ⟨72, _⟩ => ⟨S4x8x2048x2048, .f32⟩
  | .hbm, ⟨73, _⟩ => ⟨S4x8x2048x2048, .f32⟩
  | .hbm, ⟨74, _⟩ => ⟨S4x8x128x2048, .f32⟩
  | .hbm, ⟨75, _⟩ => ⟨S4x2048x8x128, .f32⟩
  | .hbm, ⟨76, _⟩ => ⟨S4x2048x1024, .f32⟩
  | .hbm, ⟨77, _⟩ => ⟨S4x2048x1024, .bf16⟩
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_call1_call0_cst : Ref sig .tc := ⟨.hbm, 33, rfl⟩
abbrev main_call1_call0_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v33 : Ref sig .tc := ⟨.hbm, 59, rfl⟩
abbrev main_cst_1 : Ref sig .tc := ⟨.hbm, 60, rfl⟩
abbrev main_v34 : Ref sig .tc := ⟨.hbm, 61, rfl⟩
abbrev main_cst_2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Proof.Common.lean ====
/- Lemmas every call of the layer uses: products of matrices over the extended reals read at an index, and the shape
   of a kernel that keeps a cast block of its weights in a scratch. -/
module

public import Idealize.ShloMosaic.Lib.MatmulPlain
public import Idealize.ShloMosaic.Lib.Pipeline.Value
public import Idealize.ShloMosaic.Lib.ValueIdx
public import Idealize.ShloMosaic.Lib.IdealHost
public import Idealize.ShloMosaic.PureOps.Ideal.Laws

@[expose] public section

set_option maxRecDepth 16384

noncomputable section

namespace Cert.Common

open Idealize.ShloMosaic Idealize.ShloMosaic.ValueIdx

/-- An index of a matrix from its two coordinates, given as numbers. -/
abbrev at2 {M N : ℕ} (a : ℕ) (ha : a < M) (b : ℕ) (hb : b < N) : (⟨2, ![M, N]⟩ : Shape).Idx := ix2 ⟨a, ha⟩ ⟨b, hb⟩

/-- Two indices of a matrix with the same coordinates are one. -/
theorem ext2 {M N : ℕ} {i j : (⟨2, ![M, N]⟩ : Shape).Idx} (h0 : (i 0).val = (j 0).val) (h1 : (i 1).val = (j 1).val) : i = j :=
  funext fun a => Fin.ext (match a with | ⟨0, _⟩ => h0 | ⟨1, _⟩ => h1)

theorem zeroW (s : Shape) (j : s.Idx) : (constant s .f32 0x00000000#32 : FVec Ideal s .f32) j = 0 := by
  show Ideal.ofBits .f32 0x00000000#32 = 0
  exact Ideal.ofBits_zero_f32

/-- `[M,K] × [K,N]` into zero, read at an index. -/
theorem mm_plain {M K N : ℕ} {φ₁ φ₂ : FTy} (l : FVec Ideal ⟨2, ![M, K]⟩ φ₁) (r : FVec Ideal ⟨2, ![K, N]⟩ φ₂)
    (j : (⟨2, ![M, N]⟩ : Shape).Idx) :
    FloatOps.matmul (DotDims.plain M K N) none l r (constant ⟨2, ![M, N]⟩ .f32 0x00000000#32) j
      = ∑ k : Fin K, l (ix2 (j 0) k) * r (ix2 k (j 1)) := by
  obtain ⟨a, b, rfl⟩ : ∃ a b, j = ix2 a b := ⟨j 0, j 1, eq_ix2 j⟩
  rw [Ideal.matmul_plain_apply, zeroW, zero_add]
  rfl

/-- `[M,K] × [N,K]ᵀ` into zero, read at an index. -/
theorem mm_trans {M K N : ℕ} {φ₁ φ₂ : FTy} (l : FVec Ideal ⟨2, ![M, K]⟩ φ₁) (r : FVec Ideal ⟨2, ![N, K]⟩ φ₂)
    (j : (⟨2, ![M, N]⟩ : Shape).Idx) :
    FloatOps.matmul (DotDims.transposedRhs M K N) none l r (constant ⟨2, ![M, N]⟩ .f32 0x00000000#32) j
      = ∑ k : Fin K, l (ix2 (j 0) k) * r (ix2 (j 1) k) := by
  obtain ⟨a, b, rfl⟩ : ∃ a b, j = ix2 a b := ⟨j 0, j 1, eq_ix2 j⟩
  rw [Ideal.matmul_transposedRhs_apply, zeroW, zero_add]
  rfl

/-- A state carried from point to point that is set at the points a period divides and kept at the others is, at every
    point, a function of the point constant over each period. -/
theorem carried {α : Type} {N : ℕ} (P : ℕ) (f g : Fin N → α) (hset : ∀ t : Fin N, t.val % P = 0 → f t = g t)
    (hkeep : ∀ t : Fin N, ¬t.val % P = 0 → f t = f ⟨t.val - 1, Nat.lt_of_le_of_lt (Nat.sub_le _ _) t.isLt⟩)
    (hconst : ∀ t : Fin N, ¬t.val % P = 0 → g t = g ⟨t.val - 1, Nat.lt_of_le_of_lt (Nat.sub_le _ _) t.isLt⟩) (t : Fin N) :
    f t = g t := by
  obtain ⟨n, h⟩ := t
  induction n with
  | zero => exact hset _ (Nat.zero_mod _)
  | succ n ih =>
    by_cases h0 : (n + 1) % P = 0
    · exact hset _ h0
    · rw [hkeep _ h0, hconst _ h0]
      exact ih (Nat.lt_of_succ_lt h)

/-- A block's row of squares summed over its columns. -/
theorem row_squares {M N : ℕ} (x : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ) (j : (⟨1, ![M]⟩ : Shape).Idx) :
    multiReduction .add [1] ⟨1, ![M]⟩ (mulf x x) 0x00000000#32 h hφ hacc j = ∑ k : Fin N, x (ix2 (j 0) k) * x (ix2 (j 0) k) := by
  rw [Ideal.multiReduction_add_single]
  refine Finset.sum_congr rfl fun k _ => ?_
  have e : h.lift j k = ix2 (j 0) k := funext fun a => Fin.ext (by match a with | ⟨0, _⟩ => rfl | ⟨1, _⟩ => rfl)
  rw [e]
  rfl

/-- One element of a root-mean-square normalization of rows of 2048: from the row's sum of squares, the element and its gain. -/
def normed (s x g : EReal) : EReal :=
  x * Ideal.rsqrt (Ideal.div s (Ideal.ofBits .f32 0x45000000#32) + Ideal.ofBits .f32 0x358637BD#32) * g

/-- The two literals of the host's expansion of the logistic function are one, so the expansion is the function. -/
theorem logistic_host (x : EReal) : Ideal.div (Ideal.ofBits .f32 0x3F800000#32) (Ideal.ofBits .f32 0x3F800000#32 + Ideal.exp (-x))
    = Ideal.logistic x := by
  rw [Ideal.ofBits_one_f32]
  rfl

end Cert.Common

end
-- ==== Proof.Attn.lean ====
/- Attention over the extended reals. First the mathematics of one row: scores and values over the keys, the softmax of
   the scores weighing the values, and how keys no row sees, and keys split in two parts, leave it. Then the vector
   operations a kernel computes a block of rows with, read at an index as that mathematics. -/
module

public import proofs.«01_k».proof.Proof.Common
public import Idealize.ShloMosaic.Lib.Tactic

@[expose] public section

set_option maxRecDepth 16384

noncomputable section

namespace Cert.Attn

open Idealize.ShloMosaic Idealize.ShloMosaic.ValueIdx

/-! ## One row -/

section Row

variable {J J' P D : Type} [Fintype J] [Fintype J'] [Fintype P] [Fintype D]

/-- The largest score. -/
def top (s : J → EReal) : EReal := Finset.univ.sup s

/-- The values weighed by the exponentials of the scores' distances to `M`. -/
def weighed (M : EReal) (s v : J → EReal) : EReal := ∑ j, Ideal.exp (s j - M) * v j

/-- The exponentials' sum. -/
def total (M : EReal) (s : J → EReal) : EReal := ∑ j, Ideal.exp (s j - M)

/-- A row of attention: the values weighed by the softmax of the scores, divided once. -/
def value (s v : J → EReal) : EReal := Ideal.div (weighed (top s) s v) (total (top s) s)

theorem exp_masked (M : EReal) : Ideal.exp (⊥ - M) = 0 := by
  rw [sub_eq_add_neg, EReal.bot_add]
  rfl

/-- Keys whose score is `⊥` do not count. -/
theorem top_seen (f : J' → J) (s : J → EReal) (h : ∀ j, j ∉ Set.range f → s j = ⊥) :
    top s = top fun i => s (f i) := by
  refine le_antisymm (Finset.sup_le fun j _ => ?_) (Finset.sup_le fun i _ => Finset.le_sup (f := s) (Finset.mem_univ _))
  by_cases hj : j ∈ Set.range f
  · obtain ⟨i, rfl⟩ := hj
    exact Finset.le_sup (f := fun i => s (f i)) (Finset.mem_univ i)
  · rw [h j hj]
    exact bot_le

theorem weighed_seen (M : EReal) (f : J' → J) (hf : Function.Injective f) (s v : J → EReal)
    (h : ∀ j, j ∉ Set.range f → s j = ⊥) : weighed M s v = weighed M (fun i => s (f i)) fun i => v (f i) :=
  (Fintype.sum_of_injective f hf _ _ (fun j hj => by rw [h j hj, exp_masked, zero_mul]) fun _ => rfl).symm

theorem total_seen (M : EReal) (f : J' → J) (hf : Function.Injective f) (s : J → EReal)
    (h : ∀ j, j ∉ Set.range f → s j = ⊥) : total M s = total M fun i => s (f i) :=
  (Fintype.sum_of_injective f hf _ _ (fun j hj => by rw [h j hj, exp_masked]) fun _ => rfl).symm

theorem value_seen (f : J' → J) (hf : Function.Injective f) (s v : J → EReal) (h : ∀ j, j ∉ Set.range f → s j = ⊥) :
    value s v = value (fun i => s (f i)) fun i => v (f i) := by
  unfold value
  rw [top_seen f s h, weighed_seen _ f hf s v h, total_seen _ f hf s h]

/-- The keys in two parts, as a kernel that keeps the masked part apart computes them. -/
theorem value_parts (s v : D ⊕ P → EReal) :
    value s v = Ideal.div
      (weighed (max (top fun d => s (.inl d)) (top fun p => s (.inr p))) (fun d => s (.inl d)) (fun d => v (.inl d))
        + weighed (max (top fun d => s (.inl d)) (top fun p => s (.inr p))) (fun p => s (.inr p)) (fun p => v (.inr p)))
      (total (max (top fun d => s (.inl d)) (top fun p => s (.inr p))) (fun d => s (.inl d))
        + total (max (top fun d => s (.inl d)) (top fun p => s (.inr p))) (fun p => s (.inr p))) := by
  have e : top s = max (top fun d => s (.inl d)) (top fun p => s (.inr p)) := by
    refine le_antisymm (Finset.sup_le fun j _ => ?_) (max_le (Finset.sup_le fun d _ => Finset.le_sup (f := s) (Finset.mem_univ _))
      (Finset.sup_le fun p _ => Finset.le_sup (f := s) (Finset.mem_univ _)))
    match j with
    | .inl d => exact le_max_of_le_left (Finset.le_sup (f := fun d => s (.inl d)) (Finset.mem_univ d))
    | .inr p => exact le_max_of_le_right (Finset.le_sup (f := fun p => s (.inr p)) (Finset.mem_univ p))
  unfold value
  rw [e]
  refine congrArg₂ Ideal.div ?_ ?_
  · exact Fintype.sum_sum_type _
  · exact Fintype.sum_sum_type _

theorem coe_sum {ι : Type} (t : Finset ι) (f : ι → ℝ) : ((∑ i ∈ t, f i : ℝ) : EReal) = ∑ i ∈ t, (f i : EReal) := by
  classical
  induction t using Finset.induction_on with
  | empty => rw [Finset.sum_empty, Finset.sum_empty]; rfl
  | insert a t ha ih => rw [Finset.sum_insert ha, Finset.sum_insert ha, EReal.coe_add, ih]

/-- Scores that are real or masked, one at least real, and real values: dividing each weight is dividing once. -/
theorem value_eq (s v : J → EReal) (hv : ∀ j, ∃ r : ℝ, v j = r) (hs : ∀ j, s j = ⊥ ∨ ∃ r : ℝ, s j = r)
    (j₀ : J) (h₀ : ∃ r : ℝ, s j₀ = r) :
    ∑ j, v j * Ideal.div (Ideal.exp (s j - top s)) (total (top s) s) = value s v := by
  have ht : ∃ r : ℝ, top s = r := by
    obtain ⟨j, -, hj⟩ := Finset.exists_mem_eq_sup Finset.univ ⟨j₀, Finset.mem_univ _⟩ s
    unfold top
    rw [hj]
    refine (hs j).resolve_left fun hb => ?_
    obtain ⟨r, hr⟩ := h₀
    have hle : s j₀ ≤ Finset.univ.sup s := Finset.le_sup (f := s) (Finset.mem_univ _)
    rw [hj, hb, hr] at hle
    exact absurd hle (not_le.mpr (EReal.bot_lt_coe r))
  obtain ⟨M, hM⟩ := ht
  have he : ∀ j, ∃ r : ℝ, Ideal.exp (s j - top s) = r ∧ 0 ≤ r := by
    intro j
    rcases hs j with hb | ⟨r, hr⟩
    · exact ⟨0, by rw [hb, exp_masked]; rfl, le_refl _⟩
    · refine ⟨Real.exp (r - M), ?_, (Real.exp_pos _).le⟩
      rw [hr, hM, ← EReal.coe_sub]
      rfl
  choose e he using he
  choose w hw using hv
  have hpos : 0 < ∑ j, e j := by
    refine Finset.sum_pos' (fun j _ => (he j).2) ⟨j₀, Finset.mem_univ _, ?_⟩
    obtain ⟨r, hr⟩ := h₀
    have h1 := (he j₀).1
    rw [hr, hM, ← EReal.coe_sub] at h1
    have h2 : Real.exp (r - M) = e j₀ := EReal.coe_injective h1
    rw [← h2]
    exact Real.exp_pos _
  have hd : total (top s) s = ((∑ j, e j : ℝ) : EReal) := by
    rw [coe_sum]
    exact Finset.sum_congr rfl fun j _ => (he j).1
  unfold value
  rw [hd, Ideal.div_coe hpos.ne']
  have hw' : weighed (top s) s v = ((∑ j, e j * w j : ℝ) : EReal) := by
    rw [coe_sum]
    refine Finset.sum_congr rfl fun j _ => ?_
    rw [(he j).1, hw j, ← EReal.coe_mul]
  rw [hw', ← EReal.coe_mul, Finset.sum_mul]
  refine Eq.trans (Finset.sum_congr rfl fun j _ => ?_) (coe_sum _ _).symm
  rw [(he j).1, hw j, Ideal.div_coe hpos.ne', ← EReal.coe_mul, ← EReal.coe_mul]
  exact congrArg Real.toEReal (by ring)

end Row

/-! ## A block of rows -/

theorem neg_inf : Ideal.ofBits .f32 0xFF800000#32 = ⊥ := by simp [Ideal.ofBits, Ideal.ieee]

section Block

variable {N W E P : ℕ}

/-- A column of numbers, one for each row. -/
abbrev Col (N : ℕ) : Shape := ⟨2, ![N, 1]⟩
/-- A vector of numbers, one for each row. -/
abbrev Vec1 (N : ℕ) : Shape := ⟨1, ![N]⟩
/-- A matrix. -/
abbrev Mat (N W : ℕ) : Shape := ⟨2, ![N, W]⟩

/-- Rows folded to a column. -/
theorem col_apply {α : Type} (x : (Vec1 N).Idx → α) (h : (Vec1 N).ShapeCasts (Col N)) (a : Fin N) (z : Fin 1) :
    shapeCast (Col N) x h (ix2 a z) = x (ix1 a) :=
  shapeCast_apply x h _ (ix1 a) (by
    rw [Shape.rowMajor_val_one, Shape.rowMajor_val_two]
    show a.val = a.val * 1 + z.val
    omega)

/-- A column spread over a matrix. -/
theorem spread_apply {α : Type} (x : (Col N).Idx → α) (h : (Col N).Broadcasts (Mat N W)) (a : Fin N) (b : Fin W) :
    broadcastTo (Mat N W) x h (ix2 a b) = x (ix2 a 0) :=
  broadcastTo_apply x h _ (ix2 a 0) (fun d => by
    match d with
    | ⟨0, _⟩ =>
      show a.val = if N = 1 then 0 else a.val
      have := a.isLt
      split <;> omega
    | ⟨1, _⟩ => rfl)

theorem rows_max (x : FVec Ideal (Mat N W) .f32) (h : (Mat N W).Reduces [1] (Vec1 N)) (hφ : FKind.Formats .f32)
    (hacc : (0xFF800000#32 : BitVec 32) = FKind.maximumf.neutral .f32 hφ) (a : Fin N) :
    multiReduction .maximumf [1] (Vec1 N) x 0xFF800000#32 h hφ hacc (ix1 a) = top fun k : Fin W => x (ix2 a k) := by
  rw [Ideal.multiReduction_maximumf_single]
  have e : (x ∘ h.lift (ix1 a)) = fun k : Fin W => x (ix2 a k) := funext fun k => congrArg x
    (funext fun d => Fin.ext (by match d with | ⟨0, _⟩ => rfl | ⟨1, _⟩ => rfl))
  refine Eq.trans (b := Finset.univ.fold max (Ideal.ofBits .f32 0xFF800000#32) fun k : Fin W => x (ix2 a k)) ?_ ?_
  · exact congrArg (fun f => Finset.univ.fold max (Ideal.ofBits .f32 0xFF800000#32) f) e
  · rw [neg_inf]
    rfl

theorem rows_sum (x : FVec Ideal (Mat N W) .f32) (h : (Mat N W).Reduces [1] (Vec1 N)) (hφ : FKind.Formats .f32)
    (hacc : (0x00000000#32 : BitVec 32) = FKind.add.neutral .f32 hφ) (a : Fin N) :
    multiReduction .add [1] (Vec1 N) x 0x00000000#32 h hφ hacc (ix1 a) = ∑ k : Fin W, x (ix2 a k) := by
  rw [Ideal.multiReduction_add_single]
  exact Finset.sum_congr rfl fun k _ => congrArg x
    (funext fun d => Fin.ext (by match d with | ⟨0, _⟩ => rfl | ⟨1, _⟩ => rfl))

/-- The rows' largest scores, as a column. -/
def maxes (s : FVec Ideal (Mat N W) .f32) (hr : (Mat N W).Reduces [1] (Vec1 N)) (hc : (Vec1 N).ShapeCasts (Col N)) :
    FVec Ideal (Col N) .f32 :=
  shapeCast (Col N) (multiReduction .maximumf [1] (Vec1 N) s 0xFF800000#32 hr (.inl rfl) rfl) hc

theorem maxes_apply (s : FVec Ideal (Mat N W) .f32) (hr : (Mat N W).Reduces [1] (Vec1 N)) (hc : (Vec1 N).ShapeCasts (Col N))
    (a : Fin N) : maxes s hr hc (ix2 a 0) = top fun k : Fin W => s (ix2 a k) :=
  (col_apply _ hc a 0).trans (rows_max s hr _ _ a)

/-- The exponentials of the scores' distances to a column of largest scores. -/
def weights (s : FVec Ideal (Mat N W) .f32) (M : FVec Ideal (Col N) .f32) (hb : (Col N).Broadcasts (Mat N W)) :
    FVec Ideal (Mat N W) .f32 :=
  exp (subf s (broadcastTo (Mat N W) M hb))

theorem weights_apply (s : FVec Ideal (Mat N W) .f32) (M : FVec Ideal (Col N) .f32) (hb : (Col N).Broadcasts (Mat N W))
    (a : Fin N) (b : Fin W) : weights s M hb (ix2 a b) = Ideal.exp (s (ix2 a b) - M (ix2 a 0)) :=
  congrArg (fun z : EReal => Ideal.exp (s (ix2 a b) - z)) (spread_apply M hb a b)

/-- The weights' sums, as a column. -/
def sums (s : FVec Ideal (Mat N W) .f32) (M : FVec Ideal (Col N) .f32) (hb : (Col N).Broadcasts (Mat N W))
    (hr : (Mat N W).Reduces [1] (Vec1 N)) (hc : (Vec1 N).ShapeCasts (Col N)) : FVec Ideal (Col N) .f32 :=
  shapeCast (Col N) (multiReduction .add [1] (Vec1 N) (weights s M hb) 0x00000000#32 hr (.inl rfl) rfl) hc

theorem sums_apply (s : FVec Ideal (Mat N W) .f32) (M : FVec Ideal (Col N) .f32) (hb : (Col N).Broadcasts (Mat N W))
    (hr : (Mat N W).Reduces [1] (Vec1 N)) (hc : (Vec1 N).ShapeCasts (Col N)) (a : Fin N) :
    sums s M hb hr hc (ix2 a 0) = total (M (ix2 a 0)) fun k : Fin W => s (ix2 a k) :=
  (col_apply _ hc a 0).trans ((rows_sum _ hr _ _ a).trans (Finset.sum_congr rfl fun k _ => weights_apply s M hb a k))

/-- The weights times the values. -/
def product (s : FVec Ideal (Mat N W) .f32) (M : FVec Ideal (Col N) .f32) (v : FVec Ideal (Mat W E) .bf16)
    (hb : (Col N).Broadcasts (Mat N W)) (ht : FTy.bits .bf16 < FTy.bits .f32) : FVec Ideal (Mat N E) .f32 :=
  FloatOps.matmul (DotDims.plain N W E) none (truncf .bf16 (weights s M hb) ht) v (constant (Mat N E) .f32 0x00000000#32)

theorem product_apply (s : FVec Ideal (Mat N W) .f32) (M : FVec Ideal (Col N) .f32) (v : FVec Ideal (Mat W E) .bf16)
    (hb : (Col N).Broadcasts (Mat N W)) (ht : FTy.bits .bf16 < FTy.bits .f32) (a : Fin N) (e : Fin E) :
    product s M v hb ht (ix2 a e) = weighed (M (ix2 a 0)) (fun k : Fin W => s (ix2 a k)) fun k => v (ix2 k e) :=
  (Common.mm_plain _ v _).trans (Finset.sum_congr rfl fun k _ =>
    congrArg (fun z : EReal => z * v (ix2 k e)) (weights_apply s M hb a k))

/-- One part: its softmax over its rows, times the values. -/
def one (s : FVec Ideal (Mat N W) .f32) (v : FVec Ideal (Mat W E) .bf16) (hr : (Mat N W).Reduces [1] (Vec1 N))
    (hc : (Vec1 N).ShapeCasts (Col N)) (hb : (Col N).Broadcasts (Mat N W)) (he : (Col N).Broadcasts (Mat N E))
    (ht : FTy.bits .bf16 < FTy.bits .f32) : FVec Ideal (Mat N E) .bf16 :=
  truncf .bf16 (divf (product s (maxes s hr hc) v hb ht)
    (broadcastTo (Mat N E) (sums s (maxes s hr hc) hb hr hc) he)) ht

theorem one_apply (s : FVec Ideal (Mat N W) .f32) (v : FVec Ideal (Mat W E) .bf16) (hr : (Mat N W).Reduces [1] (Vec1 N))
    (hc : (Vec1 N).ShapeCasts (Col N)) (hb : (Col N).Broadcasts (Mat N W)) (he : (Col N).Broadcasts (Mat N E))
    (ht : FTy.bits .bf16 < FTy.bits .f32) (a : Fin N) (e : Fin E) :
    one s v hr hc hb he ht (ix2 a e) = value (fun k : Fin W => s (ix2 a k)) fun k => v (ix2 k e) := by
  refine (congrArg₂ Ideal.div (product_apply s _ v hb ht a e) ((spread_apply _ he a e).trans (sums_apply s _ hb hr hc a))).trans ?_
  rw [maxes_apply]
  rfl

/-- Two parts under one maximum: `s` the part stored first, `s'` the other. -/
def two (s : FVec Ideal (Mat N W) .f32) (s' : FVec Ideal (Mat N P) .f32) (v : FVec Ideal (Mat W E) .bf16)
    (v' : FVec Ideal (Mat P E) .bf16) (hr : (Mat N W).Reduces [1] (Vec1 N)) (hr' : (Mat N P).Reduces [1] (Vec1 N))
    (hc : (Vec1 N).ShapeCasts (Col N)) (hb : (Col N).Broadcasts (Mat N W)) (hb' : (Col N).Broadcasts (Mat N P))
    (he : (Col N).Broadcasts (Mat N E)) (ht : FTy.bits .bf16 < FTy.bits .f32) : FVec Ideal (Mat N E) .bf16 :=
  truncf .bf16 (divf
    (addf (product s (maximumf (maxes s hr hc) (maxes s' hr' hc)) v hb ht)
      (product s' (maximumf (maxes s hr hc) (maxes s' hr' hc)) v' hb' ht))
    (broadcastTo (Mat N E) (addf (sums s (maximumf (maxes s hr hc) (maxes s' hr' hc)) hb hr hc)
      (sums s' (maximumf (maxes s hr hc) (maxes s' hr' hc)) hb' hr' hc)) he)) ht

theorem two_apply (s : FVec Ideal (Mat N W) .f32) (s' : FVec Ideal (Mat N P) .f32) (v : FVec Ideal (Mat W E) .bf16)
    (v' : FVec Ideal (Mat P E) .bf16) (hr : (Mat N W).Reduces [1] (Vec1 N)) (hr' : (Mat N P).Reduces [1] (Vec1 N))
    (hc : (Vec1 N).ShapeCasts (Col N)) (hb : (Col N).Broadcasts (Mat N W)) (hb' : (Col N).Broadcasts (Mat N P))
    (he : (Col N).Broadcasts (Mat N E)) (ht : FTy.bits .bf16 < FTy.bits .f32) (a : Fin N) (e : Fin E) :
    two s s' v v' hr hr' hc hb hb' he ht (ix2 a e)
      = value (Sum.elim (fun k : Fin W => s (ix2 a k)) fun k : Fin P => s' (ix2 a k))
          (Sum.elim (fun k => v (ix2 k e)) fun k => v' (ix2 k e)) := by
  rw [value_parts]
  have hM : maximumf (maxes s hr hc) (maxes s' hr' hc) (ix2 a 0)
      = max (top fun k : Fin W => s (ix2 a k)) (top fun k : Fin P => s' (ix2 a k)) :=
    congrArg₂ (fun x y : EReal => max x y) (maxes_apply s hr hc a) (maxes_apply s' hr' hc a)
  refine congrArg₂ Ideal.div ?_ ((spread_apply _ he a e).trans ?_)
  · refine congrArg₂ (fun x y : EReal => x + y) ((product_apply s _ v hb ht a e).trans ?_)
      ((product_apply s' _ v' hb' ht a e).trans ?_) <;> rw [hM] <;> rfl
  · refine congrArg₂ (fun x y : EReal => x + y) ((sums_apply s _ hb hr hc a).trans ?_)
      ((sums_apply s' _ hb' hr' hc a).trans ?_) <;> rw [hM] <;> rfl

end Block

end Cert.Attn

end
-- ==== Proof.FoxBlock.lean ====
/- One block of 256 rows of the forgetting attention: what the kernel computes from the keys of the rows' own block and
   the keys before it, read at a row as a row of attention over all 2048 keys, those after the row masked. -/
module

public import proofs.«01_k».proof.Proof.Gen.FoxIdeal.Value
public import proofs.«01_k».proof.Proof.Attn
public import Idealize.ShloMosaic.Lib.WordCmp
public import Idealize.ShloMosaic.Lib.ValueLayout

@[expose] public section

set_option maxRecDepth 16384

noncomputable section

namespace Cert.FoxIdeal.Hand

open Cert.FoxIdeal Cert.FoxIdeal.Gen Idealize.ShloMosaic Idealize.ShloMosaic.ValueIdx
open Cert.Attn (Col Vec1 Mat value)

/-- The scale of the products of queries and keys. -/
def scale : EReal := Ideal.ofBits .f32 0x3DB504F3#32

/-- The score of a query against a key: their product scaled, the query's running sum added, the key's taken off. -/
def score (q k : Fin 128 → EReal) (f g : EReal) : EReal := (∑ d, q d * k d) * scale + f - g

variable {W P : ℕ}

/-- A block's scores as the kernel computes them. -/
def scores (q : FVec Ideal (Mat 256 128) .bf16) (k : FVec Ideal (Mat W 128) .bf16) (f : FVec Ideal (Col 256) .f32)
    (g : FVec Ideal (Mat 1 W) .f32) (hb : (Col 256).Broadcasts (Mat 256 W)) (hg : (Mat 1 W).Broadcasts (Mat 256 W)) :
    FVec Ideal (Mat 256 W) .f32 :=
  subf (addf (mulf (FloatOps.matmul (DotDims.transposedRhs 256 128 W) none q k (constant (Mat 256 W) .f32 0x00000000#32))
    (broadcast (Mat 256 W) (Scalar.ofBits .f32 0x3DB504F3#32))) (broadcastTo (Mat 256 W) f hb)) (broadcastTo (Mat 256 W) g hg)

/-- A row spread over a matrix. -/
theorem down_apply (g : FVec Ideal (Mat 1 W) .f32) (hg : (Mat 1 W).Broadcasts (Mat 256 W)) (a : Fin 256) (b : Fin W) :
    broadcastTo (Mat 256 W) g hg (ix2 a b) = g (ix2 0 b) :=
  broadcastTo_apply g hg _ (ix2 0 b) (fun d => by
    match d with
    | ⟨0, _⟩ => rfl
    | ⟨1, _⟩ =>
      show b.val = if W = 1 then 0 else b.val
      have := b.isLt
      split <;> omega)

theorem scores_apply (q : FVec Ideal (Mat 256 128) .bf16) (k : FVec Ideal (Mat W 128) .bf16) (f : FVec Ideal (Col 256) .f32)
    (g : FVec Ideal (Mat 1 W) .f32) (hb : (Col 256).Broadcasts (Mat 256 W)) (hg : (Mat 1 W).Broadcasts (Mat 256 W))
    (a : Fin 256) (b : Fin W) :
    scores q k f g hb hg (ix2 a b) = score (fun d => q (ix2 a d)) (fun d => k (ix2 b d)) (f (ix2 a 0)) (g (ix2 0 b)) :=
  congrArg₂ (fun x y : EReal => x - y)
    (congrArg₂ (fun x y : EReal => x * scale + y) (Common.mm_trans q k (ix2 a b)) (Attn.spread_apply f hb a b))
    (down_apply g hg a b)

/-- The head's column of running sums: the lane the head names, picked by a sum over the lanes. -/
def lane (i : grid0.Coords) (f : FVec Ideal (Mat 256 128) .f32) : FVec Ideal (Col 256) .f32 :=
  shapeCast (Col 256) (multiReduction .add [1] (Vec1 256)
    (select (cmpi .eq (iota .tc S256x128 32 [1] iota_S256x128_d1_w32) (broadcast S256x128 (BitVec.ofNat 32 (i 1).val))) f
      (broadcast S256x128 (Scalar.ofBits .f32 0x00000000#32))) 0x00000000#32 reduces_S256x128_S256 (.inl rfl) rfl)
    shapeCasts_S256_S256x1

theorem lane_apply (i : grid0.Coords) (f : FVec Ideal (Mat 256 128) .f32) (a : Fin 256) (l : Fin 128) (hl : l.val = (i 1).val) :
    lane i f (ix2 a 0) = f (ix2 a l) := by
  have hi : (i 1).val < 8 := (i 1).isLt
  have hsel : ∀ k : Fin 128, select (cmpi .eq (iota .tc S256x128 32 [1] iota_S256x128_d1_w32)
      (broadcast S256x128 (BitVec.ofNat 32 (i 1).val))) f (broadcast S256x128 (Scalar.ofBits .f32 0x00000000#32)) (ix2 a k)
      = if k = l then f (ix2 a k) else 0 := by
    intro k
    have hk := k.isLt
    have hc : cmpi .eq (iota .tc S256x128 32 [1] iota_S256x128_d1_w32) (broadcast S256x128 (BitVec.ofNat 32 (i 1).val)) (ix2 a k)
        = BitVec.ofBool (decide (k = l)) := by
      show IntOp.cmpi .eq (BitVec.ofNat 32 (0 * 128 + k.val)) (BitVec.ofNat 32 (i 1).val) = _
      rw [zero_mul, zero_add, Idealize.ShloMosaic.WordCmp.cmpi_eq_ofNat (by omega) (by omega), ← hl]
      exact congrArg BitVec.ofBool (decide_eq_decide.mpr Fin.ext_iff.symm)
    rw [select_apply, hc]
    by_cases h : k = l
    · rw [if_pos h, decide_eq_true h]; rfl
    · rw [if_neg h, decide_eq_false h]; exact Ideal.ofBits_zero_f32
  refine (Attn.col_apply _ _ a 0).trans ((Attn.rows_sum _ _ _ _ a).trans ?_)
  refine (Finset.sum_congr rfl fun k _ => hsel k).trans ?_
  exact (Finset.sum_ite_eq' Finset.univ l _).trans (if_pos (Finset.mem_univ l))

/-- The scores of the rows against their own block's keys, those after a row at the mask's value. -/
def masked (s : FVec Ideal (Mat 256 256) .f32) : FVec Ideal (Mat 256 256) .f32 :=
  select (cmpi .sge (iota .tc S256x256 32 [0] iota_S256x256_d0_w32) (iota .tc S256x256 32 [1] iota_S256x256_d1_w32)) s
    (broadcast S256x256 (Named.named κ "mask" 0xF149F2CA#32))

theorem masked_apply (s : FVec Ideal (Mat 256 256) .f32) (a b : Fin 256) :
    masked s (ix2 a b) = if b.val ≤ a.val then s (ix2 a b) else ⊥ := by
  have ha := a.isLt
  have hb := b.isLt
  have hc : cmpi .sge (iota .tc S256x256 32 [0] iota_S256x256_d0_w32) (iota .tc S256x256 32 [1] iota_S256x256_d1_w32) (ix2 a b)
      = BitVec.ofBool (decide (b.val ≤ a.val)) := by
    show IntOp.cmpi .sge (BitVec.ofNat 32 (0 * 256 + a.val)) (BitVec.ofNat 32 (0 * 256 + b.val)) = _
    rw [zero_mul, zero_add, zero_add, Idealize.ShloMosaic.WordCmp.cmpi_sge_ofNat (by omega) (by omega)]
  unfold masked
  rw [select_apply, hc]
  by_cases h : b.val ≤ a.val
  · rw [if_pos h, decide_eq_true h]; rfl
  · rw [if_neg h, decide_eq_false h]; exact IdealRules.named_const.ideal_named_scalar _ _ _ _ rfl

/-- A block of three axes, the first of one. -/
abbrev Blk (N W : ℕ) : Shape := ⟨3, ![1, N, W]⟩

/-- The block of the rows from 0, which sees no other block's keys. -/
def first (i : grid0.Coords) (q k v : Vec Ideal (Blk 256 128) .bf16) (f : Vec Ideal (Blk 256 128) .f32)
    (g : Vec Ideal (Blk 1 256) .f32) : FVec Ideal (Blk 256 128) .bf16 :=
  shapeCast (Blk 256 128) (Attn.one
    (masked (scores (shapeCast (Mat 256 128) q shapeCasts_S1x256x128_S256x128) (shapeCast (Mat 256 128) k shapeCasts_S1x256x128_S256x128)
      (lane i (shapeCast (Mat 256 128) f shapeCasts_S1x256x128_S256x128)) (shapeCast (Mat 1 256) g shapeCasts_S1x1x256_S1x256)
      broadcasts_S256x1_S256x256 broadcasts_S1x256_S256x256))
    (shapeCast (Mat 256 128) v shapeCasts_S1x256x128_S256x128)
    reduces_S256x256_S256 shapeCasts_S256_S256x1 broadcasts_S256x1_S256x256 broadcasts_S256x1_S256x128 bitsLt_bf16_f32)
    shapeCasts_S256x128_S1x256x128

/-- A later block: its own keys `k`, `v`, `g`, and the `P` keys before it, `k'`, `v'`, `g'`. -/
def later (i : grid0.Coords) (q k v : Vec Ideal (Blk 256 128) .bf16) (f : Vec Ideal (Blk 256 128) .f32)
    (g : Vec Ideal (Blk 1 256) .f32) (k' v' : Vec Ideal (Blk P 128) .bf16) (g' : Vec Ideal (Blk 1 P) .f32)
    (h1 : (Blk P 128).ShapeCasts (Mat P 128)) (h2 : (Blk 1 P).ShapeCasts (Mat 1 P)) (h3 : (Mat 256 P).Reduces [1] (Vec1 256))
    (h4 : (Col 256).Broadcasts (Mat 256 P)) (h5 : (Mat 1 P).Broadcasts (Mat 256 P)) : FVec Ideal (Blk 256 128) .bf16 :=
  shapeCast (Blk 256 128) (Attn.two
    (masked (scores (shapeCast (Mat 256 128) q shapeCasts_S1x256x128_S256x128) (shapeCast (Mat 256 128) k shapeCasts_S1x256x128_S256x128)
      (lane i (shapeCast (Mat 256 128) f shapeCasts_S1x256x128_S256x128)) (shapeCast (Mat 1 256) g shapeCasts_S1x1x256_S1x256)
      broadcasts_S256x1_S256x256 broadcasts_S1x256_S256x256))
    (scores (shapeCast (Mat 256 128) q shapeCasts_S1x256x128_S256x128) (shapeCast (Mat P 128) k' h1)
      (lane i (shapeCast (Mat 256 128) f shapeCasts_S1x256x128_S256x128)) (shapeCast (Mat 1 P) g' h2) h4 h5)
    (shapeCast (Mat 256 128) v shapeCasts_S1x256x128_S256x128) (shapeCast (Mat P 128) v' h1)
    reduces_S256x256_S256 h3 shapeCasts_S256_S256x1 broadcasts_S256x1_S256x256 h4 broadcasts_S256x1_S256x128 bitsLt_bf16_f32)
    shapeCasts_S256x128_S1x256x128

/-- The scores of row `r` against all the keys, those after it masked. -/
def rowScores (q k : Fin 2048 → Fin 128 → EReal) (f g : Fin 2048 → EReal) (r : Fin 2048) (j : Fin 2048) : EReal :=
  if j.val ≤ r.val then score (q r) (k j) (f r) (g j) else ⊥

/-- Row `r` of the attention, at lane `e`. -/
def row (q k v : Fin 2048 → Fin 128 → EReal) (f g : Fin 2048 → EReal) (r : Fin 2048) (e : Fin 128) : EReal :=
  value (rowScores q k f g r) fun j => v j e

theorem first_apply (i : grid0.Coords) (l : Fin 128) (hl : l.val = (i 1).val) (Q K V : Fin 2048 → Fin 128 → EReal) (F G : Fin 2048 → EReal)
    (q k v : Vec Ideal (Blk 256 128) .bf16) (f : Vec Ideal (Blk 256 128) .f32) (g : Vec Ideal (Blk 1 256) .f32)
    (hq : ∀ (a : Fin 256) d, q (ix3 0 a d) = Q ⟨0 + a.val, by omega⟩ d) (hk : ∀ (a : Fin 256) d, k (ix3 0 a d) = K ⟨0 + a.val, by omega⟩ d)
    (hv : ∀ (a : Fin 256) d, v (ix3 0 a d) = V ⟨0 + a.val, by omega⟩ d) (hf : ∀ a : Fin 256, f (ix3 0 a l) = F ⟨0 + a.val, by omega⟩)
    (hg : ∀ b : Fin 256, g (ix3 0 0 b) = G ⟨0 + b.val, by omega⟩) (a : Fin 256) (e : Fin 128) :
    first i q k v f g (ix3 0 a e) = row Q K V F G ⟨0 + a.val, by omega⟩ e := by
  refine (shapeCast_ab_1ab_apply _ _ 0 a e).trans ((Attn.one_apply _ _ _ _ _ _ _ a e).trans ?_)
  unfold row
  rw [Attn.value_seen (fun b : Fin 256 => (⟨0 + b.val, by omega⟩ : Fin 2048))
    (fun x y h => Fin.ext (by have := congrArg Fin.val h; dsimp only at this; omega))]
  · refine congrArg₂ value (funext fun b => ?_) (funext fun b => ?_)
    · rw [masked_apply, scores_apply, lane_apply i _ a l hl]
      simp only [shapeCast_1ab_ab_apply, hq, hk, hf, hg]
      unfold rowScores
      simp only [Nat.zero_add]
    · rw [shapeCast_1ab_ab_apply, hv]
  · intro j hj
    refine if_neg fun h => hj ⟨⟨j.val, ?_⟩, Fin.ext (by simp)⟩
    have := a.isLt
    dsimp only at h
    omega

theorem later_apply (hP : P + 256 ≤ 2048) (i : grid0.Coords) (l : Fin 128) (hl : l.val = (i 1).val)
    (Q K V : Fin 2048 → Fin 128 → EReal) (F G : Fin 2048 → EReal)
    (q k v : Vec Ideal (Blk 256 128) .bf16) (f : Vec Ideal (Blk 256 128) .f32) (g : Vec Ideal (Blk 1 256) .f32)
    (k' v' : Vec Ideal (Blk P 128) .bf16) (g' : Vec Ideal (Blk 1 P) .f32)
    (h1 : (Blk P 128).ShapeCasts (Mat P 128)) (h2 : (Blk 1 P).ShapeCasts (Mat 1 P)) (h3 : (Mat 256 P).Reduces [1] (Vec1 256))
    (h4 : (Col 256).Broadcasts (Mat 256 P)) (h5 : (Mat 1 P).Broadcasts (Mat 256 P))
    (hq : ∀ (a : Fin 256) d, q (ix3 0 a d) = Q ⟨P + a.val, by omega⟩ d) (hk : ∀ (a : Fin 256) d, k (ix3 0 a d) = K ⟨P + a.val, by omega⟩ d)
    (hv : ∀ (a : Fin 256) d, v (ix3 0 a d) = V ⟨P + a.val, by omega⟩ d) (hf : ∀ a : Fin 256, f (ix3 0 a l) = F ⟨P + a.val, by omega⟩)
    (hg : ∀ b : Fin 256, g (ix3 0 0 b) = G ⟨P + b.val, by omega⟩)
    (hk' : ∀ (b : Fin P) d, k' (ix3 0 b d) = K ⟨0 + b.val, by omega⟩ d) (hv' : ∀ (b : Fin P) d, v' (ix3 0 b d) = V ⟨0 + b.val, by omega⟩ d)
    (hg' : ∀ b : Fin P, g' (ix3 0 0 b) = G ⟨0 + b.val, by omega⟩) (a : Fin 256) (e : Fin 128) :
    later i q k v f g k' v' g' h1 h2 h3 h4 h5 (ix3 0 a e) = row Q K V F G ⟨P + a.val, by omega⟩ e := by
  refine (shapeCast_ab_1ab_apply _ _ 0 a e).trans ((Attn.two_apply _ _ _ _ _ _ _ _ _ _ _ a e).trans ?_)
  unfold row
  rw [Attn.value_seen (Sum.elim (fun b : Fin 256 => (⟨P + b.val, by omega⟩ : Fin 2048)) fun b : Fin P => (⟨0 + b.val, by omega⟩ : Fin 2048))]
  · refine congrArg₂ value (funext fun b => ?_) (funext fun b => ?_)
    · match b with
      | .inl b =>
        simp only [Sum.elim_inl]
        rw [masked_apply, scores_apply, lane_apply i _ a l hl]
        simp only [shapeCast_1ab_ab_apply, hq, hk, hf, hg]
        unfold rowScores
        simp only [Nat.add_le_add_iff_left]
      | .inr b =>
        simp only [Sum.elim_inr]
        rw [scores_apply, lane_apply i _ a l hl]
        simp only [shapeCast_1ab_ab_apply, hq, hk', hf, hg']
        refine (if_pos ?_).symm
        have := b.isLt
        dsimp only
        omega
    · match b with
      | .inl b => simp only [Sum.elim_inl]; rw [shapeCast_1ab_ab_apply, hv]
      | .inr b => simp only [Sum.elim_inr]; rw [shapeCast_1ab_ab_apply, hv']
  · rintro (x | x) (y | y) h <;> have h' := congrArg Fin.val h <;> simp only [Sum.elim_inl, Sum.elim_inr] at h'
    · exact congrArg Sum.inl (Fin.ext (by omega))
    · exact absurd h' (by omega)
    · exact absurd h' (by omega)
    · exact congrArg Sum.inr (Fin.ext (by omega))
  · intro j hj
    refine if_neg fun h => hj ?_
    dsimp only at h
    by_cases hlt : j.val < P
    · exact ⟨.inr ⟨j.val, hlt⟩, Fin.ext (by simp)⟩
    · exact ⟨.inl ⟨j.val - P, by omega⟩, Fin.ext (by simp; omega)⟩

end Cert.FoxIdeal.Hand

end
-- ==== Proof.FoxKernel.lean ====
/- The forgetting attention's kernel: what a grid point leaves in its block of the result is a row of attention at every
   row, over the blocks it stages; then what the call leaves at every index of its result. -/
module

public import proofs.«01_k».proof.Proof.FoxBlock
public import Idealize.ShloMosaic.Lib.WholeRead
public import Idealize.ShloMosaic.Lib.Pipeline.ValueKit.Tiles

@[expose] public section

set_option maxRecDepth 16384

noncomputable section

namespace Cert.FoxIdeal.Hand

open Cert.FoxIdeal Cert.FoxIdeal.Gen Cert.FoxIdeal.Value Idealize.ShloMosaic Idealize.ShloMosaic.TcCoe Idealize.SL.Sem
open Idealize.ShloMosaic.ValueIdx
open Cert.Attn (Col Vec1 Mat value)

section Point

variable {sig : RefSig} {e : EltTy} {S : Shape}

/-- A load through a rectangle of a whole buffer held at the contents that read `X`. -/
abbrev ld (m : Memref sig .tc .vmem S e) (h : m.IsWhole) (X : Vec Ideal S e) (off size : Fin S.rank → ℕ)
    (inb : ∀ a, off a + size a ≤ S.size a) : Vec Ideal (Rect.unit off size inb).shape e :=
  View.readAt (Elt Ideal) m.view (Rect.unit off size inb).toLoadRect (h.unread X)

theorem ld_apply (m : Memref sig .tc .vmem S e) (h : m.IsWhole) (X : Vec Ideal S e) (off size : Fin S.rank → ℕ)
    (inb : ∀ a, off a + size a ≤ S.size a) (x : (Rect.unit off size inb).shape.Idx) (i : S.Idx)
    (hi : ∀ a, (i a).val = off a + (x a).val) : ld m h X off size inb x = X i :=
  (h.readAt_unread X _ x).trans (View.ld_unit_apply_of X off size inb x i hi)

end Point

variable {sig : RefSig} (i : grid0.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16)
    (harg4 : arg4.IsWhole) (arg5 : Memref sig .tc .vmem S1x2048x128 .f32) (harg5 : arg5.IsWhole)
    (arg6 : Memref sig .tc .vmem S1x8x2048 .f32) (harg6 : arg6.IsWhole)
    (x0 x1 x2 : Vec Ideal S1x2048x128 .bf16) (x3 : Vec Ideal S1x2048x128 .f32) (x4 : Vec Ideal S1x8x2048 .f32)

/-- The head of a grid point, as a lane and as a row of the running sums. -/
def headLane : Fin 128 := ⟨(i 1).val, lt_of_lt_of_le (i 1).isLt (by decide)⟩
def headRow : Fin 8 := ⟨(i 1).val, (i 1).isLt⟩

/-- A row of the point's block of the result, from the blocks staged. -/
def pointRow (r : Fin 2048) (e : Fin 128) : EReal :=
  row (fun r d => x0 (ix3 0 r d)) (fun r d => x1 (ix3 0 r d)) (fun r d => x2 (ix3 0 r d))
    (fun r => x3 (ix3 0 r (headLane i))) (fun r => x4 (ix3 0 (headRow i) r)) r e

theorem rows_ld {W o : ℕ} {φ : EltTy} (m : Memref sig .tc .vmem S1x2048x128 φ) (h : m.IsWhole) (X : Vec Ideal S1x2048x128 φ)
    (inb : ∀ a, ![0, o, 0] a + ![1, W, 128] a ≤ S1x2048x128.size a) (a : Fin W) (d : Fin 128) (ho : o + a.val < 2048) :
    ld m h X ![0, o, 0] ![1, W, 128] inb (ix3 0 a d) = X (ix3 0 ⟨o + a.val, ho⟩ d) :=
  ld_apply m h X _ _ inb _ _ (fun c => by
    match c with
    | ⟨0, _⟩ => rfl
    | ⟨1, _⟩ => rfl
    | ⟨2, _⟩ => exact (Nat.zero_add d.val).symm)

theorem sums_ld {W o : ℕ} (off : Fin 3 → ℕ) (hoff : off = ![0, (i 1).val, o]) (m : Memref sig .tc .vmem S1x8x2048 .f32) (h : m.IsWhole)
    (X : Vec Ideal S1x8x2048 .f32) (inb : ∀ a, off a + ![1, 1, W] a ≤ S1x8x2048.size a) (b : Fin W) (ho : o + b.val < 2048) :
    ld m h X off ![1, 1, W] inb (ix3 0 0 b) = X (ix3 0 (headRow i) ⟨o + b.val, ho⟩) := by
  subst hoff
  exact ld_apply m h X _ _ inb _ _ (fun c => by
    match c with
    | ⟨0, _⟩ => rfl
    | ⟨1, _⟩ => rfl
    | ⟨2, _⟩ => rfl)

theorem first_read (inb : ∀ a, ![0, 0, 0] a + ![1, 256, 128] a ≤ S1x2048x128.size a) (off : Fin 3 → ℕ) (hoff : off = ![0, (i 1).val, 0])
    (inbg : ∀ a, off a + ![1, 1, 256] a ≤ S1x8x2048.size a) (a : Fin 256) (e : Fin 128) :
    first i (ld arg2 harg2 x0 ![0, 0, 0] ![1, 256, 128] inb) (ld arg3 harg3 x1 ![0, 0, 0] ![1, 256, 128] inb)
      (ld arg4 harg4 x2 ![0, 0, 0] ![1, 256, 128] inb) (ld arg5 harg5 x3 ![0, 0, 0] ![1, 256, 128] inb)
      (ld arg6 harg6 x4 off ![1, 1, 256] inbg) (ix3 0 a e) = pointRow i x0 x1 x2 x3 x4 ⟨0 + a.val, by omega⟩ e :=
  first_apply i (headLane i) rfl _ _ _ _ _ _ _ _ _ _
    (fun a d => rows_ld arg2 harg2 x0 inb a d _) (fun a d => rows_ld arg3 harg3 x1 inb a d _) (fun a d => rows_ld arg4 harg4 x2 inb a d _)
    (fun a => rows_ld arg5 harg5 x3 inb a _ _) (fun b => sums_ld i off hoff arg6 harg6 x4 inbg b _) a e

theorem later_read {P : ℕ} (hP : P + 256 ≤ 2048) (inb : ∀ a, ![0, P, 0] a + ![1, 256, 128] a ≤ S1x2048x128.size a)
    (inb' : ∀ a, ![0, 0, 0] a + ![1, P, 128] a ≤ S1x2048x128.size a)
    (off off' : Fin 3 → ℕ) (hoff : off = ![0, (i 1).val, P]) (hoff' : off' = ![0, (i 1).val, 0])
    (inbg : ∀ a, off a + ![1, 1, 256] a ≤ S1x8x2048.size a) (inbg' : ∀ a, off' a + ![1, 1, P] a ≤ S1x8x2048.size a)
    (h1 : (Blk P 128).ShapeCasts (Mat P 128)) (h2 : (Blk 1 P).ShapeCasts (Mat 1 P)) (h3 : (Mat 256 P).Reduces [1] (Vec1 256))
    (h4 : (Col 256).Broadcasts (Mat 256 P)) (h5 : (Mat 1 P).Broadcasts (Mat 256 P)) (a : Fin 256) (e : Fin 128) :
    later i (ld arg2 harg2 x0 ![0, P, 0] ![1, 256, 128] inb) (ld arg3 harg3 x1 ![0, P, 0] ![1, 256, 128] inb)
      (ld arg4 harg4 x2 ![0, P, 0] ![1, 256, 128] inb) (ld arg5 harg5 x3 ![0, P, 0] ![1, 256, 128] inb)
      (ld arg6 harg6 x4 off ![1, 1, 256] inbg) (ld arg3 harg3 x1 ![0, 0, 0] ![1, P, 128] inb')
      (ld arg4 harg4 x2 ![0, 0, 0] ![1, P, 128] inb') (ld arg6 harg6 x4 off' ![1, 1, P] inbg') h1 h2 h3 h4 h5 (ix3 0 a e)
      = pointRow i x0 x1 x2 x3 x4 ⟨P + a.val, by omega⟩ e :=
  later_apply hP i (headLane i) rfl _ _ _ _ _ _ _ _ _ _ _ _ _ h1 h2 h3 h4 h5
    (fun a d => rows_ld arg2 harg2 x0 inb a d _) (fun a d => rows_ld arg3 harg3 x1 inb a d _) (fun a d => rows_ld arg4 harg4 x2 inb a d _)
    (fun a => rows_ld arg5 harg5 x3 inb a _ _) (fun b => sums_ld i off hoff arg6 harg6 x4 inbg b _)
    (fun b d => rows_ld arg3 harg3 x1 inb' b d _) (fun b d => rows_ld arg4 harg4 x2 inb' b d _)
    (fun b => sums_ld i off' hoff' arg6 harg6 x4 inbg' b _) a e

/-- A payload that is a row of attention at each of its rows, at an index its rectangle holds. -/
theorem tile_at {P : ℕ} (w : FVec Ideal (Blk 256 128) .bf16) (r : Fin 2048) (e : Fin 128)
    (h : ∀ (a : Fin 256) (e : Fin 128) (ho : P + a.val < 2048), w (ix3 0 a e) = pointRow i x0 x1 x2 x3 x4 ⟨P + a.val, ho⟩ e) :
    View.TileAt (Val := Elt Ideal) (S := S1x2048x128) (e := .bf16) (ix3 0 r e) ![0, P, 0] ![1, 256, 128] w (pointRow i x0 x1 x2 x3 x4 r e) := by
  intro x hx
  obtain ⟨u, a, e', rfl⟩ : ∃ (u : Fin 1) (a : Fin 256) (e' : Fin 128), x = ix3 u a e' := ⟨x 0, x 1, x 2, eq_ix3 x⟩
  obtain rfl : u = 0 := Subsingleton.elim _ _
  have h1 : r.val = P + a.val := hx 1
  have h2 : e.val = 0 + e'.val := hx 2
  obtain rfl : e = e' := Fin.ext (by omega)
  have hr := r.isLt
  rw [h a e (by omega)]
  exact congrArg (fun r => pointRow i x0 x1 x2 x3 x4 r e) (Fin.ext h1.symm)

/-- A later tile of the block: its rows, and what is written there. -/
def laterTile {P : ℕ} (inb : ∀ a, ![0, P, 0] a + ![1, 256, 128] a ≤ S1x2048x128.size a)
    (inb' : ∀ a, ![0, 0, 0] a + ![1, P, 128] a ≤ S1x2048x128.size a) (off off' : Fin 3 → ℕ)
    (inbg : ∀ a, off a + ![1, 1, 256] a ≤ S1x8x2048.size a) (inbg' : ∀ a, off' a + ![1, 1, P] a ≤ S1x8x2048.size a)
    (h1 : (Blk P 128).ShapeCasts (Mat P 128)) (h2 : (Blk 1 P).ShapeCasts (Mat 1 P)) (h3 : (Mat 256 P).Reduces [1] (Vec1 256))
    (h4 : (Col 256).Broadcasts (Mat 256 P)) (h5 : (Mat 1 P).Broadcasts (Mat 256 P)) : View.Piece (Elt Ideal) S1x2048x128 .bf16 :=
  ⟨Rect.unit ![0, P, 0] ![1, 256, 128] inb,
    later i (ld arg2 harg2 x0 ![0, P, 0] ![1, 256, 128] inb) (ld arg3 harg3 x1 ![0, P, 0] ![1, 256, 128] inb)
      (ld arg4 harg4 x2 ![0, P, 0] ![1, 256, 128] inb) (ld arg5 harg5 x3 ![0, P, 0] ![1, 256, 128] inb)
      (ld arg6 harg6 x4 off ![1, 1, 256] inbg) (ld arg3 harg3 x1 ![0, 0, 0] ![1, P, 128] inb')
      (ld arg4 harg4 x2 ![0, 0, 0] ![1, P, 128] inb') (ld arg6 harg6 x4 off' ![1, 1, P] inbg') h1 h2 h3 h4 h5⟩

/-- A tile whose payload is the row's at each of its rows, as a rectangle. -/
theorem rect_at {P : ℕ} (inb : ∀ a, ![0, P, 0] a + ![1, 256, 128] a ≤ S1x2048x128.size a) (w : FVec Ideal (Blk 256 128) .bf16) (r : Fin 2048) (e : Fin 128)
    (h : ∀ (a : Fin 256) (e : Fin 128) (ho : P + a.val < 2048), w (ix3 0 a e) = pointRow i x0 x1 x2 x3 x4 ⟨P + a.val, ho⟩ e)
    {L : List (View.Piece (Elt Ideal) S1x2048x128 .bf16)} (hL : View.AllAt L (ix3 0 r e) (pointRow i x0 x1 x2 x3 x4 r e)) :
    View.AllAt ((⟨Rect.unit ![0, P, 0] ![1, 256, 128] inb, w⟩ : View.Piece (Elt Ideal) S1x2048x128 .bf16) :: L) (ix3 0 r e) (pointRow i x0 x1 x2 x3 x4 r e) :=
  View.allAt_cons_unit _ _ _ _ _ (tile_at i x0 x1 x2 x3 x4 w r e h) hL

theorem laterTile_at {P : ℕ} (hP : P + 256 ≤ 2048) (inb : ∀ a, ![0, P, 0] a + ![1, 256, 128] a ≤ S1x2048x128.size a)
    (inb' : ∀ a, ![0, 0, 0] a + ![1, P, 128] a ≤ S1x2048x128.size a)
    (off off' : Fin 3 → ℕ) (hoff : off = ![0, (i 1).val, P]) (hoff' : off' = ![0, (i 1).val, 0])
    (inbg : ∀ a, off a + ![1, 1, 256] a ≤ S1x8x2048.size a) (inbg' : ∀ a, off' a + ![1, 1, P] a ≤ S1x8x2048.size a)
    (h1 : (Blk P 128).ShapeCasts (Mat P 128)) (h2 : (Blk 1 P).ShapeCasts (Mat 1 P)) (h3 : (Mat 256 P).Reduces [1] (Vec1 256))
    (h4 : (Col 256).Broadcasts (Mat 256 P)) (h5 : (Mat 1 P).Broadcasts (Mat 256 P)) (r : Fin 2048) (e : Fin 128)
    {L : List (View.Piece (Elt Ideal) S1x2048x128 .bf16)} (hL : View.AllAt L (ix3 0 r e) (pointRow i x0 x1 x2 x3 x4 r e)) :
    View.AllAt (laterTile i arg2 harg2 arg3 harg3 arg4 harg4 arg5 harg5 arg6 harg6 x0 x1 x2 x3 x4 inb inb' off off' inbg inbg' h1 h2 h3 h4 h5 :: L)
      (ix3 0 r e) (pointRow i x0 x1 x2 x3 x4 r e) :=
  rect_at i x0 x1 x2 x3 x4 inb _ r e (fun a e _ => later_read i arg2 harg2 arg3 harg3 arg4 harg4 arg5 harg5 arg6 harg6 x0 x1 x2 x3 x4 hP
    inb inb' off off' hoff hoff' inbg inbg' h1 h2 h3 h4 h5 a e) hL

/-- The eight tiles a point writes, the last rows first. -/
def tiles : List (View.Piece (Elt Ideal) S1x2048x128 .bf16) :=
  [laterTile i arg2 harg2 arg3 harg3 arg4 harg4 arg5 harg5 arg6 harg6 x0 x1 x2 x3 x4 (P := 1792) inb_S1x2048x128_S1x256x128_0_1792_0 inb_S1x2048x128_S1x1792x128_0_0_0
      (k0_off13 i) (k0_off14 i) (k0_off13_inb i) (k0_off14_inb i) shapeCasts_S1x1792x128_S1792x128 shapeCasts_S1x1x1792_S1x1792 reduces_S256x1792_S256
      broadcasts_S256x1_S256x1792 broadcasts_S1x1792_S256x1792,
    laterTile i arg2 harg2 arg3 harg3 arg4 harg4 arg5 harg5 arg6 harg6 x0 x1 x2 x3 x4 (P := 1536) inb_S1x2048x128_S1x256x128_0_1536_0 inb_S1x2048x128_S1x1536x128_0_0_0
      (k0_off11 i) (k0_off12 i) (k0_off11_inb i) (k0_off12_inb i) shapeCasts_S1x1536x128_S1536x128 shapeCasts_S1x1x1536_S1x1536 reduces_S256x1536_S256
      broadcasts_S256x1_S256x1536 broadcasts_S1x1536_S256x1536,
    laterTile i arg2 harg2 arg3 harg3 arg4 harg4 arg5 harg5 arg6 harg6 x0 x1 x2 x3 x4 (P := 1280) inb_S1x2048x128_S1x256x128_0_1280_0 inb_S1x2048x128_S1x1280x128_0_0_0
      (k0_off9 i) (k0_off10 i) (k0_off9_inb i) (k0_off10_inb i) shapeCasts_S1x1280x128_S1280x128 shapeCasts_S1x1x1280_S1x1280 reduces_S256x1280_S256
      broadcasts_S256x1_S256x1280 broadcasts_S1x1280_S256x1280,
    laterTile i arg2 harg2 arg3 harg3 arg4 harg4 arg5 harg5 arg6 harg6 x0 x1 x2 x3 x4 (P := 1024) inb_S1x2048x128_S1x256x128_0_1024_0 inb_S1x2048x128_S1x1024x128_0_0_0
      (k0_off7 i) (k0_off8 i) (k0_off7_inb i) (k0_off8_inb i) shapeCasts_S1x1024x128_S1024x128 shapeCasts_S1x1x1024_S1x1024 reduces_S256x1024_S256
      broadcasts_S256x1_S256x1024 broadcasts_S1x1024_S256x1024,
    laterTile i arg2 harg2 arg3 harg3 arg4 harg4 arg5 harg5 arg6 harg6 x0 x1 x2 x3 x4 (P := 768) inb_S1x2048x128_S1x256x128_0_768_0 inb_S1x2048x128_S1x768x128_0_0_0
      (k0_off5 i) (k0_off6 i) (k0_off5_inb i) (k0_off6_inb i) shapeCasts_S1x768x128_S768x128 shapeCasts_S1x1x768_S1x768 reduces_S256x768_S256
      broadcasts_S256x1_S256x768 broadcasts_S1x768_S256x768,
    laterTile i arg2 harg2 arg3 harg3 arg4 harg4 arg5 harg5 arg6 harg6 x0 x1 x2 x3 x4 (P := 512) inb_S1x2048x128_S1x256x128_0_512_0 inb_S1x2048x128_S1x512x128_0_0_0
      (k0_off3 i) (k0_off4 i) (k0_off3_inb i) (k0_off4_inb i) shapeCasts_S1x512x128_S512x128 shapeCasts_S1x1x512_S1x512 reduces_S256x512_S256
      broadcasts_S256x1_S256x512 broadcasts_S1x512_S256x512,
    laterTile i arg2 harg2 arg3 harg3 arg4 harg4 arg5 harg5 arg6 harg6 x0 x1 x2 x3 x4 (P := 256) inb_S1x2048x128_S1x256x128_0_256_0 inb_S1x2048x128_S1x256x128_0_0_0
      (k0_off2 i) (k0_off1 i) (k0_off2_inb i) (k0_off1_inb i) shapeCasts_S1x256x128_S256x128 shapeCasts_S1x1x256_S1x256 reduces_S256x256_S256
      broadcasts_S256x1_S256x256 broadcasts_S1x256_S256x256,
    ⟨Rect.unit ![0, 0, 0] ![1, 256, 128] inb_S1x2048x128_S1x256x128_0_0_0,
      first i (ld arg2 harg2 x0 ![0, 0, 0] ![1, 256, 128] inb_S1x2048x128_S1x256x128_0_0_0) (ld arg3 harg3 x1 ![0, 0, 0] ![1, 256, 128] inb_S1x2048x128_S1x256x128_0_0_0)
        (ld arg4 harg4 x2 ![0, 0, 0] ![1, 256, 128] inb_S1x2048x128_S1x256x128_0_0_0) (ld arg5 harg5 x3 ![0, 0, 0] ![1, 256, 128] inb_S1x2048x128_S1x256x128_0_0_0)
        (ld arg6 harg6 x4 (k0_off1 i) ![1, 1, 256] (k0_off1_inb i))⟩]

theorem tiles_at (r : Fin 2048) (e : Fin 128) : View.AllAt (tiles i arg2 harg2 arg3 harg3 arg4 harg4 arg5 harg5 arg6 harg6 x0 x1 x2 x3 x4)
    (ix3 0 r e) (pointRow i x0 x1 x2 x3 x4 r e) := by
  unfold tiles
  refine laterTile_at i arg2 harg2 arg3 harg3 arg4 harg4 arg5 harg5 arg6 harg6 x0 x1 x2 x3 x4 (by decide) _ _ _ _ (k0_off13_eq i) (k0_off14_eq i) _ _ _ _ _ _ _ r e ?_
  refine laterTile_at i arg2 harg2 arg3 harg3 arg4 harg4 arg5 harg5 arg6 harg6 x0 x1 x2 x3 x4 (by decide) _ _ _ _ (k0_off11_eq i) (k0_off12_eq i) _ _ _ _ _ _ _ r e ?_
  refine laterTile_at i arg2 harg2 arg3 harg3 arg4 harg4 arg5 harg5 arg6 harg6 x0 x1 x2 x3 x4 (by decide) _ _ _ _ (k0_off9_eq i) (k0_off10_eq i) _ _ _ _ _ _ _ r e ?_
  refine laterTile_at i arg2 harg2 arg3 harg3 arg4 harg4 arg5 harg5 arg6 harg6 x0 x1 x2 x3 x4 (by decide) _ _ _ _ (k0_off7_eq i) (k0_off8_eq i) _ _ _ _ _ _ _ r e ?_
  refine laterTile_at i arg2 harg2 arg3 harg3 arg4 harg4 arg5 harg5 arg6 harg6 x0 x1 x2 x3 x4 (by decide) _ _ _ _ (k0_off5_eq i) (k0_off6_eq i) _ _ _ _ _ _ _ r e ?_
  refine laterTile_at i arg2 harg2 arg3 harg3 arg4 harg4 arg5 harg5 arg6 harg6 x0 x1 x2 x3 x4 (by decide) _ _ _ _ (k0_off3_eq i) (k0_off4_eq i) _ _ _ _ _ _ _ r e ?_
  refine laterTile_at i arg2 harg2 arg3 harg3 arg4 harg4 arg5 harg5 arg6 harg6 x0 x1 x2 x3 x4 (by decide) _ _ _ _ (k0_off2_eq i) (k0_off1_eq i) _ _ _ _ _ _ _ r e ?_
  exact rect_at i x0 x1 x2 x3 x4 _ _ r e (fun a e _ => first_read i arg2 harg2 arg3 harg3 arg4 harg4 arg5 harg5
    arg6 harg6 x0 x1 x2 x3 x4 inb_S1x2048x128_S1x256x128_0_0_0 (k0_off1 i) (k0_off1_eq i) (k0_off1_inb i) a e) (View.allAt_nil _ _)

theorem out_apply (c : Dev nD) (i : grid0.Coords) (arg2 : Memref FoxIdeal.sig .tc .vmem S1x2048x128 .bf16) (harg2 : arg2.IsWhole)
    (arg3 : Memref FoxIdeal.sig .tc .vmem S1x2048x128 .bf16) (harg3 : arg3.IsWhole) (arg4 : Memref FoxIdeal.sig .tc .vmem S1x2048x128 .bf16)
    (harg4 : arg4.IsWhole) (arg5 : Memref FoxIdeal.sig .tc .vmem S1x2048x128 .f32) (harg5 : arg5.IsWhole)
    (arg6 : Memref FoxIdeal.sig .tc .vmem S1x8x2048 .f32) (harg6 : arg6.IsWhole) (arg7 : Memref FoxIdeal.sig .tc .vmem S1x2048x128 .bf16)
    (harg7 : arg7.IsWhole) (r : Fin 2048) (e : Fin 128) :
    out0_A_5 (F := Ideal) c i arg2 harg2 arg3 harg3 arg4 harg4 arg5 harg5 arg6 harg6 arg7 harg7 x0 x1 x2 x3 x4 (ix3 0 r e)
      = pointRow i x0 x1 x2 x3 x4 r e := by
  unfold out0_A_5
  rw [View.read_writes_junk_eq_canon]
  exact View.canon_eq_of_allAt _ _ _ (cover0_A_5 (y := ix3 0 r e) ..) (tiles_at i arg2 harg2 arg3 harg3 arg4 harg4 arg5 harg5 arg6 harg6 x0 x1 x2 x3 x4 r e)

end Cert.FoxIdeal.Hand

end
-- ==== Proof.Real.lean ====
/- Values of the extended reals that are real: what keeps them so, and the check that every element of an array is below +∞ in
   absolute value. -/
module

public import proofs.«01_k».proof.Proof.Attn
public import Idealize.ShloMosaic.Lib.ReduceAll

@[expose] public section

noncomputable section

namespace Cert.Attn

open Idealize.ShloMosaic Idealize.ShloMosaic.ValueIdx

/-- A value is real. -/
def IsReal (x : EReal) : Prop := ∃ r : ℝ, x = r

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {N : ℕ} {f : Fin N → EReal} (hf : ∀ k, IsReal (f k)) : IsReal (∑ k, f k) := by
  choose g hg using hf
  exact ⟨∑ k, g k, (Finset.sum_congr rfl fun k _ => hg k).trans (coe_sum _ _).symm⟩

/-- The scale of the scores. -/
theorem isReal_scale : IsReal (Ideal.ofBits .f32 0x3DB504F3#32) := by
  simp only [Ideal.ofBits, Ideal.ieee]
  exact ⟨_, rfl⟩

theorem pos_inf : Ideal.ofBits .f32 0x7F800000#32 = ⊤ := by simp [Ideal.ofBits, Ideal.ieee]

/-- An element whose absolute value is below +∞ is real. -/
theorem isReal_of_lt {x : EReal} (h : max x (-x) < ⊤) : IsReal x := by
  induction x with
  | bot => exact absurd h (by simp)
  | top => exact absurd h (by simp)
  | coe r => exact ⟨r, rfl⟩

/-- The check of one array. -/
theorem real_of_all {s : Shape} {axes : List (Fin s.rank)} {t u o : Shape} [Subsingleton t.Idx] (x : FVec Ideal s .f32)
    {dims : Fin o.rank → Fin s.rank} (hb : o.BroadcastsInDim s dims) (init : u.Idx → BitVec 1) (h : s.ReducesTo axes t) (hu : 0 < u.numel) (j : t.Idx)
    (e : Host.reduce IntOp.andi (cmpf .olt (Host.absf x) (broadcastInDim s dims hb (constant o .f32 0x7F800000#32))) init h hu j = 1#1)
    (i : s.Idx) : IsReal (x i) :=
  isReal_of_lt (by
    have h := Host.reduce_andi_all _ _ _ _ j e i
    change BitVec.ofBool (decide (max (x i) (-x i) < Ideal.ofBits .f32 0x7F800000#32)) = 1#1 at h
    rw [pos_inf] at h
    by_contra hn
    rw [decide_eq_false hn] at h
    exact absurd h (by decide))

end Cert.Attn

end
-- ==== Proof.FoxRef.lean ====
/- The forgetting attention's reference read at an index of its result: a row of attention over all the keys, those after
   the row masked, provided the arguments are real. -/
module

public import proofs.«01_k».proof.Proof.Gen.FoxRefIdeal.Read
public import proofs.«01_k».proof.Proof.FoxBlock
public import proofs.«01_k».proof.Proof.Real

@[expose] public section

set_option maxRecDepth 16384

noncomputable section

namespace Cert.FoxIdeal.Hand

open Cert.Attn Cert.FoxRefIdeal Cert.FoxRefIdeal.Gen Cert.FoxRefIdeal.Read Idealize.ShloMosaic Idealize.ShloMosaic.ValueIdx

variable (z : Vec Ideal S4x2048x6144 .bf16) (fc : Vec Ideal S4x2048x128 .f32) (fr : Vec Ideal S4x8x2048 .f32)

/-- A head's lanes of a third of the projection that starts at column `o`. -/
def part (o : ℕ) (ho : o + 1024 ≤ 6144) (b : Fin 4) (h : Fin 8) (r : Fin 2048) (d : Fin 128) : EReal :=
  z (ix3 b r ⟨o + (h.val * 128 + d.val), by omega⟩)

theorem ext3 {A B C : ℕ} {i j : (⟨3, ![A, B, C]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

theorem q_at (b : Fin 4) (r : Fin 2048) (h : Fin 8) (d : Fin 128) :
    val_main_v2 (F := Ideal) z (ix4 b r h d) = part z 3072 (by decide) b h r d := by
  rw [val_main_v2_apply, val_main_v1_apply]
  refine congrArg z (ext3 ?_ ?_ ?_)
  · show (((b.val * 2048 + r.val) * 8 + h.val) * 128 + d.val) / 2097152 = b.val; omega
  · show (((b.val * 2048 + r.val) * 8 + h.val) * 128 + d.val) / 1024 % 2048 = r.val; omega
  · show 3072 + (((b.val * 2048 + r.val) * 8 + h.val) * 128 + d.val) % 1024 = 3072 + (h.val * 128 + d.val); omega

theorem k_at (b : Fin 4) (r : Fin 2048) (h : Fin 8) (d : Fin 128) :
    val_main_v4 (F := Ideal) z (ix4 b r h d) = part z 4096 (by decide) b h r d := by
  rw [val_main_v4_apply, val_main_v3_apply]
  refine congrArg z (ext3 ?_ ?_ ?_)
  · show (((b.val * 2048 + r.val) * 8 + h.val) * 128 + d.val) / 2097152 = b.val; omega
  · show (((b.val * 2048 + r.val) * 8 + h.val) * 128 + d.val) / 1024 % 2048 = r.val; omega
  · show 4096 + (((b.val * 2048 + r.val) * 8 + h.val) * 128 + d.val) % 1024 = 4096 + (h.val * 128 + d.val); omega

theorem v_at (b : Fin 4) (r : Fin 2048) (h : Fin 8) (d : Fin 128) :
    val_main_v6 (F := Ideal) z (ix4 b r h d) = part z 5120 (by decide) b h r d := by
  rw [val_main_v6_apply, val_main_v5_apply]
  refine congrArg z (ext3 ?_ ?_ ?_)
  · show (((b.val * 2048 + r.val) * 8 + h.val) * 128 + d.val) / 2097152 = b.val; omega
  · show (((b.val * 2048 + r.val) * 8 + h.val) * 128 + d.val) / 1024 % 2048 = r.val; omega
  · show 5120 + (((b.val * 2048 + r.val) * 8 + h.val) * 128 + d.val) % 1024 = 5120 + (h.val * 128 + d.val); omega

/-- The reference's masked scores. -/
abbrev refScores (b : Fin 4) (h : Fin 8) (r : Fin 2048) : Fin 2048 → EReal :=
  rowScores (part z 3072 (by decide) b h) (part z 4096 (by decide) b h) (fun r => fc (ix3 b r ⟨h.val, by omega⟩))
    (fun r => fr (ix3 b h r)) r

theorem score_at (b : Fin 4) (h : Fin 8) (r j : Fin 2048) :
    val_main_v26 (F := Ideal) z fc fr (ix4 b h r j) = refScores z fc fr b h r j := by
  have hr := r.isLt
  have hj := j.isLt
  have hc : val_main_call0_v1 (F := Ideal) (ix4 b h r j) = BitVec.ofBool (decide (j.val ≤ r.val)) := by
    rw [val_main_call0_v1_apply, val_main_v25_apply, val_main_v24_apply, val_main_v22_apply, val_main_v23_apply, val_main_v19_apply,
      val_main_v21_apply, val_main_v18_apply, val_main_v20_apply]
    show IntOp.cmpi .sge (BitVec.ofNat 32 r.val) (BitVec.ofNat 32 j.val) = _
    rw [WordCmp.cmpi_sge_ofNat (by omega) (by omega)]
  have hs : val_main_v17 (F := Ideal) z fc fr (ix4 b h r j) = score (part z 3072 (by decide) b h r) (part z 4096 (by decide) b h j)
      (fc (ix3 b r ⟨h.val, by omega⟩)) (fr (ix3 b h j)) := by
    rw [val_main_v17_apply, val_main_v14_apply, val_main_v11_apply, val_main_v10_apply, val_main_cst_apply, val_main_v13_apply,
      val_main_v12_apply, val_main_v8_apply, val_main_v7_apply, val_main_v16_apply, val_main_v15_apply, val_main_v9_apply]
    refine congrArg₂ (fun x y : EReal => x - y) (congrArg₂ (fun x y : EReal => x * scale + y) ?_ ?_) ?_
    · refine Finset.sum_congr rfl fun d _ => congrArg₂ (fun x y : EReal => x * y) ?_ ?_
      · rw [← q_at]; exact congrArg _ (funext fun a => Fin.ext (by match a with | ⟨0, _⟩ => rfl | ⟨1, _⟩ => rfl | ⟨2, _⟩ => rfl | ⟨3, _⟩ => rfl))
      · rw [← k_at]; exact congrArg _ (funext fun a => Fin.ext (by match a with | ⟨0, _⟩ => rfl | ⟨1, _⟩ => rfl | ⟨2, _⟩ => rfl | ⟨3, _⟩ => rfl))
    · exact congrArg fc (ext3 rfl rfl rfl)
    · exact congrArg fr (ext3 rfl rfl rfl)
  rw [val_main_v26_apply, hc, hs]
  unfold refScores rowScores
  by_cases hle : j.val ≤ r.val
  · rw [if_pos hle, decide_eq_true hle]; rfl
  · rw [if_neg hle, decide_eq_false hle]; exact Attn.neg_inf

theorem max_at (b : Fin 4) (h : Fin 8) (r : Fin 2048) : val_main_v27 (F := Ideal) z fc fr (ix3 b h r)
    = Finset.univ.fold max (Ideal.ofBits .f32 0xFF800000#32) fun j => val_main_v26 (F := Ideal) z fc fr (ix4 b h r j) := by
  unfold val_main_v27
  generalize val_main_v26 (F := Ideal) z fc fr = y
  have hr : S4x8x2048x2048.Reduces [3] S4x8x2048 := by decide
  rw [Host.reduce_eq_fold_single (FloatOps.maximumf (F := Ideal) (φ := .f32)) y _ _ hr]
  refine congrArg (fun f => Finset.univ.fold max (Ideal.ofBits .f32 0xFF800000#32) f) (funext fun j => congrArg y ?_)
  exact funext fun a => Fin.ext (by match a with | ⟨0, _⟩ => rfl | ⟨1, _⟩ => rfl | ⟨2, _⟩ => rfl | ⟨3, _⟩ => rfl)

theorem top_at (b : Fin 4) (h : Fin 8) (r : Fin 2048) :
    val_main_v29 (F := Ideal) z fc fr (ix3 b h r) = Attn.top (refScores z fc fr b h r) := by
  rw [val_main_v29_apply, max_at, val_main_v28_apply, funext fun j => score_at z fc fr b h r j]
  generalize refScores z fc fr b h r = s
  show max (Ideal.ofBits .f32 0xFF800000#32) (Finset.univ.fold max (Ideal.ofBits .f32 0xFF800000#32) s) = Finset.univ.sup s
  rw [Attn.neg_inf]
  exact max_eq_right bot_le

theorem exp_at (b : Fin 4) (h : Fin 8) (r j : Fin 2048) : val_main_v33 (F := Ideal) z fc fr (ix4 b h r j)
    = Ideal.exp (refScores z fc fr b h r j - Attn.top (refScores z fc fr b h r)) := by
  have hi : idx_main_v30 (idx_main_v31 (ix4 b h r j)) = ix3 b h r := ext3 rfl rfl rfl
  rw [val_main_v33_apply, val_main_v32_apply, score_at, val_main_v31_apply, val_main_v30_apply, hi, top_at]
  generalize refScores z fc fr b h r = s
  rfl

theorem total_at (b : Fin 4) (h : Fin 8) (r : Fin 2048) : val_main_v34 (F := Ideal) z fc fr (ix3 b h r)
    = Attn.total (Attn.top (refScores z fc fr b h r)) (refScores z fc fr b h r) := by
  rw [val_main_v34_apply]
  refine (congrArg₂ (fun x y : EReal => x + y) Ideal.ofBits_zero_f32 (Finset.sum_congr rfl fun j _ => ?_)).trans (zero_add _)
  rw [← exp_at]
  exact congrArg _ (funext fun a => Fin.ext (by match a with | ⟨0, _⟩ => rfl | ⟨1, _⟩ => rfl | ⟨2, _⟩ => rfl | ⟨3, _⟩ => rfl))

/-- The reference's value for a row and a lane of a head. -/
theorem value_at (hz : ∀ i, IsReal (z i)) (hc : ∀ (b : Fin 4) (r : Fin 2048) (h : Fin 8), IsReal (fc (ix3 b r ⟨h.val, by omega⟩))) (hr : ∀ i, IsReal (fr i)) (hs : IsReal scale)
    (b : Fin 4) (h : Fin 8) (r : Fin 2048) (e : Fin 128) : val_main_v38 (F := Ideal) z fc fr (ix4 b h e r)
      = row (part z 3072 (by decide) b h) (part z 4096 (by decide) b h) (part z 5120 (by decide) b h)
          (fun r => fc (ix3 b r ⟨h.val, by omega⟩)) (fun r => fr (ix3 b h r)) r e := by
  have hv : ∀ j, IsReal (score (part z 3072 (by decide) b h r) (part z 4096 (by decide) b h j)
      (fc (ix3 b r ⟨h.val, by omega⟩)) (fr (ix3 b h j))) := fun j =>
    isReal_sub (isReal_add (isReal_mul (isReal_sum fun d => isReal_mul (hz _) (hz _)) hs) (hc b r h)) (hr _)
  rw [val_main_v38_apply]
  refine Eq.trans (congrArg (fun z : EReal => z) (Finset.sum_congr rfl fun j _ => congrArg₂ (fun x y : EReal => x * y)
      (x' := part z 5120 (by decide) b h j e)
      (y' := Ideal.div (Ideal.exp (refScores z fc fr b h r j - Attn.top (refScores z fc fr b h r)))
        (Attn.total (Attn.top (refScores z fc fr b h r)) (refScores z fc fr b h r))) ?_ ?_))
    (Attn.value_eq (refScores z fc fr b h r) (fun j => part z 5120 (by decide) b h j e) (fun j => hz _) (fun j => ?_) r ?_)
  · rw [← v_at]
    exact congrArg _ (funext fun a => Fin.ext (by match a with | ⟨0, _⟩ => rfl | ⟨1, _⟩ => rfl | ⟨2, _⟩ => rfl | ⟨3, _⟩ => rfl))
  · have hi : ridx_main_v38 (ix4 b h e r) j = ix4 b h r j :=
      funext fun a => Fin.ext (by match a with | ⟨0, _⟩ => rfl | ⟨1, _⟩ => rfl | ⟨2, _⟩ => rfl | ⟨3, _⟩ => rfl)
    have hi' : idx_main_v35 (idx_main_v36 (ix4 b h r j)) = ix3 b h r := ext3 rfl rfl rfl
    rw [hi, val_main_v37_apply, val_main_v36_apply, val_main_v35_apply, hi', exp_at, total_at]
    generalize refScores z fc fr b h r = s
    rfl
  · unfold refScores rowScores
    split
    · exact Or.inr (hv j)
    · exact Or.inl rfl
  · unfold refScores rowScores
    rw [if_pos le_rfl]
    exact hv r

end Cert.FoxIdeal.Hand

end
-- ==== Proof.FoxValue.lean ====
/- The forgetting attention: the result array is the reference's when the arguments are finite. The grid is the batches by the
   heads; a point stages the head's lanes of the three parts of the projection and its batch's gates, and its block of
   the result is the head's lanes. -/
module

public import proofs.«01_k».proof.Proof.Gen.FoxIdeal.Value
public import proofs.«01_k».proof.Proof.FoxKernel
public import proofs.«01_k».proof.Proof.FoxRef
public import proofs.«01_k».proof.Pre_finite_fox

@[expose] public section

set_option maxRecDepth 16384

noncomputable section

namespace Cert.Pre_finite_fox.Gen

/-- The precondition's side conditions. -/
instance facts : Cert.Pre_finite_fox.Facts := by constructor <;> decide

end Cert.Pre_finite_fox.Gen

namespace Cert.FoxIdeal.Hand

open Cert.FoxIdeal Cert.FoxIdeal.Gen Cert.FoxIdeal.Value Idealize.ShloMosaic Idealize.ShloMosaic.TcCoe Idealize.SL.Sem
open Idealize.ShloMosaic.ValueIdx
open Cert.Attn (IsReal)

variable (m : (ℓ : Loc nD τ sig) → Buf (Elt Ideal) ℓ)

/-- The printed index maps over the grid, and the head a point works on. -/
theorem idx_in : ∀ t : Fin cfg0.N, (win0_0.index t 0 = t.val / 8 ∧ win0_0.index t 1 = 0 ∧ win0_0.index t 2 = 24 + t.val % 8)
    ∧ (win0_1.index t 0 = t.val / 8 ∧ win0_1.index t 1 = 0 ∧ win0_1.index t 2 = 32 + t.val % 8)
    ∧ (win0_2.index t 0 = t.val / 8 ∧ win0_2.index t 1 = 0 ∧ win0_2.index t 2 = 40 + t.val % 8)
    ∧ (win0_3.index t 0 = t.val / 8 ∧ win0_3.index t 1 = 0 ∧ win0_3.index t 2 = 0)
    ∧ (win0_4.index t 0 = t.val / 8 ∧ win0_4.index t 1 = 0 ∧ win0_4.index t 2 = 0)
    ∧ (win0_5.index t 0 = t.val / 8 ∧ win0_5.index t 1 = 0 ∧ win0_5.index t 2 = t.val % 8)
    ∧ (grid0.coords t 1).val = t.val % 8 :=
  (by decide +kernel : ∀ t : Fin grid0.N, _)

variable (c : Dev nD) (t : Fin cfg0.N)

theorem iblk0 (b : Fin 4) (h : Fin 8) (hb : b.val = t.val / 8) (hh : h.val = t.val % 8) (r : Fin 2048) (d : Fin 128) :
    (iblk m c 0 t : Vec Ideal S1x2048x128 .bf16) (ix3 0 r d)
      = part (m ((c : Thread nD τ).loc main_arg0)) 3072 (by decide) b h r d := by
  obtain ⟨⟨e0, e1, e2⟩, -⟩ := idx_in t
  show m ((c : Thread nD τ).loc main_arg0) _ = _
  refine congrArg (m ((c : Thread nD τ).loc main_arg0)) (ext3 ?_ ?_ ?_)
  · show win0_0.index t 0 * 1 + 1 * 0 = b.val; omega
  · show win0_0.index t 1 * 2048 + 1 * r.val = r.val; omega
  · show win0_0.index t 2 * 128 + 1 * d.val = 3072 + (h.val * 128 + d.val); omega

theorem iblk1 (b : Fin 4) (h : Fin 8) (hb : b.val = t.val / 8) (hh : h.val = t.val % 8) (r : Fin 2048) (d : Fin 128) :
    (iblk m c 1 t : Vec Ideal S1x2048x128 .bf16) (ix3 0 r d)
      = part (m ((c : Thread nD τ).loc main_arg0)) 4096 (by decide) b h r d := by
  obtain ⟨-, ⟨e0, e1, e2⟩, -⟩ := idx_in t
  show m ((c : Thread nD τ).loc main_arg0) _ = _
  refine congrArg (m ((c : Thread nD τ).loc main_arg0)) (ext3 ?_ ?_ ?_)
  · show win0_1.index t 0 * 1 + 1 * 0 = b.val; omega
  · show win0_1.index t 1 * 2048 + 1 * r.val = r.val; omega
  · show win0_1.index t 2 * 128 + 1 * d.val = 4096 + (h.val * 128 + d.val); omega

theorem iblk2 (b : Fin 4) (h : Fin 8) (hb : b.val = t.val / 8) (hh : h.val = t.val % 8) (r : Fin 2048) (d : Fin 128) :
    (iblk m c 2 t : Vec Ideal S1x2048x128 .bf16) (ix3 0 r d)
      = part (m ((c : Thread nD τ).loc main_arg0)) 5120 (by decide) b h r d := by
  obtain ⟨-, -, ⟨e0, e1, e2⟩, -⟩ := idx_in t
  show m ((c : Thread nD τ).loc main_arg0) _ = _
  refine congrArg (m ((c : Thread nD τ).loc main_arg0)) (ext3 ?_ ?_ ?_)
  · show win0_2.index t 0 * 1 + 1 * 0 = b.val; omega
  · show win0_2.index t 1 * 2048 + 1 * r.val = r.val; omega
  · show win0_2.index t 2 * 128 + 1 * d.val = 5120 + (h.val * 128 + d.val); omega

theorem iblk3 (b : Fin 4) (h : Fin 8) (hb : b.val = t.val / 8) (hh : h.val = t.val % 8) (r : Fin 2048) :
    (iblk m c 3 t : Vec Ideal S1x2048x128 .f32) (ix3 0 r (headLane (grid0.coords t)))
      = m ((c : Thread nD τ).loc main_arg1) (ix3 b r ⟨h.val, by omega⟩) := by
  obtain ⟨-, -, -, ⟨e0, e1, e2⟩, -, -, e⟩ := idx_in t
  show m ((c : Thread nD τ).loc main_arg1) _ = _
  refine congrArg (m ((c : Thread nD τ).loc main_arg1)) (ext3 ?_ ?_ ?_)
  · show win0_3.index t 0 * 1 + 1 * 0 = b.val; omega
  · show win0_3.index t 1 * 2048 + 1 * r.val = r.val; omega
  · show win0_3.index t 2 * 128 + 1 * (grid0.coords t 1).val = h.val; omega

theorem iblk4 (b : Fin 4) (h : Fin 8) (hb : b.val = t.val / 8) (hh : h.val = t.val % 8) (r : Fin 2048) :
    (iblk m c 4 t : Vec Ideal S1x8x2048 .f32) (ix3 0 (headRow (grid0.coords t)) r)
      = m ((c : Thread nD τ).loc main_arg2) (ix3 b h r) := by
  obtain ⟨-, -, -, -, ⟨e0, e1, e2⟩, -, e⟩ := idx_in t
  show m ((c : Thread nD τ).loc main_arg2) _ = _
  refine congrArg (m ((c : Thread nD τ).loc main_arg2)) (ext3 ?_ ?_ ?_)
  · show win0_4.index t 0 * 1 + 1 * 0 = b.val; omega
  · show win0_4.index t 1 * 8 + 1 * (grid0.coords t 1).val = h.val; omega
  · show win0_4.index t 2 * 2048 + 1 * r.val = r.val; omega

/-- An array whose blocks are the points' blocks, at an index. -/
theorem arr_apply (X : Vec Ideal S4x2048x1024 .bf16) (hX : ∀ r e, X (((cfg0.win 5).blk t).view.emb (ix3 0 r e))
      = pointRow (grid0.coords t) (iblk m c 0 t) (iblk m c 1 t) (iblk m c 2 t) (iblk m c 3 t) (iblk m c 4 t) r e)
    (b : Fin 4) (h : Fin 8) (hb : b.val = t.val / 8) (hh : h.val = t.val % 8) (r : Fin 2048) (e : Fin 128)
    (i : S4x2048x1024.Idx) (h0 : (i 0).val = b.val) (h1 : (i 1).val = r.val) (h2 : (i 2).val = h.val * 128 + e.val) :
    X i = row (part (m ((c : Thread nD τ).loc main_arg0)) 3072 (by decide) b h)
      (part (m ((c : Thread nD τ).loc main_arg0)) 4096 (by decide) b h) (part (m ((c : Thread nD τ).loc main_arg0)) 5120 (by decide) b h)
      (fun r => m ((c : Thread nD τ).loc main_arg1) (ix3 b r ⟨h.val, by omega⟩)) (fun r => m ((c : Thread nD τ).loc main_arg2) (ix3 b h r)) r e := by
  have he : ((cfg0.win 5).blk t).view.emb (ix3 0 r e) = i := by
    obtain ⟨-, -, -, -, -, ⟨e0, e1, e2⟩, -⟩ := idx_in t
    refine ext3 ?_ ?_ ?_
    · show win0_5.index t 0 * 1 + 1 * 0 = (i 0).val; omega
    · show win0_5.index t 1 * 2048 + 1 * r.val = (i 1).val; omega
    · show win0_5.index t 2 * 128 + 1 * e.val = (i 2).val; omega
  refine ((congrArg X he).symm.trans (hX r e)).trans ?_
  unfold pointRow
  rw [funext₂ fun r d => iblk0 m c t b h hb hh r d, funext₂ fun r d => iblk1 m c t b h hb hh r d,
    funext₂ fun r d => iblk2 m c t b h hb hh r d, funext fun r => iblk3 m c t b h hb hh r, funext fun r => iblk4 m c t b h hb hh r]

/-- The precondition makes every element of the arguments real. -/
theorem real_of_pre (z : FVec Ideal S4x2048x6144 .bf16) (fc : FVec Ideal S4x2048x128 .f32) (fr : FVec Ideal S4x8x2048 .f32)
    (h : Pre_finite_fox.fn (F := Ideal) z fc fr = fun _ => 1#1) : (∀ i, IsReal (z i)) ∧ (∀ i, IsReal (fc i)) ∧ ∀ i, IsReal (fr i) := by
  have e := congrFun h ix0
  obtain ⟨e1, e2⟩ := IntOp.andi_eq_one.1 e
  obtain ⟨e3, e4⟩ := IntOp.andi_eq_one.1 e1
  exact ⟨Attn.real_of_all (s := S4x2048x6144) z _ _ _ _ _ e3, Attn.real_of_all fc _ _ _ _ _ e4, Attn.real_of_all fr _ _ _ _ _ e2⟩

/-- An array whose blocks are the points' blocks is the reference's, the heads' lanes of the sums being all that is read of them. -/
theorem eq_of_blocks (X : Vec Ideal S4x2048x1024 .bf16) (fc : FVec Ideal S4x2048x128 .f32)
    (hX : ∀ (t : Fin cfg0.N) r e, X (((cfg0.win 5).blk t).view.emb (ix3 0 r e))
      = pointRow (grid0.coords t) (iblk m c 0 t) (iblk m c 1 t) (iblk m c 2 t) (iblk m c 3 t) (iblk m c 4 t) r e)
    (hfc : ∀ (b : Fin 4) (r : Fin 2048) (h : Fin 8), m ((c : Thread nD τ).loc main_arg1) (ix3 b r ⟨h.val, by omega⟩) = fc (ix3 b r ⟨h.val, by omega⟩))
    (hz : ∀ i, IsReal (m ((c : Thread nD τ).loc main_arg0) i)) (hc : ∀ (b : Fin 4) (r : Fin 2048) (h : Fin 8), IsReal (fc (ix3 b r ⟨h.val, by omega⟩)))
    (hr : ∀ i, IsReal (m ((c : Thread nD τ).loc main_arg2) i)) :
    X = FoxRefIdeal.Read.val_main_v41 (F := Ideal) (m ((c : Thread nD τ).loc main_arg0)) fc (m ((c : Thread nD τ).loc main_arg2)) := by
  funext i
  have h0 : (i 0).val < 4 := (i 0).isLt
  have h1 : (i 1).val < 2048 := (i 1).isLt
  have h2 : (i 2).val < 1024 := (i 2).isLt
  have ht : (i 0).val * 8 + (i 2).val / 128 < cfg0.N := lt_of_lt_of_eq (by omega) (show 32 = cfg0.N from N_0.symm)
  have hi : FoxRefIdeal.Read.idx_main_v39 (FoxRefIdeal.Read.idx_main_v40 i)
      = ix4 ⟨(i 0).val, h0⟩ ⟨(i 2).val / 128, by omega⟩ ⟨(i 2).val % 128, by omega⟩ ⟨(i 1).val, h1⟩ := funext fun a => Fin.ext (by
    match a with
    | ⟨0, _⟩ => show (((i 0).val * 2048 + (i 1).val) * 1024 + (i 2).val) / 2097152 = (i 0).val; omega
    | ⟨1, _⟩ => show (((i 0).val * 2048 + (i 1).val) * 1024 + (i 2).val) / 128 % 8 = (i 2).val / 128; omega
    | ⟨2, _⟩ => show (((i 0).val * 2048 + (i 1).val) * 1024 + (i 2).val) % 128 = (i 2).val % 128; omega
    | ⟨3, _⟩ => show (((i 0).val * 2048 + (i 1).val) * 1024 + (i 2).val) / 1024 % 2048 = (i 1).val; omega)
  refine (arr_apply m c ⟨(i 0).val * 8 + (i 2).val / 128, ht⟩ X (hX _) ⟨(i 0).val, h0⟩ ⟨(i 2).val / 128, by omega⟩
    (by show (i 0).val = ((i 0).val * 8 + (i 2).val / 128) / 8; omega)
    (by show (i 2).val / 128 = ((i 0).val * 8 + (i 2).val / 128) % 8; omega) ⟨(i 1).val, h1⟩ ⟨(i 2).val % 128, by omega⟩ i rfl rfl
    (by show (i 2).val = (i 2).val / 128 * 128 + (i 2).val % 128; omega)).trans ?_
  rw [FoxRefIdeal.Read.val_main_v41_apply, FoxRefIdeal.Read.val_main_v40_apply, FoxRefIdeal.Read.val_main_v39_apply, hi,
    funext fun r => hfc _ r _]
  exact (value_at _ _ _ hz hc hr Attn.isReal_scale _ _ _ _).symm

/-- The result array is the reference's. -/
theorem G_eq (hp : Pre_finite_fox.fn (F := Ideal) (m ((c : Thread nD τ).loc main_arg0)) (m ((c : Thread nD τ).loc main_arg1))
      (m ((c : Thread nD τ).loc main_arg2)) = fun _ => 1#1) : (dats m 0 c).arrAt 5 cfg0.N
    = FoxRefIdeal.Read.val_main_v41 (F := Ideal) (m ((c : Thread nD τ).loc main_arg0)) (m ((c : Thread nD τ).loc main_arg1))
        (m ((c : Thread nD τ).loc main_arg2)) := by
  obtain ⟨hz, hc, hr⟩ := real_of_pre _ _ _ hp
  refine eq_of_blocks m c _ _ (fun t r e => ?_) (fun _ _ _ => rfl) hz (fun _ _ _ => hc _) hr
  have hv := congrFun (blocks5 m c t (flush0_5 t)) (ix3 0 r e)
  rw [flushed5_A] at hv
  exact hv.trans (out_apply _ _ _ _ _ c (grid0.coords t) _ _ _ _ _ _ _ _ _ _ _ _ r e)

end Cert.FoxIdeal.Hand

end
-- ==== Proof.BandBlock.lean ====
/- One block of 128 rows of the banded attention: what the kernel computes from the keys the rows' windows can reach, read
   at a row as a row of attention over all 2048 keys, those outside the row's window masked. -/
module

public import proofs.«01_k».proof.Proof.Gen.BandIdeal.Value
public import proofs.«01_k».proof.Proof.Attn
public import Idealize.ShloMosaic.Lib.WordCmp
public import Idealize.ShloMosaic.Lib.ValueLayout

@[expose] public section

set_option maxRecDepth 16384

noncomputable section

namespace Cert.BandIdeal.Hand

open Cert.BandIdeal Cert.BandIdeal.Gen Idealize.ShloMosaic Idealize.ShloMosaic.ValueIdx
open Cert.Attn (Col Vec1 Mat value)

/-! ## The mathematics of a row -/

/-- The scale of the products of queries and keys. -/
def scale : EReal := Ideal.ofBits .f32 0x3DB504F3#32

/-- The place in the table of biases of row `r` against key `j`: their distance held between -256 and 256, from 0. -/
def place (r j : ℕ) : Fin 513 := ⟨min (r + 256 - j) 512, by omega⟩

/-- Row `r` sees the keys of its own chunk of 64 and of the 8 chunks before it. -/
def Seen (r j : ℕ) : Prop := j / 64 ≤ r / 64 ∧ r / 64 ≤ j / 64 + 8

instance (r j : ℕ) : Decidable (Seen r j) := by unfold Seen; infer_instance

/-- The score of a query against a key: their product scaled, and the bias. -/
def score (q k : Fin 128 → EReal) (b : EReal) : EReal := (∑ d, q d * k d) * scale + b

/-- The scores of row `r` against all the keys, those it does not see masked. -/
def rowScores (q k : Fin 2048 → Fin 128 → EReal) (B : Fin 513 → EReal) (r : Fin 2048) (j : Fin 2048) : EReal :=
  if Seen r.val j.val then score (q r) (k j) (B (place r.val j.val)) else ⊥

/-- Row `r` of the attention, at lane `e`. -/
def row (q k v : Fin 2048 → Fin 128 → EReal) (B : Fin 513 → EReal) (r : Fin 2048) (e : Fin 128) : EReal :=
  value (rowScores q k B r) fun j => v j e

/-! ## The vector operations -/

variable {W : ℕ}

/-- A block of three axes, the first of one. -/
abbrev Blk (N W : ℕ) : Shape := ⟨3, ![1, N, W]⟩

/-- A block's scores as the kernel computes them. -/
def scores (q : FVec Ideal (Mat 128 128) .bf16) (k : FVec Ideal (Mat W 128) .bf16) (b : FVec Ideal (Mat 128 W) .f32) :
    FVec Ideal (Mat 128 W) .f32 :=
  addf (mulf (FloatOps.matmul (DotDims.transposedRhs 128 128 W) none q k (constant (Mat 128 W) .f32 0x00000000#32))
    (broadcast (Mat 128 W) (Scalar.ofBits .f32 0x3DB504F3#32))) b

theorem scores_apply (q : FVec Ideal (Mat 128 128) .bf16) (k : FVec Ideal (Mat W 128) .bf16) (b : FVec Ideal (Mat 128 W) .f32)
    (a : Fin 128) (j : Fin W) : scores q k b (ix2 a j) = score (fun d => q (ix2 a d)) (fun d => k (ix2 j d)) (b (ix2 a j)) :=
  congrArg (fun x : EReal => x * scale + b (ix2 a j)) (Common.mm_trans q k (ix2 a j))

/-- The rows of the block's first chunk. -/
def early (hr : (Mat 128 W).Iotas .tc 32 [0]) : IVec (Mat 128 W) 1 :=
  cmpi .slt (iota .tc (Mat 128 W) 32 [0] hr) (broadcast (Mat 128 W) 64#32)

/-- The places of the keys in the block's window of 640. -/
def cols (lo : ℕ) (hc : (Mat 128 W).Iotas .tc 32 [1]) : IVec (Mat 128 W) 32 :=
  addi (iota .tc (Mat 128 W) 32 [1] hc) (broadcast (Mat 128 W) (BitVec.ofNat 32 lo))

/-- Which keys each row sees: those before place 576 the rows of the first chunk, those from place 64 the others. -/
def valid (lo : ℕ) (hr : (Mat 128 W).Iotas .tc 32 [0]) (hc : (Mat 128 W).Iotas .tc 32 [1]) : IVec (Mat 128 W) 1 :=
  ori (andi (early hr) (cmpi .slt (cols lo hc) (broadcast (Mat 128 W) 576#32)))
    (andi (xori (early hr) (constantI (Mat 128 W) 1 1#1)) (cmpi .sge (cols lo hc) (broadcast (Mat 128 W) 64#32)))

theorem valid_apply (lo : ℕ) (hlo : W + lo = 640) (hr : (Mat 128 W).Iotas .tc 32 [0]) (hc : (Mat 128 W).Iotas .tc 32 [1])
    (a : Fin 128) (j : Fin W) :
    valid lo hr hc (ix2 a j) = BitVec.ofBool (decide (if a.val < 64 then lo + j.val < 576 else 64 ≤ lo + j.val)) := by
  have ha := a.isLt
  have hj := j.isLt
  have he : early hr (ix2 a j) = BitVec.ofBool (decide (a.val < 64)) := by
    show IntOp.cmpi .slt (BitVec.ofNat 32 (0 * 128 + a.val)) (BitVec.ofNat 32 64) = _
    rw [zero_mul, zero_add, WordCmp.cmpi_slt_ofNat (by omega) (by omega)]
  have hx : cols lo hc (ix2 a j) = BitVec.ofNat 32 (lo + j.val) := by
    show BitVec.ofNat 32 (0 * W + j.val) + BitVec.ofNat 32 lo = _
    rw [zero_mul, zero_add, ← BitVec.ofNat_add, Nat.add_comm]
  show IntOp.ori (IntOp.andi (early hr (ix2 a j)) (IntOp.cmpi .slt (cols lo hc (ix2 a j)) (BitVec.ofNat 32 576)))
    (IntOp.andi (IntOp.xori (early hr (ix2 a j)) (BitVec.ofBool true)) (IntOp.cmpi .sge (cols lo hc (ix2 a j)) (BitVec.ofNat 32 64))) = _
  rw [he, hx, WordCmp.cmpi_slt_ofNat (by omega) (by omega), WordCmp.cmpi_sge_ofNat (by omega) (by omega), WordCmp.xori_ofBool,
    WordCmp.andi_ofBool, WordCmp.andi_ofBool, WordCmp.ori_ofBool]
  refine congrArg BitVec.ofBool ?_
  by_cases h : a.val < 64
  · simp [h]
  · simp [h]

/-- The scores, those of the keys a row does not see at the mask's value. -/
def masked (lo : ℕ) (hr : (Mat 128 W).Iotas .tc 32 [0]) (hc : (Mat 128 W).Iotas .tc 32 [1]) (s : FVec Ideal (Mat 128 W) .f32) :
    FVec Ideal (Mat 128 W) .f32 :=
  select (valid lo hr hc) s (broadcast (Mat 128 W) (Named.named κ "mask" 0xF149F2CA#32))

theorem masked_apply (lo : ℕ) (hlo : W + lo = 640) (hr : (Mat 128 W).Iotas .tc 32 [0]) (hc : (Mat 128 W).Iotas .tc 32 [1])
    (s : FVec Ideal (Mat 128 W) .f32) (a : Fin 128) (j : Fin W) : masked lo hr hc s (ix2 a j)
      = if (if a.val < 64 then lo + j.val < 576 else 64 ≤ lo + j.val) then s (ix2 a j) else ⊥ := by
  unfold masked
  rw [select_apply, valid_apply lo hlo]
  by_cases h : (if a.val < 64 then lo + j.val < 576 else 64 ≤ lo + j.val)
  · rw [if_pos h, decide_eq_true h]; rfl
  · rw [if_neg h, decide_eq_false h]; exact IdealRules.named_const.ideal_named_scalar _ _ _ _ rfl

/-- The facts the operations of a block of width `W` ask for. -/
structure Ok (W : ℕ) : Prop where
  casts : (Blk W 128).ShapeCasts (Mat W 128)
  reduces : (Mat 128 W).Reduces [1] (Vec1 128)
  spreads : (Col 128).Broadcasts (Mat 128 W)
  rows : (Mat 128 W).Iotas .tc 32 [0]
  cols : (Mat 128 W).Iotas .tc 32 [1]

/-- The block: its rows' queries, and the keys, values and biases of its window from place `lo` on. -/
def block (lo : ℕ) (ok : Ok W) (q : Vec Ideal (Blk 128 128) .bf16) (k v : Vec Ideal (Blk W 128) .bf16) (b : Vec Ideal (Mat 128 W) .f32) :
    FVec Ideal (Blk 128 128) .bf16 :=
  shapeCast (Blk 128 128) (Attn.one
    (masked lo ok.rows ok.cols (scores (shapeCast (Mat 128 128) q shapeCasts_S1x128x128_S128x128) (shapeCast (Mat W 128) k ok.casts) b))
    (shapeCast (Mat W 128) v ok.casts) ok.reduces shapeCasts_S128_S128x1 ok.spreads broadcasts_S128x1_S128x128 bitsLt_bf16_f32)
    shapeCasts_S128x128_S1x128x128

/-- A block's rows are rows of the attention: `R` its first row, `P` the first key its window reaches. -/
theorem block_apply {R P lo : ℕ} (n n' : ℕ) (hn : R = 128 * n) (hn' : lo = 128 * n') (hR : R + 128 ≤ 2048) (hlo : W + lo = 640)
    (hP : P + 512 = R + lo) (hz : lo = 0 ∨ P = 0) (ok : Ok W)
    (Q K V : Fin 2048 → Fin 128 → EReal) (B : Fin 513 → EReal)
    (q : Vec Ideal (Blk 128 128) .bf16) (k v : Vec Ideal (Blk W 128) .bf16) (b : Vec Ideal (Mat 128 W) .f32)
    (hq : ∀ (a : Fin 128) d, q (ix3 0 a d) = Q ⟨R + a.val, by omega⟩ d)
    (hk : ∀ (j : Fin W) d, k (ix3 0 j d) = K ⟨P + j.val, by omega⟩ d) (hv : ∀ (j : Fin W) d, v (ix3 0 j d) = V ⟨P + j.val, by omega⟩ d)
    (hb : ∀ (a : Fin 128) (j : Fin W), b (ix2 a j) = B (place (512 + a.val) (lo + j.val))) (a : Fin 128) (e : Fin 128) :
    block lo ok q k v b (ix3 0 a e) = row Q K V B ⟨R + a.val, by omega⟩ e := by
  refine (shapeCast_ab_1ab_apply _ _ 0 a e).trans ((Attn.one_apply _ _ _ _ _ _ _ a e).trans ?_)
  have ha := a.isLt
  unfold row
  rw [Attn.value_seen (fun j : Fin W => (⟨P + j.val, by omega⟩ : Fin 2048))
    (fun x y h => Fin.ext (by have := congrArg Fin.val h; dsimp only at this; omega))]
  · refine congrArg₂ value (funext fun j => ?_) (funext fun j => ?_)
    · have hj := j.isLt
      have hs : (if a.val < 64 then lo + j.val < 576 else 64 ≤ lo + j.val) ↔ Seen (R + a.val) (P + j.val) := by
        unfold Seen
        split <;> omega
      have hp : place (512 + a.val) (lo + j.val) = place (R + a.val) (P + j.val) := Fin.ext (by unfold place; dsimp only; omega)
      rw [masked_apply lo hlo, scores_apply, hb, hp]
      simp only [shapeCast_1ab_ab_apply, hq, hk]
      unfold rowScores
      simp only [hs]
    · rw [shapeCast_1ab_ab_apply, hv]
  · intro j hj
    refine if_neg fun h => hj ?_
    unfold Seen at h
    dsimp only at h
    exact ⟨⟨j.val - P, by omega⟩, Fin.ext (by dsimp only; omega)⟩

end Cert.BandIdeal.Hand

end
-- ==== Proof.BandKernel.lean ====
/- The banded attention's kernel: what a grid point leaves in its block of the result is a row of attention at every row,
   over the blocks it stages and the biases its scratch holds; and the biases a point that sets the scratch leaves in it. -/
module

public import proofs.«01_k».proof.Proof.BandBlock
public import Idealize.ShloMosaic.Lib.WholeRead
public import Idealize.ShloMosaic.Lib.Pipeline.ValueKit.Tiles

@[expose] public section

set_option maxRecDepth 16384

noncomputable section

namespace Cert.BandIdeal.Hand

open Cert.BandIdeal Cert.BandIdeal.Gen Cert.BandIdeal.Value Idealize.ShloMosaic Idealize.ShloMosaic.TcCoe Idealize.SL.Sem
open Idealize.ShloMosaic.ValueIdx
open Cert.Attn (Col Vec1 Mat value)

/-! ## The scratch: the row of biases, each row turned one place further -/

theorem biases_apply (x : Vec Ideal S1x1x1024 .f32) (a : Fin 128) (c : Fin 640) :
    (k0_pay2 x : FVec Ideal S128x640 .f32) (ix2 a c) = x (ix3 0 0 ⟨(c.val + 1024 - a.val) % 1024, Nat.mod_lt _ (by decide)⟩) := by
  have ha := a.isLt
  have hc := c.isLt
  unfold k0_pay2
  simp only [shapeCast_self]
  refine (extractStridedSlice_apply _ _ _ _ (ix2 a ⟨c.val, by omega⟩) (fun d => by
    match d with | ⟨0, _⟩ => exact (Nat.zero_add _).symm | ⟨1, _⟩ => exact (Nat.zero_add _).symm)).trans ?_
  unfold dynamicRotate
  dsimp only
  refine (broadcastTo_apply _ _ _ (ix2 0 ⟨(c.val + 1024 - a.val) % 1024, Nat.mod_lt _ (by decide)⟩) (fun d => ?_)).trans ?_
  · match d with
    | ⟨0, _⟩ => rfl
    | ⟨1, _⟩ =>
      show (c.val + 1024 - a.val) % 1024 = (c.val + 1024 - (0 + 1 * a.val) % 1024) % 1024
      rw [Nat.zero_add, Nat.one_mul, Nat.mod_eq_of_lt (a := a.val) (by omega)]
  · exact shapeCast_1ab_ab_apply _ _ _ _

/-! ## Loads -/

section Loads

variable {e : EltTy} {S : Shape}

/-- A load through a rectangle of a whole buffer held at the contents that read `X`. -/
abbrev ld (m : Memref sig .tc .vmem S e) (h : m.IsWhole) (X : Vec Ideal S e) (off size : Fin S.rank → ℕ)
    (inb : ∀ a, off a + size a ≤ S.size a) : Vec Ideal (Rect.unit off size inb).shape e :=
  View.readAt (Elt Ideal) m.view (Rect.unit off size inb).toLoadRect (h.unread X)

theorem rows_ld {W o : ℕ} (m : Memref sig .tc .vmem S1x2048x128 e) (h : m.IsWhole) (X : Vec Ideal S1x2048x128 e)
    (inb : ∀ a, ![0, o, 0] a + ![1, W, 128] a ≤ S1x2048x128.size a) (a : Fin W) (d : Fin 128) (ho : o + a.val < 2048) :
    ld m h X ![0, o, 0] ![1, W, 128] inb (ix3 0 a d) = X (ix3 0 ⟨o + a.val, ho⟩ d) :=
  (h.readAt_unread X _ _).trans (View.ld_unit_apply_of X _ _ inb _ _ (fun c => by
    match c with
    | ⟨0, _⟩ => rfl
    | ⟨1, _⟩ => rfl
    | ⟨2, _⟩ => exact (Nat.zero_add d.val).symm))

/-- Columns of the scratch from `lo` on. -/
theorem cols_ld {W lo : ℕ} (X : Vec Ideal S128x640 .f32) (inb : ∀ a, ![0, lo] a + ![128, W] a ≤ S128x640.size a)
    (a : Fin 128) (j : Fin W) (h : lo + j.val < 640) :
    View.ld (Val := Elt Ideal) (S := S128x640) (e' := .f32) X (Rect.unit ![0, lo] ![128, W] inb) (ix2 a j) = X (ix2 a ⟨lo + j.val, h⟩) :=
  View.ld_unit_apply_of X _ _ inb _ _ (fun c => by
    match c with
    | ⟨0, _⟩ => exact (Nat.zero_add a.val).symm
    | ⟨1, _⟩ => rfl)

end Loads

/-! ## A point's block -/

variable (i : grid0.Coords) (arg2 : Memref sig .tc .vmem S1x1x1024 .f32) (harg2 : arg2.IsWhole)
    (arg3 : Memref sig .tc .vmem S1x2048x128 .bf16) (harg3 : arg3.IsWhole) (arg4 : Memref sig .tc .vmem S1x2048x128 .bf16)
    (harg4 : arg4.IsWhole) (arg5 : Memref sig .tc .vmem S1x2048x128 .bf16) (harg5 : arg5.IsWhole)
    (arg6 : Memref sig .tc .vmem S1x2048x128 .bf16) (harg6 : arg6.IsWhole)
    (arg7 : Memref sig .tc .vmem S128x640 .f32) (harg7 : arg7.IsWhole)
    (x0 : Vec Ideal S1x1x1024 .f32) (x1 x2 x3 : Vec Ideal S1x2048x128 .bf16) (xs : Vec Ideal S128x640 .f32) (B : Fin 513 → EReal)

/-- A row of the point's block of the result, from the blocks staged and the table of biases. -/
def pointRow (r : Fin 2048) (e : Fin 128) : EReal :=
  row (fun r d => x1 (ix3 0 r d)) (fun r d => x2 (ix3 0 r d)) (fun r d => x3 (ix3 0 r d)) B r e

/-- A stored block: its rows from `R`, its keys from `P`, its biases those of the window's places from `lo`. -/
def piece {W : ℕ} (R P lo : ℕ) (ok : Ok W) (inbq : ∀ a, ![0, R, 0] a + ![1, 128, 128] a ≤ S1x2048x128.size a)
    (inbk : ∀ a, ![0, P, 0] a + ![1, W, 128] a ≤ S1x2048x128.size a) (b : Vec Ideal (Mat 128 W) .f32) :
    View.Piece (Elt Ideal) S1x2048x128 .bf16 :=
  ⟨Rect.unit ![0, R, 0] ![1, 128, 128] inbq, block lo ok (ld arg3 harg3 x1 ![0, R, 0] ![1, 128, 128] inbq)
    (ld arg4 harg4 x2 ![0, P, 0] ![1, W, 128] inbk) (ld arg5 harg5 x3 ![0, P, 0] ![1, W, 128] inbk) b⟩

variable {arg3 harg3 arg4 harg4 arg5 harg5 x1 x2 x3 B} in
/-- A stored block holds rows of attention where the biases are the table's. -/
theorem at_cons {W R P lo : ℕ} (n n' : ℕ) (hn : R = 128 * n) (hn' : lo = 128 * n') (hR : R + 128 ≤ 2048) (hlo : W + lo = 640)
    (hP : P + 512 = R + lo) (hz : lo = 0 ∨ P = 0) (ok : Ok W) (inbq : ∀ a, ![0, R, 0] a + ![1, 128, 128] a ≤ S1x2048x128.size a)
    (inbk : ∀ a, ![0, P, 0] a + ![1, W, 128] a ≤ S1x2048x128.size a) (b : Vec Ideal (Mat 128 W) .f32)
    (hb : ∀ (a : Fin 128) (j : Fin W), b (ix2 a j) = B (place (512 + a.val) (lo + j.val)))
    (L : List (View.Piece (Elt Ideal) S1x2048x128 .bf16)) (r : Fin 2048) (e : Fin 128)
    (hL : View.AllAt L (ix3 0 r e) (pointRow x1 x2 x3 B r e)) :
    View.AllAt (piece arg3 harg3 arg4 harg4 arg5 harg5 x1 x2 x3 R P lo ok inbq inbk b :: L) (ix3 0 r e) (pointRow x1 x2 x3 B r e) := by
  refine View.allAt_cons_unit _ _ _ _ _ (fun x hx => ?_) hL
  obtain ⟨u, a, e', rfl⟩ : ∃ (u : Fin 1) (a : Fin 128) (e' : Fin 128), x = ix3 u a e' := ⟨x 0, x 1, x 2, eq_ix3 x⟩
  obtain rfl : u = 0 := Subsingleton.elim _ _
  have h1 : r.val = R + a.val := hx 1
  have h2 : e.val = 0 + e'.val := hx 2
  obtain rfl : e = e' := Fin.ext (by omega)
  refine (block_apply n n' hn hn' hR hlo hP hz ok (fun r d => x1 (ix3 0 r d)) (fun r d => x2 (ix3 0 r d)) (fun r d => x3 (ix3 0 r d)) B
    _ _ _ b (fun a d => rows_ld arg3 harg3 x1 inbq a d _) (fun j d => rows_ld arg4 harg4 x2 inbk j d _)
    (fun j d => rows_ld arg5 harg5 x3 inbk j d _) hb a e).trans ?_
  exact congrArg (fun r => pointRow x1 x2 x3 B r e) (Fin.ext h1.symm)

theorem ok128 : Ok 128 := ⟨shapeCasts_S1x128x128_S128x128, reduces_S128x128_S128, broadcasts_S128x1_S128x128, iota_S128x128_d0_w32, iota_S128x128_d1_w32⟩
theorem ok256 : Ok 256 := ⟨shapeCasts_S1x256x128_S256x128, reduces_S128x256_S128, broadcasts_S128x1_S128x256, iota_S128x256_d0_w32, iota_S128x256_d1_w32⟩
theorem ok384 : Ok 384 := ⟨shapeCasts_S1x384x128_S384x128, reduces_S128x384_S128, broadcasts_S128x1_S128x384, iota_S128x384_d0_w32, iota_S128x384_d1_w32⟩
theorem ok512 : Ok 512 := ⟨shapeCasts_S1x512x128_S512x128, reduces_S128x512_S128, broadcasts_S128x1_S128x512, iota_S128x512_d0_w32, iota_S128x512_d1_w32⟩
theorem ok640 : Ok 640 := ⟨shapeCasts_S1x640x128_S640x128, reduces_S128x640_S128, broadcasts_S128x1_S128x640, iota_S128x640_d0_w32, iota_S128x640_d1_w32⟩

/-- The blocks a point stores, the last first, over the biases it loads for each width of window. -/
def pieces (b128 : Vec Ideal (Mat 128 128) .f32) (b256 : Vec Ideal (Mat 128 256) .f32) (b384 : Vec Ideal (Mat 128 384) .f32)
    (b512 : Vec Ideal (Mat 128 512) .f32) (b640 : Vec Ideal (Mat 128 640) .f32) : List (View.Piece (Elt Ideal) S1x2048x128 .bf16) :=
  [piece arg3 harg3 arg4 harg4 arg5 harg5 x1 x2 x3 1920 1408 0 ok640 inb_S1x2048x128_S1x128x128_0_1920_0 inb_S1x2048x128_S1x640x128_0_1408_0 b640,
   piece arg3 harg3 arg4 harg4 arg5 harg5 x1 x2 x3 1792 1280 0 ok640 inb_S1x2048x128_S1x128x128_0_1792_0 inb_S1x2048x128_S1x640x128_0_1280_0 b640,
   piece arg3 harg3 arg4 harg4 arg5 harg5 x1 x2 x3 1664 1152 0 ok640 inb_S1x2048x128_S1x128x128_0_1664_0 inb_S1x2048x128_S1x640x128_0_1152_0 b640,
   piece arg3 harg3 arg4 harg4 arg5 harg5 x1 x2 x3 1536 1024 0 ok640 inb_S1x2048x128_S1x128x128_0_1536_0 inb_S1x2048x128_S1x640x128_0_1024_0 b640,
   piece arg3 harg3 arg4 harg4 arg5 harg5 x1 x2 x3 1408 896 0 ok640 inb_S1x2048x128_S1x128x128_0_1408_0 inb_S1x2048x128_S1x640x128_0_896_0 b640,
   piece arg3 harg3 arg4 harg4 arg5 harg5 x1 x2 x3 1280 768 0 ok640 inb_S1x2048x128_S1x128x128_0_1280_0 inb_S1x2048x128_S1x640x128_0_768_0 b640,
   piece arg3 harg3 arg4 harg4 arg5 harg5 x1 x2 x3 1152 640 0 ok640 inb_S1x2048x128_S1x128x128_0_1152_0 inb_S1x2048x128_S1x640x128_0_640_0 b640,
   piece arg3 harg3 arg4 harg4 arg5 harg5 x1 x2 x3 1024 512 0 ok640 inb_S1x2048x128_S1x128x128_0_1024_0 inb_S1x2048x128_S1x640x128_0_512_0 b640,
   piece arg3 harg3 arg4 harg4 arg5 harg5 x1 x2 x3 896 384 0 ok640 inb_S1x2048x128_S1x128x128_0_896_0 inb_S1x2048x128_S1x640x128_0_384_0 b640,
   piece arg3 harg3 arg4 harg4 arg5 harg5 x1 x2 x3 768 256 0 ok640 inb_S1x2048x128_S1x128x128_0_768_0 inb_S1x2048x128_S1x640x128_0_256_0 b640,
   piece arg3 harg3 arg4 harg4 arg5 harg5 x1 x2 x3 640 128 0 ok640 inb_S1x2048x128_S1x128x128_0_640_0 inb_S1x2048x128_S1x640x128_0_128_0 b640,
   piece arg3 harg3 arg4 harg4 arg5 harg5 x1 x2 x3 512 0 0 ok640 inb_S1x2048x128_S1x128x128_0_512_0 inb_S1x2048x128_S1x640x128_0_0_0 b640,
   piece arg3 harg3 arg4 harg4 arg5 harg5 x1 x2 x3 384 0 128 ok512 inb_S1x2048x128_S1x128x128_0_384_0 inb_S1x2048x128_S1x512x128_0_0_0 b512,
   piece arg3 harg3 arg4 harg4 arg5 harg5 x1 x2 x3 256 0 256 ok384 inb_S1x2048x128_S1x128x128_0_256_0 inb_S1x2048x128_S1x384x128_0_0_0 b384,
   piece arg3 harg3 arg4 harg4 arg5 harg5 x1 x2 x3 128 0 384 ok256 inb_S1x2048x128_S1x128x128_0_128_0 inb_S1x2048x128_S1x256x128_0_0_0 b256,
   piece arg3 harg3 arg4 harg4 arg5 harg5 x1 x2 x3 0 0 512 ok128 inb_S1x2048x128_S1x128x128_0_0_0 inb_S1x2048x128_S1x128x128_0_0_0 b128]

theorem pieces_at (b128 : Vec Ideal (Mat 128 128) .f32) (b256 : Vec Ideal (Mat 128 256) .f32) (b384 : Vec Ideal (Mat 128 384) .f32)
    (b512 : Vec Ideal (Mat 128 512) .f32) (b640 : Vec Ideal (Mat 128 640) .f32)
    (h128 : ∀ (a : Fin 128) (j : Fin 128), b128 (ix2 a j) = B (place (512 + a.val) (512 + j.val)))
    (h256 : ∀ (a : Fin 128) (j : Fin 256), b256 (ix2 a j) = B (place (512 + a.val) (384 + j.val)))
    (h384 : ∀ (a : Fin 128) (j : Fin 384), b384 (ix2 a j) = B (place (512 + a.val) (256 + j.val)))
    (h512 : ∀ (a : Fin 128) (j : Fin 512), b512 (ix2 a j) = B (place (512 + a.val) (128 + j.val)))
    (h640 : ∀ (a : Fin 128) (j : Fin 640), b640 (ix2 a j) = B (place (512 + a.val) (0 + j.val))) (r : Fin 2048) (e : Fin 128) :
    View.AllAt (pieces arg3 harg3 arg4 harg4 arg5 harg5 x1 x2 x3 b128 b256 b384 b512 b640) (ix3 0 r e) (pointRow x1 x2 x3 B r e) := by
  unfold pieces
  refine at_cons 15 0 rfl rfl (by decide) rfl rfl (.inl rfl) ok640 _ _ b640 h640 _ r e ?_
  refine at_cons 14 0 rfl rfl (by decide) rfl rfl (.inl rfl) ok640 _ _ b640 h640 _ r e ?_
  refine at_cons 13 0 rfl rfl (by decide) rfl rfl (.inl rfl) ok640 _ _ b640 h640 _ r e ?_
  refine at_cons 12 0 rfl rfl (by decide) rfl rfl (.inl rfl) ok640 _ _ b640 h640 _ r e ?_
  refine at_cons 11 0 rfl rfl (by decide) rfl rfl (.inl rfl) ok640 _ _ b640 h640 _ r e ?_
  refine at_cons 10 0 rfl rfl (by decide) rfl rfl (.inl rfl) ok640 _ _ b640 h640 _ r e ?_
  refine at_cons 9 0 rfl rfl (by decide) rfl rfl (.inl rfl) ok640 _ _ b640 h640 _ r e ?_
  refine at_cons 8 0 rfl rfl (by decide) rfl rfl (.inl rfl) ok640 _ _ b640 h640 _ r e ?_
  refine at_cons 7 0 rfl rfl (by decide) rfl rfl (.inl rfl) ok640 _ _ b640 h640 _ r e ?_
  refine at_cons 6 0 rfl rfl (by decide) rfl rfl (.inl rfl) ok640 _ _ b640 h640 _ r e ?_
  refine at_cons 5 0 rfl rfl (by decide) rfl rfl (.inl rfl) ok640 _ _ b640 h640 _ r e ?_
  refine at_cons 4 0 rfl rfl (by decide) rfl rfl (.inl rfl) ok640 _ _ b640 h640 _ r e ?_
  refine at_cons 3 1 rfl rfl (by decide) rfl rfl (.inr rfl) ok512 _ _ b512 h512 _ r e ?_
  refine at_cons 2 2 rfl rfl (by decide) rfl rfl (.inr rfl) ok384 _ _ b384 h384 _ r e ?_
  refine at_cons 1 3 rfl rfl (by decide) rfl rfl (.inr rfl) ok256 _ _ b256 h256 _ r e ?_
  refine at_cons 0 4 rfl rfl (by decide) rfl rfl (.inr rfl) ok128 _ _ b128 h128 _ r e ?_
  exact View.allAt_nil _ _

/-- The scratch holds the table's biases at the places of the window. -/
def Holds (X : Vec Ideal S128x640 .f32) : Prop := ∀ (a : Fin 128) (c : Fin 640), X (ix2 a c) = B (place (512 + a.val) c.val)

theorem out_B_apply (c : Dev nD) (hc : ¬cond0_0 i) (hx : Holds B xs) (r : Fin 2048) (e : Fin 128) :
    out0_B_4 (F := Ideal) c i arg2 harg2 arg3 harg3 arg4 harg4 arg5 harg5 arg6 harg6 arg7 harg7 hc x0 x1 x2 x3 xs (ix3 0 r e)
      = pointRow x1 x2 x3 B r e := by
  have hb : ∀ (W lo : ℕ) (hlo : W + lo = 640) (inb : ∀ a, ![0, lo] a + ![128, W] a ≤ S128x640.size a) (a : Fin 128) (j : Fin W),
      ld arg7 harg7 xs ![0, lo] ![128, W] inb (ix2 a j) = B (place (512 + a.val) (lo + j.val)) := fun W lo hlo inb a j =>
    (harg7.readAt_unread xs _ _).trans ((cols_ld xs inb a j (by omega)).trans (hx _ _))
  unfold out0_B_4
  rw [View.read_writes_junk_eq_canon]
  refine View.canon_eq_of_allAt _ _ _ (cover0_B_4 (y := ix3 0 r e) ..) ?_
  unfold kernelRun0_B
  dsimp only
  exact pieces_at arg3 harg3 arg4 harg4 arg5 harg5 x1 x2 x3 B _ _ _ _ _ (hb 128 512 rfl inb_S128x640_S128x128_0_512)
    (hb 256 384 rfl inb_S128x640_S128x256_0_384) (hb 384 256 rfl inb_S128x640_S128x384_0_256) (hb 512 128 rfl inb_S128x640_S128x512_0_128)
    (hb 640 0 rfl inb_S128x640_S128x640_0_0) r e

theorem zero2 : (![0, 0] : Fin 2 → ℕ) = fun _ => 0 := funext fun a => by match a with | ⟨0, _⟩ => rfl | ⟨1, _⟩ => rfl

theorem zero3 : (![0, 0, 0] : Fin 3 → ℕ) = fun _ => 0 := funext fun a => by match a with | ⟨0, _⟩ => rfl | ⟨1, _⟩ => rfl | ⟨2, _⟩ => rfl

/-- The row of biases as the point loads it is the row staged. -/
theorem row_ld : ld arg2 harg2 x0 ![0, 0, 0] S1x1x1024.size inb_S1x1x1024_S1x1x1024_0_0_0 = x0 :=
  (funext (harg2.readAt_unread x0 _)).trans (View.ld_unit_zero zero3 _ _)

/-- Columns of the scratch from `lo` on, loaded after the whole of it was stored. -/
abbrev held (X : Vec Ideal S128x640 .f32) (W lo : ℕ) (inb : ∀ a, ![0, lo] a + ![128, W] a ≤ S128x640.size a) :
    Vec Ideal (Rect.unit (s := S128x640) ![0, lo] ![128, W] inb).shape .f32 :=
  View.readCov (Val := Elt Ideal) arg7.view [(⟨Rect.unit ![0, 0] S128x640.size inb_S128x640_S128x640_0_0, X⟩ : View.Piece (Elt Ideal) S128x640 .f32)]
    (Rect.unit (s := S128x640) ![0, lo] ![128, W] inb).toLoadRect

theorem stored (X : Vec Ideal S128x640 .f32) :
    View.canon (Val := Elt Ideal) [(⟨Rect.unit ![0, 0] S128x640.size inb_S128x640_S128x640_0_0, X⟩ : View.Piece (Elt Ideal) S128x640 .f32)] = X :=
  View.canon_unit_zero zero2 inb_S128x640_S128x640_0_0 X

theorem stored_covers (X : Vec Ideal S128x640 .f32) (y : S128x640.Idx) :
    ∃ p ∈ [(⟨Rect.unit ![0, 0] S128x640.size inb_S128x640_S128x640_0_0, X⟩ : View.Piece (Elt Ideal) S128x640 .f32)], y ∈ p.1.set :=
  ⟨_, List.mem_singleton_self _, View.mem_set_unit_zero zero2 inb_S128x640_S128x640_0_0 y⟩

theorem held_eq (X : Vec Ideal S128x640 .f32) (W lo : ℕ) (inb : ∀ a, ![0, lo] a + ![128, W] a ≤ S128x640.size a) :
    held arg7 X W lo inb = View.ld X (Rect.unit (s := S128x640) ![0, lo] ![128, W] inb) := by
  unfold held
  rw [View.readCov_eq_canon_ld _ _ _ (stored_covers X), stored]

theorem out_A_apply (c : Dev nD) (hc : cond0_0 i) (hx : Holds B (k0_pay2 x0)) (r : Fin 2048) (e : Fin 128) :
    out0_A_4 (F := Ideal) c i arg2 harg2 arg3 harg3 arg4 harg4 arg5 harg5 arg6 harg6 arg7 harg7 hc x0 x1 x2 x3 (ix3 0 r e)
      = pointRow x1 x2 x3 B r e := by
  have hb : ∀ (W lo : ℕ) (hlo : W + lo = 640) (inb : ∀ a, ![0, lo] a + ![128, W] a ≤ S128x640.size a) (a : Fin 128) (j : Fin W),
      held arg7 (k0_pay2 (ld arg2 harg2 x0 ![0, 0, 0] S1x1x1024.size inb_S1x1x1024_S1x1x1024_0_0_0)) W lo inb (ix2 a j)
        = B (place (512 + a.val) (lo + j.val)) := fun W lo hlo inb a j => by
    rw [row_ld, held_eq]
    exact (cols_ld (k0_pay2 x0) inb a j (by omega)).trans (hx _ _)
  unfold out0_A_4
  rw [View.read_writes_junk_eq_canon]
  refine View.canon_eq_of_allAt _ _ _ (cover0_A_4 (y := ix3 0 r e) ..) ?_
  unfold kernelRun0_A
  dsimp only
  exact pieces_at arg3 harg3 arg4 harg4 arg5 harg5 x1 x2 x3 B _ _ _ _ _ (hb 128 512 rfl inb_S128x640_S128x128_0_512)
    (hb 256 384 rfl inb_S128x640_S128x256_0_384) (hb 384 256 rfl inb_S128x640_S128x384_0_256) (hb 512 128 rfl inb_S128x640_S128x512_0_128)
    (hb 640 0 rfl inb_S128x640_S128x640_0_0) r e

/-- The scratch a point that sets it leaves. -/
theorem scratch_A (c : Dev nD) (hc : cond0_0 i) :
    sout0_A_0 (F := Ideal) c i arg2 harg2 arg3 harg3 arg4 harg4 arg5 harg5 arg6 harg6 arg7 harg7 hc x0 x1 x2 x3 = k0_pay2 x0 := by
  unfold sout0_A_0
  rw [View.read_writes_junk_eq_canon]
  unfold kernelRun0_A
  dsimp only
  refine (stored (k0_pay2 (ld arg2 harg2 x0 ![0, 0, 0] S1x1x1024.size inb_S1x1x1024_S1x1x1024_0_0_0))).trans ?_
  rw [row_ld]

end Cert.BandIdeal.Hand

end
-- ==== Proof.BandRef.lean ====
/- The banded attention's reference read at an index of its result: a row of attention over the keys of the row's chunk and
   the eight chunks before it, the biases taken from the table at the clipped distances, provided the arguments are real. -/
module

public import proofs.«01_k».proof.Proof.Gen.BandRefIdeal.Read
public import proofs.«01_k».proof.Proof.BandBlock
public import proofs.«01_k».proof.Proof.FoxRef
public import proofs.«01_k».proof.Proof.Real
public import Idealize.ShloMosaic.Lib.WordCmp
public import Idealize.ShloMosaic.Lib.Routing.Words

@[expose] public section

set_option maxRecDepth 16384

noncomputable section

namespace Cert.BandIdeal.Hand

open Cert.Attn Cert.BandRefIdeal Cert.BandRefIdeal.Gen Cert.BandRefIdeal.Read Idealize.ShloMosaic Idealize.ShloMosaic.ValueIdx
open Cert.FoxIdeal.Hand (part ext3)

variable (z : Vec Ideal S4x2048x6144 .bf16) (tab : Vec Ideal S8x513 .f32)

theorem q_at (b : Fin 4) (r : Fin 2048) (h : Fin 8) (d : Fin 128) :
    val_main_v2 (F := Ideal) z (ix4 b r h d) = part z 0 (by decide) b h r d := by
  rw [val_main_v2_apply, val_main_v1_apply]
  refine congrArg z (ext3 ?_ ?_ ?_)
  · show (((b.val * 2048 + r.val) * 8 + h.val) * 128 + d.val) / 2097152 = b.val; omega
  · show (((b.val * 2048 + r.val) * 8 + h.val) * 128 + d.val) / 1024 % 2048 = r.val; omega
  · show (((b.val * 2048 + r.val) * 8 + h.val) * 128 + d.val) % 1024 = 0 + (h.val * 128 + d.val); omega

theorem k_at (b : Fin 4) (r : Fin 2048) (h : Fin 8) (d : Fin 128) :
    val_main_v4 (F := Ideal) z (ix4 b r h d) = part z 1024 (by decide) b h r d := by
  rw [val_main_v4_apply, val_main_v3_apply]
  refine congrArg z (ext3 ?_ ?_ ?_)
  · show (((b.val * 2048 + r.val) * 8 + h.val) * 128 + d.val) / 2097152 = b.val; omega
  · show (((b.val * 2048 + r.val) * 8 + h.val) * 128 + d.val) / 1024 % 2048 = r.val; omega
  · show 1024 + (((b.val * 2048 + r.val) * 8 + h.val) * 128 + d.val) % 1024 = 1024 + (h.val * 128 + d.val); omega

theorem v_at (b : Fin 4) (r : Fin 2048) (h : Fin 8) (d : Fin 128) :
    val_main_v6 (F := Ideal) z (ix4 b r h d) = part z 2048 (by decide) b h r d := by
  rw [val_main_v6_apply, val_main_v5_apply]
  refine congrArg z (ext3 ?_ ?_ ?_)
  · show (((b.val * 2048 + r.val) * 8 + h.val) * 128 + d.val) / 2097152 = b.val; omega
  · show (((b.val * 2048 + r.val) * 8 + h.val) * 128 + d.val) / 1024 % 2048 = r.val; omega
  · show 2048 + (((b.val * 2048 + r.val) * 8 + h.val) * 128 + d.val) % 1024 = 2048 + (h.val * 128 + d.val); omega

/-! ## The biases: the table gathered at the clipped distances -/

theorem toInt_of {x : BitVec 32} {e : Int} (h : Affine.IsInt x e) : x.toInt = e := by
  unfold Affine.IsInt at h
  exact h

/-- The clipped distance of a row and a key, moved to start at zero, as a word. -/
theorem place_word {r j : ℕ} (hr : r < 2048) (hj : j < 2048) :
    IntOp.addi (IntOp.minsi 256#32 (IntOp.maxsi 4294967040#32 (IntOp.subi (BitVec.ofNat 32 r) (BitVec.ofNat 32 j)))) 256#32
      = BitVec.ofNat 32 (place r j).val := by
  refine BitVec.eq_of_toInt_eq ?_
  rw [WordCmp.toInt_ofNat_of_lt (lt_of_lt_of_le (place r j).isLt (by decide))]
  refine toInt_of (Affine.addi (Affine.minsi (Affine.ofNat 256 ⟨rfl, by decide⟩) (Affine.maxsi (Affine.ofNat_neg 4294967040 ⟨rfl, by decide, by decide⟩)
    (Affine.subi (Affine.ofNat r ⟨rfl, by omega⟩) (Affine.ofNat j ⟨rfl, by omega⟩) ⟨rfl, by omega, by omega⟩) rfl) rfl) (Affine.ofNat 256 ⟨rfl, by decide⟩)
    ⟨?_, by omega, by omega⟩)
  show ((min (r + 256 - j) 512 : ℕ) : Int) = _
  omega

theorem place_at (r j : Fin 2048) : val_main_v24 (F := Ideal) (ix3 r j 0) = BitVec.ofNat 32 (place r.val j.val).val := by
  have h : val_main_v18 (F := Ideal) (idx_main_v24 (ix3 r j 0)) = BitVec.ofNat 32 (place r.val j.val).val := by
    rw [val_main_v18_apply, val_main_v16_apply, val_main_call0_v4_apply, val_main_call0_v3_apply, val_main_c_0_apply,
      val_main_call0_v2_apply, val_main_call0_v1_apply, val_main_call0_v0_apply, val_main_c_apply, val_main_v15_apply,
      val_main_v13_apply, val_main_v11_apply, val_main_v10_apply, val_main_v14_apply, val_main_v12_apply, val_main_v10_apply,
      val_main_v17_apply, val_main_c_1_apply]
    exact place_word r.isLt j.isLt
  rw [val_main_v24_apply, val_main_v23_apply, val_main_v20_apply, h, val_main_v19_apply, val_main_c_2_apply,
    show (0#32 : BitVec 32) = BitVec.ofNat 32 0 from rfl,
    WordCmp.cmpi_slt_ofNat (lt_of_lt_of_le (place r.val j.val).isLt (by decide)) (by decide)]
  rfl

/-- The gathered biases: a row of the table at the place of a row and a key. -/
theorem gather_at (ix : IVec S2048x2048x1 32) (h : Fin 8) (r j : Fin 2048) (p : Fin 513) (hp : ix (ix3 r j 0) = BitVec.ofNat 32 p.val) :
    Host.gather gather_S8x513_S2048x2048x1_S8x2048x2048_0_1_n_n_1_2_81 tab ix (ix3 h r j) = tab (ix2 h p) := by
  unfold Host.gather
  refine congrArg tab (funext fun a => Fin.ext ?_)
  show GatherDims.start _ (ix3 h r j) ix a + GatherDims.batchCoord _ (ix3 h r j) a + GatherDims.offCoord _ (ix3 h r j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (by decide), dif_pos (by decide)]
    exact Nat.zero_add _
  · rw [GatherDims.offCoord_eq_zero _ _ _ (fun hk => ((GatherDims.mem_sKept _ _).mp hk).1 (List.mem_singleton.mpr rfl))]
    unfold GatherDims.start
    rw [dif_pos (by decide)]
    have hi : gather_S8x513_S2048x2048x1_S8x2048x2048_0_1_n_n_1_2_81.siIdx (ix3 h r j)
        ⟨List.idxOf (1 : Fin 2) gather_S8x513_S2048x2048x1_S8x2048x2048_0_1_n_n_1_2_81.startIndexMap,
          List.idxOf_lt_length_iff.2 (List.mem_singleton.mpr rfl)⟩ = ix3 r j 0 := by
      funext b
      refine Fin.ext ?_
      match b with
      | ⟨0, _⟩ => rfl
      | ⟨1, _⟩ => rfl
      | ⟨2, _⟩ => rfl
    rw [hi, hp]
    have := p.isLt
    show min (BitVec.ofNat 32 p.val).toInt.toNat 512 = p.val
    rw [WordCmp.toInt_ofNat_of_lt (lt_of_lt_of_le p.isLt (by decide))]
    omega

/-! ## The mask: the chunks of a row and a key -/

theorem chunk_row (i : S2048.Idx) : val_main_v29 (F := Ideal) i = BitVec.ofNat 32 ((i 0).val / 64) :=
  Routing.pyDiv_ap bcast_S_S2048 (val_main_v10 (F := Ideal)) (val_main_call1_v0 (F := Ideal)) i (a := (i 0).val) (b := 64) rfl rfl
    (lt_of_lt_of_le (i 0).isLt (by decide)) (by decide) (by decide)

theorem chunk_col (i : S2048.Idx) : val_main_v31 (F := Ideal) i = BitVec.ofNat 32 ((i 0).val / 64) :=
  Routing.pyDiv_ap bcast_S_S2048 (val_main_v10 (F := Ideal)) (val_main_call2_v0 (F := Ideal)) i (a := (i 0).val) (b := 64) rfl rfl
    (lt_of_lt_of_le (i 0).isLt (by decide)) (by decide) (by decide)

theorem seen_at (b : Fin 4) (h : Fin 8) (r j : Fin 2048) :
    val_main_call3_v1 (F := Ideal) (ix4 b h r j) = BitVec.ofBool (decide (Seen r.val j.val)) := by
  have hr := r.isLt
  have hj := j.isLt
  rw [val_main_call3_v1_apply, val_main_v42_apply, val_main_v41_apply, val_main_v35_apply, val_main_v33_apply, val_main_v34_apply,
    val_main_v32_apply, val_main_v30_apply, val_main_v40_apply, val_main_v38_apply, val_main_v37_apply, val_main_v30_apply,
    val_main_v36_apply, val_main_c_6_apply, val_main_v39_apply, val_main_v32_apply, chunk_row, chunk_col]
  show IntOp.andi (IntOp.cmpi .sle (BitVec.ofNat 32 (j.val / 64)) (BitVec.ofNat 32 (r.val / 64)))
    (IntOp.cmpi .sle (IntOp.subi (BitVec.ofNat 32 (r.val / 64)) 8#32) (BitVec.ofNat 32 (j.val / 64))) = _
  have h8 : (IntOp.subi (BitVec.ofNat 32 (r.val / 64)) 8#32).toInt = (r.val / 64 : ℕ) - 8 :=
    toInt_of (Affine.subi (Affine.ofNat (r.val / 64) ⟨rfl, by omega⟩) (Affine.ofNat 8 ⟨rfl, by decide⟩) ⟨rfl, by omega, by omega⟩)
  rw [WordCmp.cmpi_sle_ofNat (by omega) (by omega), WordCmp.cmpi_sle_eq, h8, WordCmp.toInt_ofNat_of_lt (by omega), WordCmp.andi_ofBool]
  refine congrArg BitVec.ofBool ?_
  rw [← Bool.decide_and]
  refine decide_eq_decide.2 ?_
  unfold Seen
  omega

/-! ## The row -/

/-- The reference's masked scores. -/
abbrev refScores (b : Fin 4) (h : Fin 8) (r : Fin 2048) : Fin 2048 → EReal :=
  rowScores (part z 0 (by decide) b h) (part z 1024 (by decide) b h) (fun p => tab (ix2 h p)) r

theorem score_at (b : Fin 4) (h : Fin 8) (r j : Fin 2048) :
    val_main_v43 (F := Ideal) z tab (ix4 b h r j) = refScores z tab b h r j := by
  have hb : val_main_v27 (F := Ideal) tab (ix4 b h r j) = tab (ix2 h (place r.val j.val)) := by
    have hi : idx_main_v26 (idx_main_v27 (ix4 b h r j)) = ix3 h r j := ext3 rfl rfl rfl
    rw [val_main_v27_apply, val_main_v26_apply, hi]
    unfold val_main_v25
    exact gather_at tab _ h r j _ (place_at r j)
  have hs : val_main_v28 (F := Ideal) z tab (ix4 b h r j) = score (part z 0 (by decide) b h r) (part z 1024 (by decide) b h j)
      (tab (ix2 h (place r.val j.val))) := by
    rw [val_main_v28_apply, hb, val_main_v9_apply, val_main_v8_apply, val_main_cst_apply, val_main_v7_apply]
    refine congrArg (fun x : EReal => x * scale + tab (ix2 h (place r.val j.val))) (Finset.sum_congr rfl fun d _ => congrArg₂ (fun x y : EReal => x * y) ?_ ?_)
    · rw [← q_at]; exact congrArg _ (funext fun a => Fin.ext (by match a with | ⟨0, _⟩ => rfl | ⟨1, _⟩ => rfl | ⟨2, _⟩ => rfl | ⟨3, _⟩ => rfl))
    · rw [← k_at]; exact congrArg _ (funext fun a => Fin.ext (by match a with | ⟨0, _⟩ => rfl | ⟨1, _⟩ => rfl | ⟨2, _⟩ => rfl | ⟨3, _⟩ => rfl))
  rw [val_main_v43_apply, seen_at, hs]
  unfold refScores rowScores
  by_cases hle : Seen r.val j.val
  · rw [if_pos hle, decide_eq_true hle]; rfl
  · rw [if_neg hle, decide_eq_false hle]; exact Attn.neg_inf

theorem max_at (b : Fin 4) (h : Fin 8) (r : Fin 2048) : val_main_v44 (F := Ideal) z tab (ix3 b h r)
    = Finset.univ.fold max (Ideal.ofBits .f32 0xFF800000#32) fun j => val_main_v43 (F := Ideal) z tab (ix4 b h r j) := by
  unfold val_main_v44
  generalize val_main_v43 (F := Ideal) z tab = y
  have hr : S4x8x2048x2048.Reduces [3] S4x8x2048 := by decide
  rw [Host.reduce_eq_fold_single (FloatOps.maximumf (F := Ideal) (φ := .f32)) y _ _ hr]
  refine congrArg (fun f => Finset.univ.fold max (Ideal.ofBits .f32 0xFF800000#32) f) (funext fun j => congrArg y ?_)
  exact funext fun a => Fin.ext (by match a with | ⟨0, _⟩ => rfl | ⟨1, _⟩ => rfl | ⟨2, _⟩ => rfl | ⟨3, _⟩ => rfl)

theorem top_at (b : Fin 4) (h : Fin 8) (r : Fin 2048) :
    val_main_v46 (F := Ideal) z tab (ix3 b h r) = Attn.top (refScores z tab b h r) := by
  rw [val_main_v46_apply, max_at, val_main_v45_apply, funext fun j => score_at z tab b h r j]
  generalize refScores z tab b h r = s
  show max (Ideal.ofBits .f32 0xFF800000#32) (Finset.univ.fold max (Ideal.ofBits .f32 0xFF800000#32) s) = Finset.univ.sup s
  rw [Attn.neg_inf]
  exact max_eq_right bot_le

theorem exp_at (b : Fin 4) (h : Fin 8) (r j : Fin 2048) : val_main_v50 (F := Ideal) z tab (ix4 b h r j)
    = Ideal.exp (refScores z tab b h r j - Attn.top (refScores z tab b h r)) := by
  have hi : idx_main_v47 (idx_main_v48 (ix4 b h r j)) = ix3 b h r := ext3 rfl rfl rfl
  rw [val_main_v50_apply, val_main_v49_apply, score_at, val_main_v48_apply, val_main_v47_apply, hi, top_at]
  generalize refScores z tab b h r = s
  rfl

theorem total_at (b : Fin 4) (h : Fin 8) (r : Fin 2048) : val_main_v51 (F := Ideal) z tab (ix3 b h r)
    = Attn.total (Attn.top (refScores z tab b h r)) (refScores z tab b h r) := by
  rw [val_main_v51_apply]
  refine (congrArg₂ (fun x y : EReal => x + y) Ideal.ofBits_zero_f32 (Finset.sum_congr rfl fun j _ => ?_)).trans (zero_add _)
  rw [← exp_at]
  exact congrArg _ (funext fun a => Fin.ext (by match a with | ⟨0, _⟩ => rfl | ⟨1, _⟩ => rfl | ⟨2, _⟩ => rfl | ⟨3, _⟩ => rfl))

/-- The reference's value for a row and a lane of a head. -/
theorem value_at (hz : ∀ i, IsReal (z i)) (ht : ∀ i, IsReal (tab i)) (hs : IsReal scale) (b : Fin 4) (h : Fin 8) (r : Fin 2048) (e : Fin 128) :
    val_main_v55 (F := Ideal) z tab (ix4 b h e r)
      = row (part z 0 (by decide) b h) (part z 1024 (by decide) b h) (part z 2048 (by decide) b h) (fun p => tab (ix2 h p)) r e := by
  have hv : ∀ j : Fin 2048, IsReal (score (part z 0 (by decide) b h r) (part z 1024 (by decide) b h j) (tab (ix2 h (place r.val j.val)))) :=
    fun j => isReal_add (isReal_mul (isReal_sum fun d => isReal_mul (hz _) (hz _)) hs) (ht _)
  rw [val_main_v55_apply]
  refine Eq.trans (congrArg (fun z : EReal => z) (Finset.sum_congr rfl fun j _ => congrArg₂ (fun x y : EReal => x * y)
      (x' := part z 2048 (by decide) b h j e)
      (y' := Ideal.div (Ideal.exp (refScores z tab b h r j - Attn.top (refScores z tab b h r)))
        (Attn.total (Attn.top (refScores z tab b h r)) (refScores z tab b h r))) ?_ ?_))
    (Attn.value_eq (refScores z tab b h r) (fun j => part z 2048 (by decide) b h j e) (fun j => hz _) (fun j => ?_) r ?_)
  · rw [← v_at]
    exact congrArg _ (funext fun a => Fin.ext (by match a with | ⟨0, _⟩ => rfl | ⟨1, _⟩ => rfl | ⟨2, _⟩ => rfl | ⟨3, _⟩ => rfl))
  · have hi : ridx_main_v55 (ix4 b h e r) j = ix4 b h r j :=
      funext fun a => Fin.ext (by match a with | ⟨0, _⟩ => rfl | ⟨1, _⟩ => rfl | ⟨2, _⟩ => rfl | ⟨3, _⟩ => rfl)
    have hi' : idx_main_v52 (idx_main_v53 (ix4 b h r j)) = ix3 b h r := ext3 rfl rfl rfl
    rw [hi, val_main_v54_apply, val_main_v53_apply, val_main_v52_apply, hi', exp_at, total_at]
    generalize refScores z tab b h r = s
    rfl
  · unfold refScores rowScores
    split
    · exact Or.inr (hv j)
    · exact Or.inl rfl
  · unfold refScores rowScores
    rw [if_pos (show Seen r.val r.val from ⟨le_rfl, Nat.le_add_right _ _⟩)]
    exact hv r

end Cert.BandIdeal.Hand

end
-- ==== Proof.BandValue.lean ====
/- The banded attention: the result array is the reference's when the arguments are finite. The grid is the heads by the
   batches; a head's first point builds the head's biases in a scratch from the row the host laid out for it, and the
   head's other points keep them. -/
module

public import proofs.«01_k».proof.Proof.Gen.BandIdeal.Value
public import proofs.«01_k».proof.Proof.BandKernel
public import proofs.«01_k».proof.Proof.BandRef
public import proofs.«01_k».proof.Proof.Common
public import proofs.«01_k».proof.Pre_finite_band
public import Idealize.ShloMosaic.Lib.StableHlo.RunRead

@[expose] public section

set_option maxRecDepth 16384

noncomputable section

namespace Cert.Pre_finite_band.Gen

/-- The precondition's side conditions. -/
instance facts : Cert.Pre_finite_band.Facts := by constructor <;> decide

end Cert.Pre_finite_band.Gen

namespace Cert.BandIdeal.Hand

open Cert.BandIdeal Cert.BandIdeal.Gen Cert.BandIdeal.Value Idealize.ShloMosaic Idealize.ShloMosaic.TcCoe Idealize.SL.Sem
open Idealize.ShloMosaic.ValueIdx
open Cert.Attn (IsReal)
open Cert.FoxIdeal.Hand (part ext3)

/-! ## The rows of biases the host lays out -/

/-- The table's last column, one entry a head, spread over `N` places: what the host puts at either end of a head's row of
    biases. -/
def spread (N : ℕ) (t : Vec Ideal S8x513 .f32) (hb : S1x8x1x1.BroadcastsInDim ⟨4, ![1, 8, N, 1]⟩ ![0, 1, 2, 3])
    (hs : (⟨4, ![1, 8, N, 1]⟩ : Shape).ShapeCasts ⟨2, ![8, N]⟩) : FVec Ideal ⟨2, ![8, N]⟩ .f32 :=
  shapeCast ⟨2, ![8, N]⟩ (broadcastInDim ⟨4, ![1, 8, N, 1]⟩ ![0, 1, 2, 3] hb
    (shapeCast S1x8x1x1 (extractStridedSlice S8x1 ![0, 512] t slices_S8x513_S8x1_0_512) shapeCasts_S8x1_S1x8x1x1)) hs

theorem spread_apply (N : ℕ) (t : Vec Ideal S8x513 .f32) (hb) (hs) (h : Fin 8) (x : Fin N) :
    spread N t hb hs (ix2 h x) = t (ix2 h 512) := by
  unfold spread
  refine (shapeCast_apply _ _ (ix2 h x) (ix4 0 h x 0) ?_).trans ?_
  · rw [Shape.rowMajor_val_four, Shape.rowMajor_val_two]
    show ((0 * 8 + h.val) * N + x.val) * 1 + 0 = h.val * N + x.val
    rw [Nat.zero_mul, Nat.zero_add, Nat.mul_one, Nat.add_zero]
  refine (broadcastInDim_apply _ _ _ (ix4 0 h x 0) (ix4 0 h 0 0) (fun a => by
    match a with | ⟨0, _⟩ => rfl | ⟨1, _⟩ => rfl | ⟨2, _⟩ => rfl | ⟨3, _⟩ => rfl)).trans ?_
  refine (shapeCast_apply _ _ (ix4 0 h 0 0) (ix2 h 0) ?_).trans ?_
  · rw [Shape.rowMajor_val_four, Shape.rowMajor_val_two]
    show h.val * 1 + 0 = ((0 * 8 + h.val) * 1 + 0) * 1 + 0
    omega
  exact extractStridedSlice_apply _ _ _ (ix2 h 0) (ix2 h 512) (fun a => by
    match a with | ⟨0, _⟩ => exact (Nat.zero_add _).symm | ⟨1, _⟩ => rfl)

/-- The pieces the host joins into the heads' rows of biases: the last column, the table reversed, the last column. -/
abbrev firstPiece (t : Vec Ideal S8x513 .f32) : FVec Ideal S8x256 .f32 :=
  spread 256 t bcast_S1x8x1x1_S1x8x256x1_0_1_2_3 shapeCasts_S1x8x256x1_S8x256

abbrev lastPiece (t : Vec Ideal S8x513 .f32) : FVec Ideal S8x255 .f32 :=
  spread 255 t bcast_S1x8x1x1_S1x8x255x1_0_1_2_3 shapeCasts_S1x8x255x1_S8x255

abbrev joined (t : Vec Ideal S8x513 .f32) : List ((s : Shape) × (s.Idx → EReal)) :=
  [⟨S8x256, firstPiece t⟩, ⟨S8x513, Host.reverse [1] t⟩, ⟨S8x255, lastPiece t⟩]

/-- The heads' rows of biases. -/
def biasRows (t : Vec Ideal S8x513 .f32) : FVec Ideal S8x1x1024 .f32 :=
  broadcastInDim S8x1x1024 ![0, 2] bcast_S8x1024_S8x1x1024_0_2
    (concatenate S8x1024 1 (joined t) concatenates_S8x256_S8x513_S8x255_S8x1024_d1)

theorem biasRows_apply (t : Vec Ideal S8x513 .f32) (h : Fin 8) (x : Fin 1024) :
    biasRows t (ix3 h 0 x)
      = if hx : 256 ≤ x.val ∧ x.val < 769 then t (ix2 h ⟨768 - x.val, by omega⟩) else t (ix2 h 512) := by
  have hl := x.isLt
  unfold biasRows
  refine (broadcastInDim_apply _ _ _ (ix3 h 0 x) (ix2 h x) (fun a => by match a with | ⟨0, _⟩ => rfl | ⟨1, _⟩ => rfl)).trans ?_
  by_cases h0 : x.val < 256
  · rw [dif_neg (by omega)]
    refine (concatenate_apply_piece (1 : Fin S8x1024.rank) (joined t) _ (ix2 h x) 0 (by show 0 < 3; decide) S8x256 (firstPiece t) rfl rfl 0 rfl (ix2 h ⟨x.val, h0⟩)
      (fun b hb => ?_) (Nat.zero_add _)).trans (spread_apply _ t _ _ h _)
    match b with
    | ⟨0, _⟩ => rfl
    | ⟨1, _⟩ => exact absurd rfl hb
  by_cases h1 : x.val < 769
  · rw [dif_pos ⟨by omega, h1⟩]
    refine (concatenate_apply_piece (1 : Fin S8x1024.rank) (joined t) _ (ix2 h x) 1 (by show 1 < 3; decide) S8x513 (Host.reverse [1] t) rfl rfl 256 rfl (ix2 h ⟨x.val - 256, by omega⟩)
      (fun b hb => ?_) (by show 256 + (x.val - 256) = x.val; omega)).trans ?_
    · match b with
      | ⟨0, _⟩ => rfl
      | ⟨1, _⟩ => exact absurd rfl hb
    · refine congrArg t (funext fun a => Fin.ext ?_)
      match a with
      | ⟨0, _⟩ => rfl
      | ⟨1, _⟩ => show 513 - (x.val - 256 + 1) = 768 - x.val; omega
  · rw [dif_neg (by omega)]
    refine (concatenate_apply_piece (1 : Fin S8x1024.rank) (joined t) _ (ix2 h x) 2 (by show 2 < 3; decide) S8x255 (lastPiece t) rfl rfl 769 rfl (ix2 h ⟨x.val - 769, by omega⟩)
      (fun b hb => ?_) (by show 769 + (x.val - 769) = x.val; omega)).trans (spread_apply _ t _ _ h _)
    match b with
    | ⟨0, _⟩ => rfl
    | ⟨1, _⟩ => exact absurd rfl hb

/-- A scratch built from a head's row of biases holds the table's entry of each distance. -/
theorem holds_of_row (t : Vec Ideal S8x513 .f32) (h : Fin 8) (X : Vec Ideal S1x1x1024 .f32)
    (hX : ∀ x : Fin 1024, X (ix3 0 0 x) = biasRows t (ix3 h 0 x)) : Holds (fun p => t (ix2 h p)) (k0_pay2 X) := fun a c => by
  have ha := a.isLt
  have hc := c.isLt
  rw [biases_apply, hX, biasRows_apply]
  split
  · next hx =>
    refine congrArg (fun p => t (ix2 h p)) (Fin.ext ?_)
    show 768 - (c.val + 1024 - a.val) % 1024 = min (512 + a.val + 256 - c.val) 512
    dsimp only at hx
    omega
  · next hx =>
    refine congrArg (fun p => t (ix2 h p)) (Fin.ext ?_)
    show 512 = min (512 + a.val + 256 - c.val) 512
    dsimp only at hx
    omega

variable (m : (ℓ : Loc nD τ sig) → Buf (Elt Ideal) ℓ)

theorem V_main_v9 (c : Dev nD) : (V m c main_v9 : FVec Ideal S8x1x1024 .f32) = biasRows (m ((c : Thread nD τ).loc main_arg1)) := by
  unfold V
  after_reads_simp
  unfold biasRows
  have e0 : StableHlo.upto [hostOps0 (F := Ideal), hostOps0_1, hostOps0_2].flatten (fun b => m (c, b)) 8 (Proc.tc.devRef main_v3)
      = firstPiece (m ((c : Thread nD τ).loc main_arg1)) := by
    after_reads_simp
    rfl
  have e1 : StableHlo.upto [hostOps0 (F := Ideal), hostOps0_1, hostOps0_2].flatten (fun b => m (c, b)) 8 (Proc.tc.devRef main_v4)
      = Host.reverse [1] (m ((c : Thread nD τ).loc main_arg1)) := by
    after_reads_simp
    rfl
  have e2 : StableHlo.upto [hostOps0 (F := Ideal), hostOps0_1, hostOps0_2].flatten (fun b => m (c, b)) 8 (Proc.tc.devRef main_v7)
      = lastPiece (m ((c : Thread nD τ).loc main_arg1)) := by
    after_reads_simp
    rfl
  unfold joined
  rw [← e0, ← e1, ← e2]
  rfl
/-! ## The blocks a point stages -/

/-- The printed index maps over the grid. -/
theorem idx_in : ∀ t : Fin cfg0.N, (win0_0.index t 0 = t.val / 4 ∧ win0_0.index t 1 = 0 ∧ win0_0.index t 2 = 0)
    ∧ (win0_1.index t 0 = t.val % 4 ∧ win0_1.index t 1 = 0 ∧ win0_1.index t 2 = t.val / 4)
    ∧ (win0_2.index t 0 = t.val % 4 ∧ win0_2.index t 1 = 0 ∧ win0_2.index t 2 = 8 + t.val / 4)
    ∧ (win0_3.index t 0 = t.val % 4 ∧ win0_3.index t 1 = 0 ∧ win0_3.index t 2 = 16 + t.val / 4)
    ∧ (win0_4.index t 0 = t.val % 4 ∧ win0_4.index t 1 = 0 ∧ win0_4.index t 2 = t.val / 4) :=
  (by decide +kernel : ∀ t : Fin grid0.N, _)

variable (c : Dev nD) (t : Fin cfg0.N)

/-- The table the call takes. -/
abbrev table : Vec Ideal S8x513 .f32 := m ((c : Thread nD τ).loc main_arg1)

theorem iblk0 (h : Fin 8) (hh : h.val = t.val / 4) (x : Fin 1024) :
    (iblk m c 0 t : Vec Ideal S1x1x1024 .f32) (ix3 0 0 x) = biasRows (table m c) (ix3 h 0 x) := by
  obtain ⟨⟨e0, e1, e2⟩, -⟩ := idx_in t
  rw [← V_main_v9 m c]
  show V m c main_v9 _ = _
  refine congrArg (V m c main_v9) (ext3 ?_ ?_ ?_)
  · show win0_0.index t 0 * 1 + 1 * 0 = h.val; omega
  · show win0_0.index t 1 * 1 + 1 * 0 = 0; omega
  · show win0_0.index t 2 * 1024 + 1 * x.val = x.val; omega

theorem iblk1 (b : Fin 4) (h : Fin 8) (hb : b.val = t.val % 4) (hh : h.val = t.val / 4) (r : Fin 2048) (d : Fin 128) :
    (iblk m c 1 t : Vec Ideal S1x2048x128 .bf16) (ix3 0 r d)
      = part (m ((c : Thread nD τ).loc main_arg0)) 0 (by decide) b h r d := by
  obtain ⟨-, ⟨e0, e1, e2⟩, -⟩ := idx_in t
  show m ((c : Thread nD τ).loc main_arg0) _ = _
  refine congrArg (m ((c : Thread nD τ).loc main_arg0)) (ext3 ?_ ?_ ?_)
  · show win0_1.index t 0 * 1 + 1 * 0 = b.val; omega
  · show win0_1.index t 1 * 2048 + 1 * r.val = r.val; omega
  · show win0_1.index t 2 * 128 + 1 * d.val = 0 + (h.val * 128 + d.val); omega

theorem iblk2 (b : Fin 4) (h : Fin 8) (hb : b.val = t.val % 4) (hh : h.val = t.val / 4) (r : Fin 2048) (d : Fin 128) :
    (iblk m c 2 t : Vec Ideal S1x2048x128 .bf16) (ix3 0 r d)
      = part (m ((c : Thread nD τ).loc main_arg0)) 1024 (by decide) b h r d := by
  obtain ⟨-, -, ⟨e0, e1, e2⟩, -⟩ := idx_in t
  show m ((c : Thread nD τ).loc main_arg0) _ = _
  refine congrArg (m ((c : Thread nD τ).loc main_arg0)) (ext3 ?_ ?_ ?_)
  · show win0_2.index t 0 * 1 + 1 * 0 = b.val; omega
  · show win0_2.index t 1 * 2048 + 1 * r.val = r.val; omega
  · show win0_2.index t 2 * 128 + 1 * d.val = 1024 + (h.val * 128 + d.val); omega

theorem iblk3 (b : Fin 4) (h : Fin 8) (hb : b.val = t.val % 4) (hh : h.val = t.val / 4) (r : Fin 2048) (d : Fin 128) :
    (iblk m c 3 t : Vec Ideal S1x2048x128 .bf16) (ix3 0 r d)
      = part (m ((c : Thread nD τ).loc main_arg0)) 2048 (by decide) b h r d := by
  obtain ⟨-, -, -, ⟨e0, e1, e2⟩, -⟩ := idx_in t
  show m ((c : Thread nD τ).loc main_arg0) _ = _
  refine congrArg (m ((c : Thread nD τ).loc main_arg0)) (ext3 ?_ ?_ ?_)
  · show win0_3.index t 0 * 1 + 1 * 0 = b.val; omega
  · show win0_3.index t 1 * 2048 + 1 * r.val = r.val; omega
  · show win0_3.index t 2 * 128 + 1 * d.val = 2048 + (h.val * 128 + d.val); omega

/-! ## The scratch -/

/-- The row of biases a point stages is the one of the point before, except at a head's first point. -/
theorem row_const (h0 : ¬t.val % 4 = 0) : (iblk m c 0 t : Vec Ideal S1x1x1024 .f32)
    = iblk m c 0 ⟨t.val - 1, Nat.lt_of_le_of_lt (Nat.sub_le _ _) t.isLt⟩ := by
  have ht : t.val < 32 := lt_of_lt_of_eq t.isLt N_0
  funext j
  obtain ⟨a, b, x, rfl⟩ : ∃ a b x, j = ix3 a b x := ⟨j 0, j 1, j 2, eq_ix3 j⟩
  obtain rfl : a = 0 := Subsingleton.elim _ _
  obtain rfl : b = 0 := Subsingleton.elim _ _
  exact (iblk0 m c t ⟨t.val / 4, by omega⟩ rfl x).trans
    (iblk0 m c ⟨t.val - 1, Nat.lt_of_le_of_lt (Nat.sub_le _ _) t.isLt⟩ ⟨t.val / 4, by omega⟩ (by show t.val / 4 = (t.val - 1) / 4; omega) x).symm

theorem scratch_set (h0 : t.val % 4 = 0) : (outsAt0 m c t.val t.isLt).2 = k0_pay2 (iblk m c 0 t) := by
  have hs := congrArg Prod.snd (outsAt0_A m c t h0)
  dsimp only at hs
  rw [scratch_A (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) (iblk m c 3 t) c ((hcond0_0 t).mpr h0)] at hs
  exact hs

theorem scratch_kept (h0 : ¬t.val % 4 = 0) : (outsAt0 m c t.val t.isLt).2
    = (outsAt0 m c (t.val - 1) (Nat.lt_of_le_of_lt (Nat.sub_le _ _) t.isLt)).2 :=
  (congrArg Prod.snd (outsAt0_B m c t h0)).trans (by unfold sout0_B_0; rfl)

/-- At every point the scratch is the one the point's own row of biases would build. -/
theorem scratch_eq : (outsAt0 m c t.val t.isLt).2 = k0_pay2 (iblk m c 0 t) :=
  Common.carried 4 (fun t => (outsAt0 m c t.val t.isLt).2) (fun t => k0_pay2 (iblk m c 0 t)) (scratch_set m c) (scratch_kept m c)
    (fun t h0 => congrArg k0_pay2 (row_const m c t h0)) t

/-! ## The result -/

/-- What a point leaves in its block of the result. -/
theorem out_at (b : Fin 4) (h : Fin 8) (hb : b.val = t.val % 4) (hh : h.val = t.val / 4) (r : Fin 2048) (e : Fin 128) :
    (outsAt0 m c t.val t.isLt).1 (ix3 0 r e) = row (part (m ((c : Thread nD τ).loc main_arg0)) 0 (by decide) b h)
      (part (m ((c : Thread nD τ).loc main_arg0)) 1024 (by decide) b h) (part (m ((c : Thread nD τ).loc main_arg0)) 2048 (by decide) b h)
      (fun p => table m c (ix2 h p)) r e := by
  have hx : Holds (fun p => table m c (ix2 h p)) (k0_pay2 (iblk m c 0 t)) :=
    holds_of_row (table m c) h (iblk m c 0 t) (iblk0 m c t h hh)
  have hp : pointRow (iblk m c 1 t) (iblk m c 2 t) (iblk m c 3 t) (fun p => table m c (ix2 h p)) r e = row (part (m ((c : Thread nD τ).loc main_arg0)) 0 (by decide) b h)
      (part (m ((c : Thread nD τ).loc main_arg0)) 1024 (by decide) b h) (part (m ((c : Thread nD τ).loc main_arg0)) 2048 (by decide) b h)
      (fun p => table m c (ix2 h p)) r e := by
    unfold pointRow
    rw [funext₂ fun r d => iblk1 m c t b h hb hh r d, funext₂ fun r d => iblk2 m c t b h hb hh r d,
      funext₂ fun r d => iblk3 m c t b h hb hh r d]
  refine Eq.trans ?_ hp
  by_cases h0 : t.val % 4 = 0
  · have ho := congrFun (congrArg Prod.fst (outsAt0_A m c t h0)) (ix3 0 r e)
    dsimp only at ho
    rw [out_A_apply (grid0.coords t) (ms0_0 t) (hs0_0 t) (ms0_1 t) (hs0_1 t) (ms0_2 t) (hs0_2 t) (ms0_3 t) (hs0_3 t) (ms0_4 t) (hs0_4 t) scM0_0
      (Memref.isWhole_whole _)
      (iblk m c 0 t) (iblk m c 1 t) (iblk m c 2 t) (iblk m c 3 t) _ c ((hcond0_0 t).mpr h0) hx r e] at ho
    exact ho
  · have hs := (scratch_kept m c t h0).symm.trans (scratch_eq m c t)
    have ho := congrFun (congrArg Prod.fst (outsAt0_B m c t h0)) (ix3 0 r e)
    dsimp only at ho
    rw [out_B_apply (grid0.coords t) (ms0_0 t) (hs0_0 t) (ms0_1 t) (hs0_1 t) (ms0_2 t) (hs0_2 t) (ms0_3 t) (hs0_3 t) (ms0_4 t) (hs0_4 t) scM0_0
      (Memref.isWhole_whole _)
      (iblk m c 0 t) (iblk m c 1 t) (iblk m c 2 t) (iblk m c 3 t) _ _ c (fun h => h0 ((hcond0_0 t).mp h)) (by rw [hs]; exact hx) r e] at ho
    exact ho

/-- What the call leaves at an index of its result. -/
theorem arr_apply (b : Fin 4) (h : Fin 8) (hb : b.val = t.val % 4) (hh : h.val = t.val / 4) (r : Fin 2048) (e : Fin 128)
    (i : S4x2048x1024.Idx) (h0 : (i 0).val = b.val) (h1 : (i 1).val = r.val) (h2 : (i 2).val = h.val * 128 + e.val) :
    (dats m 0 c).arrAt 4 cfg0.N i = row (part (m ((c : Thread nD τ).loc main_arg0)) 0 (by decide) b h)
      (part (m ((c : Thread nD τ).loc main_arg0)) 1024 (by decide) b h) (part (m ((c : Thread nD τ).loc main_arg0)) 2048 (by decide) b h)
      (fun p => table m c (ix2 h p)) r e := by
  have he : ((cfg0.win 4).blk t).view.emb (ix3 0 r e) = i := by
    obtain ⟨-, -, -, -, e0, e1, e2⟩ := idx_in t
    refine ext3 ?_ ?_ ?_
    · show win0_4.index t 0 * 1 + 1 * 0 = (i 0).val; omega
    · show win0_4.index t 1 * 2048 + 1 * r.val = (i 1).val; omega
    · show win0_4.index t 2 * 128 + 1 * e.val = (i 2).val; omega
  have hv := congrFun (blocks4 m c t (flush0_4 t)) (ix3 0 r e)
  rw [flushed4] at hv
  exact ((congrArg ((dats m 0 c).arrAt 4 cfg0.N) he).symm.trans hv).trans (out_at m c t b h hb hh r e)

/-- The precondition makes every element of the arguments real. -/
theorem real_of_pre (z : FVec Ideal S4x2048x6144 .bf16) (tab : FVec Ideal S8x513 .f32)
    (h : Pre_finite_band.fn (F := Ideal) z tab = fun _ => 1#1) : (∀ i, IsReal (z i)) ∧ ∀ i, IsReal (tab i) := by
  obtain ⟨e1, e2⟩ := IntOp.andi_eq_one.1 (congrFun h ix0)
  exact ⟨Attn.real_of_all (s := S4x2048x6144) z _ _ _ _ _ e1, Attn.real_of_all tab _ _ _ _ _ e2⟩

/-- The result array is the reference's. -/
theorem G_eq (hp : Pre_finite_band.fn (F := Ideal) (m ((c : Thread nD τ).loc main_arg0)) (m ((c : Thread nD τ).loc main_arg1))
      = fun _ => 1#1) : (dats m 0 c).arrAt 4 cfg0.N
    = BandRefIdeal.Read.val_main_v58 (F := Ideal) (m ((c : Thread nD τ).loc main_arg0)) (m ((c : Thread nD τ).loc main_arg1)) := by
  obtain ⟨hz, ht⟩ := real_of_pre _ _ hp
  funext i
  have h0 : (i 0).val < 4 := (i 0).isLt
  have h1 : (i 1).val < 2048 := (i 1).isLt
  have h2 : (i 2).val < 1024 := (i 2).isLt
  have hN : (i 2).val / 128 * 4 + (i 0).val < cfg0.N := lt_of_lt_of_eq (by omega) (show 32 = cfg0.N from N_0.symm)
  have hi : BandRefIdeal.Read.idx_main_v56 (BandRefIdeal.Read.idx_main_v57 i)
      = ix4 ⟨(i 0).val, h0⟩ ⟨(i 2).val / 128, by omega⟩ ⟨(i 2).val % 128, by omega⟩ ⟨(i 1).val, h1⟩ := funext fun a => Fin.ext (by
    match a with
    | ⟨0, _⟩ => show (((i 0).val * 2048 + (i 1).val) * 1024 + (i 2).val) / 2097152 = (i 0).val; omega
    | ⟨1, _⟩ => show (((i 0).val * 2048 + (i 1).val) * 1024 + (i 2).val) / 128 % 8 = (i 2).val / 128; omega
    | ⟨2, _⟩ => show (((i 0).val * 2048 + (i 1).val) * 1024 + (i 2).val) % 128 = (i 2).val % 128; omega
    | ⟨3, _⟩ => show (((i 0).val * 2048 + (i 1).val) * 1024 + (i 2).val) / 1024 % 2048 = (i 1).val; omega)
  refine (arr_apply m c ⟨(i 2).val / 128 * 4 + (i 0).val, hN⟩ ⟨(i 0).val, h0⟩ ⟨(i 2).val / 128, by omega⟩
    (by show (i 0).val = ((i 2).val / 128 * 4 + (i 0).val) % 4; omega)
    (by show (i 2).val / 128 = ((i 2).val / 128 * 4 + (i 0).val) / 4; omega) ⟨(i 1).val, h1⟩ ⟨(i 2).val % 128, by omega⟩ i rfl rfl
    (by show (i 2).val = (i 2).val / 128 * 128 + (i 2).val % 128; omega)).trans ?_
  rw [BandRefIdeal.Read.val_main_v58_apply, BandRefIdeal.Read.val_main_v57_apply, BandRefIdeal.Read.val_main_v56_apply, hi]
  exact (value_at _ _ hz ht Attn.isReal_scale _ _ _ _).symm

end Cert.BandIdeal.Hand

end
-- ==== Proof.GateUpValue.lean ====
/- The first FFN matmul (`cc0_ffn_gateup`): `silu(xn @ w_gu[:, :FF]) * (xn @ w_gu[:, FF:])`, one 1024 × 512 block of the
   result per point. Two column blocks of the weights, one of each half, are cast once per block column into two scratch
   buffers the kernel carries; at every point they hold the blocks the point's own windows stage (`scratch_eq`). -/
module

public import proofs.«01_k».proof.Proof.Gen.GateUpIdeal.Value
public import proofs.«01_k».proof.Proof.Gen.GateUpRefIdeal.Read
public import Idealize.ShloMosaic.Lib.Tactic
public import proofs.«01_k».proof.Proof.Common

@[expose] public section

set_option maxRecDepth 16384

noncomputable section

namespace Cert.GateUpIdeal.Hand

open Cert.GateUpIdeal Cert.GateUpIdeal.Gen Cert.GateUpIdeal.Value Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz : (![0, 0] : Fin 2 → Nat) = fun _ => 0 := funext fun a => by fin_cases a <;> rfl

/-- The printed index maps over the grid: row block `t % 8`, column block `t / 8`, the second half 11 blocks further. -/
theorem idx_in : ∀ t : Fin cfg0.N, (win0_0.index t 0 = t.val % 8 ∧ win0_0.index t 1 = 0)
    ∧ (win0_1.index t 0 = 0 ∧ win0_1.index t 1 = t.val / 8)
    ∧ (win0_2.index t 0 = 0 ∧ win0_2.index t 1 = t.val / 8 + 11) :=
  (by decide +kernel : ∀ t : Fin grid0.N, _)

theorem iblk0 (c : Dev nD) (t : Fin cfg0.N) (y : S1024x2048.Idx) (i : S8192x2048.Idx)
    (h0 : (i 0).val = t.val % 8 * 1024 + (y 0).val) (h1 : (i 1).val = (y 1).val) :
    (iblk m c 0 t : Vec F S1024x2048 .bf16) y = m ((c : Thread nD τ).loc main_arg0) i := by
  obtain ⟨⟨e0, e1⟩, -⟩ := idx_in t
  show m ((c : Thread nD τ).loc main_arg0) _ = _
  congr 1
  funext a
  apply Fin.ext
  match a with
  | ⟨0, _⟩ => show win0_0.index t 0 * 1024 + 1 * (y 0).val = (i 0).val; rw [e0, h0]; omega
  | ⟨1, _⟩ => show win0_0.index t 1 * 2048 + 1 * (y 1).val = (i 1).val; rw [e1, h1]; omega

theorem iblk1 (c : Dev nD) (t : Fin cfg0.N) (y : S2048x512.Idx) (i : S2048x11264.Idx)
    (h0 : (i 0).val = (y 0).val) (h1 : (i 1).val = t.val / 8 * 512 + (y 1).val) :
    (iblk m c 1 t : Vec F S2048x512 .f32) y = m ((c : Thread nD τ).loc main_arg1) i := by
  obtain ⟨-, ⟨e0, e1⟩, -⟩ := idx_in t
  show m ((c : Thread nD τ).loc main_arg1) _ = _
  congr 1
  funext a
  apply Fin.ext
  match a with
  | ⟨0, _⟩ => show win0_1.index t 0 * 2048 + 1 * (y 0).val = (i 0).val; rw [e0, h0]; omega
  | ⟨1, _⟩ => show win0_1.index t 1 * 512 + 1 * (y 1).val = (i 1).val; rw [e1, h1]; omega

theorem iblk2 (c : Dev nD) (t : Fin cfg0.N) (y : S2048x512.Idx) (i : S2048x11264.Idx)
    (h0 : (i 0).val = (y 0).val) (h1 : (i 1).val = 5632 + (t.val / 8 * 512 + (y 1).val)) :
    (iblk m c 2 t : Vec F S2048x512 .f32) y = m ((c : Thread nD τ).loc main_arg1) i := by
  obtain ⟨-, -, e0, e1⟩ := idx_in t
  show m ((c : Thread nD τ).loc main_arg1) _ = _
  congr 1
  funext a
  apply Fin.ext
  match a with
  | ⟨0, _⟩ => show win0_2.index t 0 * 2048 + 1 * (y 0).val = (i 0).val; rw [e0, h0]; omega
  | ⟨1, _⟩ => show win0_2.index t 1 * 512 + 1 * (y 1).val = (i 1).val; rw [e1, h1]; omega

/-- The casting case: both scratch buffers are set to the blocks staged, and the block of the result is the payload. -/
theorem at_A (c : Dev nD) (t : Fin cfg0.N) (h0 : t.val % 8 = 0) : outsAt0 m c t.val t.isLt
    = (k0_pay3 (iblk m c 0 t) (k0_pay1 (iblk m c 1 t)) (k0_pay2 (iblk m c 2 t)), k0_pay1 (iblk m c 1 t), k0_pay2 (iblk m c 2 t)) := by
  rw [outsAt0_A m c t h0]
  refine Prod.ext ?_ (Prod.ext ?_ ?_) <;> dsimp only
  · unfold out0_A_3
    rw [View.read_writes_eq_canon _ _ _ (fun y => cover0_A_3 (y := y) ..)]
    unfold kernelRun0_A
    dsimp only
    sl_unfold_words
    rw [View.canon_unit_zero hz]
    simp only [View.readAt_eq_ld, (hs0_0 t).read_unread, (hs0_1 t).read_unread, (hs0_2 t).read_unread,
      View.readCov_unit_zero (S := S2048x512) _ hz, View.ld_unit_zero (S := S2048x512) hz, View.ld_unit_zero (S := S1024x2048) hz]
  · unfold sout0_A_0
    rw [View.read_writes_eq_canon _ _ _ (fun y => scover0_A_0 (y := y) ..)]
    unfold kernelRun0_A
    dsimp only
    sl_unfold_words
    rw [View.canon_unit_zero hz]
    simp only [View.readAt_eq_ld, (hs0_1 t).read_unread, View.ld_unit_zero (S := S2048x512) hz]
  · unfold sout0_A_1
    rw [View.read_writes_eq_canon _ _ _ (fun y => scover0_A_1 (y := y) ..)]
    unfold kernelRun0_A
    dsimp only
    sl_unfold_words
    rw [View.canon_unit_zero hz]
    simp only [View.readAt_eq_ld, (hs0_2 t).read_unread, View.ld_unit_zero (S := S2048x512) hz]

/-- The other case: both are kept, and the block of the result is the payload over what they hold. -/
theorem at_B (c : Dev nD) (t : Fin cfg0.N) (h0 : ¬t.val % 8 = 0) : outsAt0 m c t.val t.isLt
    = (k0_pay3 (iblk m c 0 t) (outsAt0 m c (t.val - 1) (Nat.lt_of_le_of_lt (Nat.sub_le _ _) t.isLt)).2.1
        (outsAt0 m c (t.val - 1) (Nat.lt_of_le_of_lt (Nat.sub_le _ _) t.isLt)).2.2,
      (outsAt0 m c (t.val - 1) (Nat.lt_of_le_of_lt (Nat.sub_le _ _) t.isLt)).2) := by
  rw [outsAt0_B m c t h0]
  refine Prod.ext ?_ rfl
  dsimp only
  generalize (outsAt0 m c (t.val - 1) (Nat.lt_of_le_of_lt (Nat.sub_le _ _) t.isLt)).2.1 = s0
  generalize (outsAt0 m c (t.val - 1) (Nat.lt_of_le_of_lt (Nat.sub_le _ _) t.isLt)).2.2 = s1
  unfold out0_B_3
  rw [View.read_writes_eq_canon _ _ _ (fun y => cover0_B_3 (y := y) ..)]
  unfold kernelRun0_B
  dsimp only
  sl_unfold_words
  rw [View.canon_unit_zero hz]
  simp only [View.readAt_eq_ld, (hs0_0 t).read_unread, (Memref.isWhole_whole _).read_unread,
    View.ld_unit_zero (S := S2048x512) hz, View.ld_unit_zero (S := S1024x2048) hz]

/-- The weights' blocks do not change while the scratch is kept. -/
theorem iblk_const (c : Dev nD) (t : Fin cfg0.N) (h0 : ¬t.val % 8 = 0) :
    ((iblk m c 1 t : Vec F S2048x512 .f32) = iblk m c 1 ⟨t.val - 1, Nat.lt_of_le_of_lt (Nat.sub_le _ _) t.isLt⟩)
    ∧ ((iblk m c 2 t : Vec F S2048x512 .f32) = iblk m c 2 ⟨t.val - 1, Nat.lt_of_le_of_lt (Nat.sub_le _ _) t.isLt⟩) := by
  have hN := lt_of_lt_of_eq t.isLt (show cfg0.N = 88 from N_0)
  have hd : (t.val - 1) / 8 = t.val / 8 := by omega
  constructor <;> funext y <;> have hy : (y 1).val < 512 := (y 1).isLt
  · rw [iblk1 m c t y (ix2 ⟨(y 0).val, (y 0).isLt⟩ ⟨t.val / 8 * 512 + (y 1).val, by omega⟩) rfl rfl]
    exact (iblk1 m c _ y _ rfl (by show t.val / 8 * 512 + (y 1).val = (t.val - 1) / 8 * 512 + (y 1).val; rw [hd])).symm
  · rw [iblk2 m c t y (ix2 ⟨(y 0).val, (y 0).isLt⟩ ⟨5632 + (t.val / 8 * 512 + (y 1).val), by omega⟩) rfl rfl]
    exact (iblk2 m c _ y _ rfl (by show 5632 + (t.val / 8 * 512 + (y 1).val) = 5632 + ((t.val - 1) / 8 * 512 + (y 1).val); rw [hd])).symm

/-- At every point the scratch buffers hold the weights' blocks the point stages. -/
theorem scratch_eq (c : Dev nD) (t : Fin cfg0.N) : (outsAt0 m c t.val t.isLt).2 = (k0_pay1 (iblk m c 1 t), k0_pay2 (iblk m c 2 t)) :=
  Common.carried 8 (fun t : Fin cfg0.N => (outsAt0 m c t.val t.isLt).2) (fun t => (k0_pay1 (iblk m c 1 t), k0_pay2 (iblk m c 2 t)))
    (fun t h0 => by rw [at_A m c t h0]) (fun t h0 => by rw [at_B m c t h0])
    (fun t h0 => by rw [(iblk_const m c t h0).1, (iblk_const m c t h0).2]) t

/-- What the point leaves in its block of the result, from the blocks it stages. -/
theorem out_eq (c : Dev nD) (t : Fin cfg0.N) : (outsAt0 m c t.val t.isLt).1
    = k0_pay3 (iblk m c 0 t) (k0_pay1 (iblk m c 1 t)) (k0_pay2 (iblk m c 2 t)) := by
  by_cases h0 : t.val % 8 = 0
  · rw [at_A m c t h0]
  · have e := scratch_eq m c t
    rw [at_B m c t h0] at e ⊢
    dsimp only at e ⊢
    rw [e]

variable (m : (ℓ : Loc nD τ sig) → Buf (Elt Ideal) ℓ)

/-- The gated unit over the extended reals. -/
def gated (a b : EReal) : EReal := a * Ideal.logistic a * b

/-- The block payload read at an index. -/
theorem pay_apply (x0 : Vec Ideal S1024x2048 .bf16) (x1 x2 : Vec Ideal S2048x512 .f32) (y : S1024x512.Idx) :
    (k0_pay3 x0 (k0_pay1 x1) (k0_pay2 x2) : FVec Ideal S1024x512 .bf16) y
      = gated (∑ k : Fin 2048, x0 (ix2 (y 0) k) * x1 (ix2 k (y 1))) (∑ k : Fin 2048, x0 (ix2 (y 0) k) * x2 (ix2 k (y 1))) := by
  unfold k0_pay3 k0_pay1 k0_pay2
  refine congrArg₂ gated ((Common.mm_plain _ _ y).trans ?_) ((Common.mm_plain _ _ y).trans ?_) <;> rw [shapeCast_self] <;> rfl

/-- The reference read at an index. -/
theorem ref_apply (x0 : Vec Ideal S8192x2048 .bf16) (x1 : Vec Ideal S2048x11264 .f32) (i : S8192x5632.Idx) :
    GateUpRefIdeal.Read.val_main_v6 (F := Ideal) x0 x1 i
      = gated (GateUpRefIdeal.Read.val_main_v1 (F := Ideal) x0 x1 (GateUpRefIdeal.Read.idx_main_v2 i))
          (GateUpRefIdeal.Read.val_main_v1 (F := Ideal) x0 x1 (GateUpRefIdeal.Read.idx_main_v3 i)) := by
  rw [GateUpRefIdeal.Read.val_main_v6_apply, GateUpRefIdeal.Read.val_main_v5_apply, GateUpRefIdeal.Read.val_main_v4_apply,
    GateUpRefIdeal.Read.val_main_call0_v5_apply, GateUpRefIdeal.Read.val_main_call0_v4_apply, GateUpRefIdeal.Read.val_main_call0_v3_apply,
    GateUpRefIdeal.Read.val_main_call0_v2_apply, GateUpRefIdeal.Read.val_main_call0_v1_apply, GateUpRefIdeal.Read.val_main_call0_v0_apply,
    GateUpRefIdeal.Read.val_main_v3_apply, GateUpRefIdeal.Read.val_main_v2_apply]
  exact congrArg (fun z : EReal => _ * z * _) (Common.logistic_host _)

/-- The result array is the reference's. -/
theorem G_eq (c : Dev nD) : G3 m c = GateUpRefIdeal.Read.val_main_v6 (F := Ideal) (m ((c : Thread nD τ).loc main_arg0))
    (m ((c : Thread nD τ).loc main_arg1)) := by
  funext i
  have hi0 : (i 0).val < 8192 := (i 0).isLt
  have hi1 : (i 1).val < 5632 := (i 1).isLt
  have hp : pt3Of i < cfg0.N := lt_of_lt_of_eq (by show 1 * ((i 0).val / 1024 - 0) + 8 * ((i 1).val / 512 - 0) < 88; omega) N_0.symm
  have hv : pt3Of i = 1 * ((i 0).val / 1024 - 0) + 8 * ((i 1).val / 512 - 0) := rfl
  have e0 : (i 0).val = pt3Of i % 8 * 1024 + (i 0).val % 1024 := by omega
  have e1 : (i 1).val = pt3Of i / 8 * 512 + (i 1).val % 512 := by omega
  unfold G3
  rw [dif_pos hp, ← outsAt0_sweep m c _ hp, out_eq m c ⟨pt3Of i, hp⟩, pay_apply]
  refine Eq.trans ?_ (ref_apply _ _ i).symm
  rw [GateUpRefIdeal.Read.val_main_v1_apply, GateUpRefIdeal.Read.val_main_v1_apply]
  refine congrArg₂ gated (Finset.sum_congr rfl fun k _ => congrArg₂ (fun a b : EReal => a * b) ?_ ?_)
    (Finset.sum_congr rfl fun k _ => congrArg₂ (fun a b : EReal => a * b) ?_ ?_)
  · exact iblk0 m c ⟨pt3Of i, hp⟩ _ (GateUpRefIdeal.Read.lidx_main_v1 (GateUpRefIdeal.Read.idx_main_v2 i) k) e0 rfl
  · exact iblk1 m c ⟨pt3Of i, hp⟩ _ (GateUpRefIdeal.Read.ridx_main_v1 (GateUpRefIdeal.Read.idx_main_v2 i) k) rfl e1
  · exact iblk0 m c ⟨pt3Of i, hp⟩ _ (GateUpRefIdeal.Read.lidx_main_v1 (GateUpRefIdeal.Read.idx_main_v3 i) k) e0 rfl
  · exact iblk2 m c ⟨pt3Of i, hp⟩ _ (GateUpRefIdeal.Read.ridx_main_v1 (GateUpRefIdeal.Read.idx_main_v3 i) k) rfl
      (congrArg (fun n : ℕ => 5632 + n) e1)

end Cert.GateUpIdeal.Hand

end
-- ==== Proof.DownValue.lean ====
/- The second FFN matmul (`cc0_ffn_down`): `h + 1/2 · (hid @ w_down)`, one 512 × 512 block of the result per point. The
   weights' column block is cast once per block column into a scratch the kernel carries; at every point that scratch
   holds the block of the weights the point's own window stages (`scratch_eq`), so each point leaves the block of ONE
   array, the reference's (`block_eq`). -/
module

public import proofs.«01_k».proof.Proof.Gen.DownIdeal.Value
public import proofs.«01_k».proof.Proof.Gen.DownRefIdeal.Read
public import Idealize.ShloMosaic.Lib.Tactic
public import proofs.«01_k».proof.Proof.Common

@[expose] public section

set_option maxRecDepth 16384

noncomputable section

namespace Cert.DownIdeal.Hand

open Cert.DownIdeal Cert.DownIdeal.Gen Cert.DownIdeal.Value Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz : (![0, 0] : Fin 2 → Nat) = fun _ => 0 := funext fun a => by fin_cases a <;> rfl

/-- The casting case's contents of the scratch: the staged block of the weights. -/
theorem sout_A (c : Dev nD) (i : grid0.Coords) (a2 : Memref sig .tc .vmem S512x5632 .bf16) (h2 : a2.IsWhole)
    (a3 : Memref sig .tc .vmem S5632x512 .f32) (h3 : a3.IsWhole) (a4 : Memref sig .tc .vmem S512x512 .f32) (h4 : a4.IsWhole)
    (a5 : Memref sig .tc .vmem S512x512 .f32) (h5 : a5.IsWhole) (a6 : Memref sig .tc .vmem S5632x512 .bf16) (h6 : a6.IsWhole)
    (hc : cond0_0 i) (x0 : Vec F S512x5632 .bf16) (x1 : Vec F S5632x512 .f32) (x2 : Vec F S512x512 .f32) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h3.read_unread, View.ld_unit_zero (S := S5632x512) hz]

theorem out_A (c : Dev nD) (i : grid0.Coords) (a2 : Memref sig .tc .vmem S512x5632 .bf16) (h2 : a2.IsWhole)
    (a3 : Memref sig .tc .vmem S5632x512 .f32) (h3 : a3.IsWhole) (a4 : Memref sig .tc .vmem S512x512 .f32) (h4 : a4.IsWhole)
    (a5 : Memref sig .tc .vmem S512x512 .f32) (h5 : a5.IsWhole) (a6 : Memref sig .tc .vmem S5632x512 .bf16) (h6 : a6.IsWhole)
    (hc : cond0_0 i) (x0 : Vec F S512x5632 .bf16) (x1 : Vec F S5632x512 .f32) (x2 : Vec F S512x512 .f32) :
    out0_A_3 c i a2 h2 a3 h3 a4 h4 a5 h5 a6 h6 hc x0 x1 x2 = k0_pay2 x2 x0 (k0_pay1 x1) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.readCov_unit_zero (S := S5632x512) _ hz,
    View.ld_unit_zero (S := S5632x512) hz, View.ld_unit_zero (S := S512x5632) hz, View.ld_unit_zero (S := S512x512) hz]

theorem out_B (c : Dev nD) (i : grid0.Coords) (a2 : Memref sig .tc .vmem S512x5632 .bf16) (h2 : a2.IsWhole)
    (a3 : Memref sig .tc .vmem S5632x512 .f32) (h3 : a3.IsWhole) (a4 : Memref sig .tc .vmem S512x512 .f32) (h4 : a4.IsWhole)
    (a5 : Memref sig .tc .vmem S512x512 .f32) (h5 : a5.IsWhole) (a6 : Memref sig .tc .vmem S5632x512 .bf16) (h6 : a6.IsWhole)
    (hc : ¬cond0_0 i) (x0 : Vec F S512x5632 .bf16) (x1 : Vec F S5632x512 .f32) (x2 : Vec F S512x512 .f32)
    (xs : Vec F S5632x512 .bf16) :
    out0_B_3 c i a2 h2 a3 h3 a4 h4 a5 h5 a6 h6 hc x0 x1 x2 xs = k0_pay2 x2 x0 xs := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h2.read_unread, h3.read_unread, h4.read_unread, h6.read_unread,
    View.ld_unit_zero (S := S5632x512) hz, View.ld_unit_zero (S := S512x5632) hz, View.ld_unit_zero (S := S512x512) hz]

/-- The printed index maps over the grid: row block `t % 16`, column block `t / 16`. -/
theorem idx_in : ∀ t : Fin cfg0.N, (win0_0.index t 0 = t.val % 16 ∧ win0_0.index t 1 = 0)
    ∧ (win0_1.index t 0 = 0 ∧ win0_1.index t 1 = t.val / 16)
    ∧ (win0_2.index t 0 = t.val % 16 ∧ win0_2.index t 1 = t.val / 16)
    ∧ (win0_3.index t 0 = t.val % 16 ∧ win0_3.index t 1 = t.val / 16) :=
  (by decide +kernel : ∀ t : Fin grid0.N, _)

/-- The three staged blocks, read at an index of the block. -/
theorem iblk0 (c : Dev nD) (t : Fin cfg0.N) (y : S512x5632.Idx) (i : S8192x5632.Idx)
    (h0 : (i 0).val = t.val % 16 * 512 + (y 0).val) (h1 : (i 1).val = (y 1).val) :
    (iblk m c 0 t : Vec F S512x5632 .bf16) y = m ((c : Thread nD τ).loc main_arg0) i := by
  obtain ⟨⟨e0, e1⟩, -⟩ := idx_in t
  show m ((c : Thread nD τ).loc main_arg0) _ = _
  congr 1
  funext a
  apply Fin.ext
  match a with
  | ⟨0, _⟩ => show win0_0.index t 0 * 512 + 1 * (y 0).val = (i 0).val; rw [e0, h0]; omega
  | ⟨1, _⟩ => show win0_0.index t 1 * 5632 + 1 * (y 1).val = (i 1).val; rw [e1, h1]; omega

theorem iblk1 (c : Dev nD) (t : Fin cfg0.N) (y : S5632x512.Idx) (i : S5632x2048.Idx)
    (h0 : (i 0).val = (y 0).val) (h1 : (i 1).val = t.val / 16 * 512 + (y 1).val) :
    (iblk m c 1 t : Vec F S5632x512 .f32) y = m ((c : Thread nD τ).loc main_arg1) i := by
  obtain ⟨-, ⟨e0, e1⟩, -⟩ := idx_in t
  show m ((c : Thread nD τ).loc main_arg1) _ = _
  congr 1
  funext a
  apply Fin.ext
  match a with
  | ⟨0, _⟩ => show win0_1.index t 0 * 5632 + 1 * (y 0).val = (i 0).val; rw [e0, h0]; omega
  | ⟨1, _⟩ => show win0_1.index t 1 * 512 + 1 * (y 1).val = (i 1).val; rw [e1, h1]; omega

theorem iblk2 (c : Dev nD) (t : Fin cfg0.N) (y : S512x512.Idx) (i : S8192x2048.Idx)
    (h0 : (i 0).val = t.val % 16 * 512 + (y 0).val) (h1 : (i 1).val = t.val / 16 * 512 + (y 1).val) :
    (iblk m c 2 t : Vec F S512x512 .f32) y = m ((c : Thread nD τ).loc main_arg2) i := by
  obtain ⟨-, -, ⟨e0, e1⟩, -⟩ := idx_in t
  show m ((c : Thread nD τ).loc main_arg2) _ = _
  congr 1
  funext a
  apply Fin.ext
  match a with
  | ⟨0, _⟩ => show win0_2.index t 0 * 512 + 1 * (y 0).val = (i 0).val; rw [e0, h0]; omega
  | ⟨1, _⟩ => show win0_2.index t 1 * 512 + 1 * (y 1).val = (i 1).val; rw [e1, h1]; omega

theorem set_A (c : Dev nD) (t : Fin cfg0.N) (h0 : t.val % 16 = 0) :
    (outsAt0 m c t.val t.isLt).2 = k0_pay1 (iblk m c 1 t) := by
  rw [outsAt0_A m c t h0]
  dsimp only
  rw [sout_A]

theorem keep_B (c : Dev nD) (t : Fin cfg0.N) (h0 : ¬t.val % 16 = 0) : (outsAt0 m c t.val t.isLt).2
    = (outsAt0 m c (t.val - 1) (Nat.lt_of_le_of_lt (Nat.sub_le _ _) t.isLt)).2 := by
  rw [outsAt0_B m c t h0]
  rfl

/-- The weights' block does not change while the scratch is kept. -/
theorem iblk1_const (c : Dev nD) (t : Fin cfg0.N) (h0 : ¬t.val % 16 = 0) : (iblk m c 1 t : Vec F S5632x512 .f32)
    = iblk m c 1 ⟨t.val - 1, Nat.lt_of_le_of_lt (Nat.sub_le _ _) t.isLt⟩ := by
  funext y
  have hN := lt_of_lt_of_eq t.isLt (show cfg0.N = 64 from N_0)
  have hy : (y 1).val < 512 := (y 1).isLt
  rw [iblk1 m c t y (ix2 ⟨(y 0).val, (y 0).isLt⟩ ⟨t.val / 16 * 512 + (y 1).val, by omega⟩) rfl rfl]
  refine (iblk1 m c _ y _ rfl ?_).symm
  show t.val / 16 * 512 + (y 1).val = (t.val - 1) / 16 * 512 + (y 1).val
  omega

/-- At every point the scratch holds the weights' block the point stages. -/
theorem scratch_eq (c : Dev nD) (t : Fin cfg0.N) : (outsAt0 m c t.val t.isLt).2 = k0_pay1 (iblk m c 1 t) :=
  Common.carried 16 (fun t : Fin cfg0.N => (outsAt0 m c t.val t.isLt).2) (fun t => k0_pay1 (iblk m c 1 t))
    (set_A m c) (keep_B m c) (fun t h0 => congrArg k0_pay1 (iblk1_const m c t h0)) t

/-- What the point leaves in its block of the result, from the blocks it stages. -/
theorem out_eq (c : Dev nD) (t : Fin cfg0.N) :
    (outsAt0 m c t.val t.isLt).1 = k0_pay2 (iblk m c 2 t) (iblk m c 0 t) (k0_pay1 (iblk m c 1 t)) := by
  rw [← scratch_eq m c t]
  by_cases h0 : t.val % 16 = 0
  · rw [set_A m c t h0, outsAt0_A m c t h0]
    dsimp only
    rw [out_A]
  · rw [keep_B m c t h0, outsAt0_B m c t h0]
    dsimp only
    rw [out_B]

variable (m : (ℓ : Loc nD τ sig) → Buf (Elt Ideal) ℓ)

/-- The block payload read at an index. -/
theorem pay_apply (x2 : Vec Ideal S512x512 .f32) (x0 : Vec Ideal S512x5632 .bf16) (x1 : Vec Ideal S5632x512 .f32) (y : S512x512.Idx) :
    (k0_pay2 x2 x0 (k0_pay1 x1) : FVec Ideal S512x512 .f32) y
      = x2 y + Ideal.ofBits .f32 0x3F000000#32 * ∑ k : Fin 5632, x0 (ix2 (y 0) k) * x1 (ix2 k (y 1)) := by
  unfold k0_pay2 k0_pay1
  refine congrArg (fun s : EReal => (x2 y : EReal) + Ideal.ofBits .f32 0x3F000000#32 * s) ?_
  refine (Common.mm_plain _ _ y).trans ?_
  rw [shapeCast_self]
  rfl

/-- The result array is the reference's. -/
theorem G_eq (c : Dev nD) : G3 m c = DownRefIdeal.Read.val_main_v4 (F := Ideal) (m ((c : Thread nD τ).loc main_arg0))
    (m ((c : Thread nD τ).loc main_arg1)) (m ((c : Thread nD τ).loc main_arg2)) := by
  funext i
  have hi0 : (i 0).val < 8192 := (i 0).isLt
  have hi1 : (i 1).val < 2048 := (i 1).isLt
  have hp : pt3Of i < cfg0.N := lt_of_lt_of_eq (by show 1 * ((i 0).val / 512 - 0) + 16 * ((i 1).val / 512 - 0) < 64; omega) N_0.symm
  have hv : pt3Of i = 1 * ((i 0).val / 512 - 0) + 16 * ((i 1).val / 512 - 0) := rfl
  unfold G3
  rw [dif_pos hp, ← outsAt0_sweep m c _ hp, out_eq m c ⟨pt3Of i, hp⟩, pay_apply]
  rw [DownRefIdeal.Read.val_main_v4_apply, DownRefIdeal.Read.val_main_v3_apply, DownRefIdeal.Read.val_main_v1_apply,
    DownRefIdeal.Read.val_main_v2_apply, DownRefIdeal.Read.val_main_cst_apply]
  refine congrArg₂ (fun a b : EReal => a + Ideal.ofBits .f32 0x3F000000#32 * b)
    (iblk2 m c ⟨pt3Of i, hp⟩ _ i (by show (i 0).val = pt3Of i % 16 * 512 + (i 0).val % 512; omega)
      (by show (i 1).val = pt3Of i / 16 * 512 + (i 1).val % 512; omega))
    (Finset.sum_congr rfl fun k _ => congrArg₂ (fun a b : EReal => a * b)
      (iblk0 m c ⟨pt3Of i, hp⟩ _ (DownRefIdeal.Read.lidx_main_v1 i k) (by show (i 0).val = pt3Of i % 16 * 512 + (i 0).val % 512; omega) rfl)
      (iblk1 m c ⟨pt3Of i, hp⟩ _ (DownRefIdeal.Read.ridx_main_v1 i k) rfl (by show (i 1).val = pt3Of i / 16 * 512 + (i 1).val % 512; omega)))

end Cert.DownIdeal.Hand

end
-- ==== Proof.InProjValue.lean ====
/- The input projection (`cc0_in_proj`): `u @ w_in[:, :6144]`, one 1024 × 1024 block of the result per point, from the
   weights transposed on the host. The block of the weights is transposed back and cast once per block column into a
   scratch buffer the kernel carries; at every point it holds the block the point's own window stages (`scratch_eq`). -/
module

public import proofs.«01_k».proof.Proof.Gen.InProjIdeal.Value
public import proofs.«01_k».proof.Proof.Gen.InProjRefIdeal.Read
public import Idealize.ShloMosaic.Lib.Tactic
public import proofs.«01_k».proof.Proof.Common

@[expose] public section

set_option maxRecDepth 16384

noncomputable section

namespace Cert.InProjIdeal.Hand

open Cert.InProjIdeal Cert.InProjIdeal.Gen Cert.InProjIdeal.Value Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz : (![0, 0] : Fin 2 → Nat) = fun _ => 0 := funext fun a => by fin_cases a <;> rfl

/-- The printed index maps over the grid: row block `t % 8`, column block `t / 8` (a row block of the transposed weights). -/
theorem idx_in : ∀ t : Fin cfg0.N, (win0_0.index t 0 = t.val % 8 ∧ win0_0.index t 1 = 0)
    ∧ (win0_1.index t 0 = t.val / 8 ∧ win0_1.index t 1 = 0) :=
  (by decide +kernel : ∀ t : Fin grid0.N, _)

theorem iblk0 (c : Dev nD) (t : Fin cfg0.N) (y : S1024x2048.Idx) (i : S8192x2048.Idx)
    (h0 : (i 0).val = t.val % 8 * 1024 + (y 0).val) (h1 : (i 1).val = (y 1).val) :
    (iblk m c 0 t : Vec F S1024x2048 .bf16) y = m ((c : Thread nD τ).loc main_arg0) i := by
  obtain ⟨⟨e0, e1⟩, -⟩ := idx_in t
  show V m c main_arg0 _ = _
  rw [V_main_arg0]
  refine congrArg (m ((c : Thread nD τ).loc main_arg0)) (Common.ext2 ?_ ?_)
  · show win0_0.index t 0 * 1024 + 1 * (y 0).val = (i 0).val; rw [e0, h0]; omega
  · show win0_0.index t 1 * 2048 + 1 * (y 1).val = (i 1).val; rw [e1, h1]; omega

/-- The host's transpose of the weights, read at an index. -/
theorem V_main_v0 (c : Dev nD) (i : S6152x2048.Idx) (k : S2048x6152.Idx) (h0 : (k 0).val = (i 1).val) (h1 : (k 1).val = (i 0).val) :
    V m c main_v0 i = m ((c : Thread nD τ).loc main_arg1) k := by
  unfold V hostOps0
  rw [StableHlo.after_cons, StableHlo.after_nil, StableHlo.unary_result]
  exact transpose_apply [1, 0] _ _ i k fun b => match b with | ⟨0, _⟩ => h1 | ⟨1, _⟩ => h0

/-- The block of the transposed weights, read at an index of the weights. -/
theorem iblk1 (c : Dev nD) (t : Fin cfg0.N) (y : S1024x2048.Idx) (i : S2048x6152.Idx)
    (h0 : (i 0).val = (y 1).val) (h1 : (i 1).val = t.val / 8 * 1024 + (y 0).val) :
    (X0_1 m c t : Vec F S1024x2048 .f32) y = m ((c : Thread nD τ).loc main_arg1) i := by
  obtain ⟨-, e0, e1⟩ := idx_in t
  unfold X0_1 Pipeline.Window.fill
  rw [dif_pos (moved0_1 t y)]
  refine V_main_v0 m c _ i ?_ ?_
  · show (i 0).val = win0_1.index t 1 * 2048 + 1 * (y 1).val; rw [e1, h0]; omega
  · show (i 1).val = win0_1.index t 0 * 1024 + 1 * (y 0).val; rw [e0, h1]; omega

/-- The casting case: the scratch buffer is set to the block staged, and the block of the result is the payload. -/
theorem at_A (c : Dev nD) (t : Fin cfg0.N) (h0 : t.val % 8 = 0) : outsAt0 m c t.val t.isLt
    = (k0_pay2 (iblk m c 0 t) (k0_pay1 (X0_1 m c t)), k0_pay1 (X0_1 m c t)) := by
  rw [outsAt0_A m c t h0]
  refine Prod.ext ?_ ?_ <;> dsimp only
  · unfold out0_A_2
    rw [View.read_writes_eq_canon _ _ _ (fun y => cover0_A_2 (y := y) ..)]
    unfold kernelRun0_A
    dsimp only
    sl_unfold_words
    rw [View.canon_unit_zero hz]
    simp only [View.readAt_eq_ld, (hs0_0 t).read_unread, (hs0_1 t).read_unread,
      View.readCov_unit_zero (S := S2048x1024) _ hz, View.ld_unit_zero (S := S1024x2048) hz]
  · unfold sout0_A_0
    rw [View.read_writes_eq_canon _ _ _ (fun y => scover0_A_0 (y := y) ..)]
    unfold kernelRun0_A
    dsimp only
    sl_unfold_words
    rw [View.canon_unit_zero hz]
    simp only [View.readAt_eq_ld, (hs0_1 t).read_unread, View.ld_unit_zero (S := S1024x2048) hz]

/-- The other case: the scratch is kept, and the block of the result is the payload over what it holds. -/
theorem at_B (c : Dev nD) (t : Fin cfg0.N) (h0 : ¬t.val % 8 = 0) : outsAt0 m c t.val t.isLt
    = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  refine Prod.ext ?_ rfl
  dsimp only
  generalize (outsAt0 m c (t.val - 1) (Nat.lt_of_le_of_lt (Nat.sub_le _ _) t.isLt)).2 = s0
  unfold out0_B_2
  rw [View.read_writes_eq_canon _ _ _ (fun y => cover0_B_2 (y := y) ..)]
  unfold kernelRun0_B
  dsimp only
  sl_unfold_words
  rw [View.canon_unit_zero hz]
  simp only [View.readAt_eq_ld, (hs0_0 t).read_unread, (Memref.isWhole_whole _).read_unread,
    View.ld_unit_zero (S := S2048x1024) hz, View.ld_unit_zero (S := S1024x2048) hz]

/-- The weights' block does not change while the scratch is kept. -/
theorem iblk_const (c : Dev nD) (t : Fin cfg0.N) (h0 : ¬t.val % 8 = 0) :
    (X0_1 m c t : Vec F S1024x2048 .f32) = X0_1 m c ⟨t.val - 1, Nat.lt_of_le_of_lt (Nat.sub_le _ _) t.isLt⟩ := by
  have hN := lt_of_lt_of_eq t.isLt (show cfg0.N = 48 from N_0)
  have hd : (t.val - 1) / 8 = t.val / 8 := by omega
  funext y
  have hy : (y 0).val < 1024 := (y 0).isLt
  rw [iblk1 m c t y (ix2 ⟨(y 1).val, (y 1).isLt⟩ ⟨t.val / 8 * 1024 + (y 0).val, by omega⟩) rfl rfl]
  exact (iblk1 m c _ y _ rfl (by show t.val / 8 * 1024 + (y 0).val = (t.val - 1) / 8 * 1024 + (y 0).val; rw [hd])).symm

/-- At every point the scratch buffer holds the weights' block the point stages. -/
theorem scratch_eq (c : Dev nD) (t : Fin cfg0.N) : (outsAt0 m c t.val t.isLt).2 = k0_pay1 (X0_1 m c t) :=
  Common.carried 8 (fun t : Fin cfg0.N => (outsAt0 m c t.val t.isLt).2) (fun t => k0_pay1 (X0_1 m c t))
    (fun t h0 => by rw [at_A m c t h0]) (fun t h0 => by rw [at_B m c t h0]) (fun t h0 => by rw [iblk_const m c t h0]) t

/-- What the point leaves in its block of the result, from the blocks it stages. -/
theorem out_eq (c : Dev nD) (t : Fin cfg0.N) : (outsAt0 m c t.val t.isLt).1 = k0_pay2 (iblk m c 0 t) (k0_pay1 (X0_1 m c t)) := by
  by_cases h0 : t.val % 8 = 0
  · rw [at_A m c t h0]
  · have e := scratch_eq m c t
    rw [at_B m c t h0] at e ⊢
    dsimp only at e ⊢
    rw [e]

variable (m : (ℓ : Loc nD τ sig) → Buf (Elt Ideal) ℓ)

/-- The block payload read at an index. -/
theorem pay_apply (x0 : Vec Ideal S1024x2048 .bf16) (x1 : Vec Ideal S1024x2048 .f32) (y : S1024x1024.Idx) :
    (k0_pay2 x0 (k0_pay1 x1) : FVec Ideal S1024x1024 .bf16) y = ∑ k : Fin 2048, x0 (ix2 (y 0) k) * x1 (ix2 (y 1) k) := by
  unfold k0_pay2 k0_pay1
  refine (Common.mm_plain _ _ y).trans (Finset.sum_congr rfl fun k _ => congrArg (fun b : EReal => _ * b) ?_)
  rw [shapeCast_self, shapeCast_self]
  exact transpose_apply [1, 0] x1 _ _ _ fun b => match b with | ⟨0, _⟩ => rfl | ⟨1, _⟩ => rfl

/-- The result array is the reference's. -/
theorem G_eq (c : Dev nD) : G2 m c = InProjRefIdeal.Read.val_main_v3 (F := Ideal) (m ((c : Thread nD τ).loc main_arg0))
    (m ((c : Thread nD τ).loc main_arg1)) := by
  funext i
  have hi0 : (i 0).val < 8192 := (i 0).isLt
  have hi1 : (i 1).val < 6144 := (i 1).isLt
  have hp : pt2Of i < cfg0.N := lt_of_lt_of_eq (by show 1 * ((i 0).val / 1024 - 0) + 8 * ((i 1).val / 1024 - 0) < 48; omega) N_0.symm
  have hv : pt2Of i = 1 * ((i 0).val / 1024 - 0) + 8 * ((i 1).val / 1024 - 0) := rfl
  have e0 : (i 0).val = pt2Of i % 8 * 1024 + (i 0).val % 1024 := by omega
  have e1 : (i 1).val = pt2Of i / 8 * 1024 + (i 1).val % 1024 := by omega
  unfold G2
  rw [dif_pos hp, ← outsAt0_sweep m c _ hp, out_eq m c ⟨pt2Of i, hp⟩, pay_apply, InProjRefIdeal.Read.val_main_v3_apply,
    InProjRefIdeal.Read.val_main_v2_apply, InProjRefIdeal.Read.val_main_v1_apply]
  refine congrArg (fun z : EReal => z) (Finset.sum_congr rfl fun k _ => congrArg₂ (fun a b : EReal => a * b) ?_ ?_)
  · exact iblk0 m c ⟨pt2Of i, hp⟩ _ (InProjRefIdeal.Read.lidx_main_v1 (InProjRefIdeal.Read.idx_main_v2 i) k) e0 rfl
  · exact iblk1 m c ⟨pt2Of i, hp⟩ _ (InProjRefIdeal.Read.ridx_main_v1 (InProjRefIdeal.Read.idx_main_v2 i) k) rfl e1

end Cert.InProjIdeal.Hand

end
-- ==== Proof.OutProjValue.lean ====
/- The output projection (`cc0_out_proj`): `h + concat(o1, o2) @ w_out`, one 1024 × 1024 block of the result per point, as
   the sum of the products of each half with its half of the weights' rows. The two blocks of the weights are cast once
   per block column into two scratch buffers the kernel carries (`scratch_eq`). -/
module

public import proofs.«01_k».proof.Proof.Gen.OutProjIdeal.Value
public import proofs.«01_k».proof.Proof.Gen.OutProjRefIdeal.Read
public import Idealize.ShloMosaic.Lib.Tactic
public import proofs.«01_k».proof.Proof.Common

@[expose] public section

set_option maxRecDepth 16384

noncomputable section

namespace Cert.OutProjIdeal.Hand

open Cert.OutProjIdeal Cert.OutProjIdeal.Gen Cert.OutProjIdeal.Value Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz : (![0, 0] : Fin 2 → Nat) = fun _ => 0 := funext fun a => by fin_cases a <;> rfl

/-- The printed index maps over the grid: row block `t % 8`, column block `t / 8`, the weights' lower half one block down. -/
theorem idx_in : ∀ t : Fin cfg0.N, (win0_0.index t 0 = t.val % 8 ∧ win0_0.index t 1 = 0)
    ∧ (win0_1.index t 0 = t.val % 8 ∧ win0_1.index t 1 = 0)
    ∧ (win0_2.index t 0 = 0 ∧ win0_2.index t 1 = t.val / 8)
    ∧ (win0_3.index t 0 = 1 ∧ win0_3.index t 1 = t.val / 8)
    ∧ (win0_4.index t 0 = t.val % 8 ∧ win0_4.index t 1 = t.val / 8) :=
  (by decide +kernel : ∀ t : Fin grid0.N, _)

theorem iblk0 (c : Dev nD) (t : Fin cfg0.N) (y : S1024x1024.Idx) (i : S8192x1024.Idx)
    (h0 : (i 0).val = t.val % 8 * 1024 + (y 0).val) (h1 : (i 1).val = (y 1).val) :
    (iblk m c 0 t : Vec F S1024x1024 .bf16) y = m ((c : Thread nD τ).loc main_arg0) i := by
  obtain ⟨⟨e0, e1⟩, -⟩ := idx_in t
  show m ((c : Thread nD τ).loc main_arg0) _ = _
  refine congrArg (m ((c : Thread nD τ).loc main_arg0)) (Common.ext2 ?_ ?_)
  · show win0_0.index t 0 * 1024 + 1 * (y 0).val = (i 0).val; rw [e0, h0]; omega
  · show win0_0.index t 1 * 1024 + 1 * (y 1).val = (i 1).val; rw [e1, h1]; omega

theorem iblk1 (c : Dev nD) (t : Fin cfg0.N) (y : S1024x1024.Idx) (i : S8192x1024.Idx)
    (h0 : (i 0).val = t.val % 8 * 1024 + (y 0).val) (h1 : (i 1).val = (y 1).val) :
    (iblk m c 1 t : Vec F S1024x1024 .bf16) y = m ((c : Thread nD τ).loc main_arg1) i := by
  obtain ⟨-, ⟨e0, e1⟩, -⟩ := idx_in t
  show m ((c : Thread nD τ).loc main_arg1) _ = _
  refine congrArg (m ((c : Thread nD τ).loc main_arg1)) (Common.ext2 ?_ ?_)
  · show win0_1.index t 0 * 1024 + 1 * (y 0).val = (i 0).val; rw [e0, h0]; omega
  · show win0_1.index t 1 * 1024 + 1 * (y 1).val = (i 1).val; rw [e1, h1]; omega

theorem iblk2 (c : Dev nD) (t : Fin cfg0.N) (y : S1024x1024.Idx) (i : S2048x2048.Idx)
    (h0 : (i 0).val = (y 0).val) (h1 : (i 1).val = t.val / 8 * 1024 + (y 1).val) :
    (iblk m c 2 t : Vec F S1024x1024 .f32) y = m ((c : Thread nD τ).loc main_arg2) i := by
  obtain ⟨-, -, ⟨e0, e1⟩, -⟩ := idx_in t
  show m ((c : Thread nD τ).loc main_arg2) _ = _
  refine congrArg (m ((c : Thread nD τ).loc main_arg2)) (Common.ext2 ?_ ?_)
  · show win0_2.index t 0 * 1024 + 1 * (y 0).val = (i 0).val; rw [e0, h0]; omega
  · show win0_2.index t 1 * 1024 + 1 * (y 1).val = (i 1).val; rw [e1, h1]; omega

theorem iblk3 (c : Dev nD) (t : Fin cfg0.N) (y : S1024x1024.Idx) (i : S2048x2048.Idx)
    (h0 : (i 0).val = 1024 + (y 0).val) (h1 : (i 1).val = t.val / 8 * 1024 + (y 1).val) :
    (iblk m c 3 t : Vec F S1024x1024 .f32) y = m ((c : Thread nD τ).loc main_arg2) i := by
  obtain ⟨-, -, -, ⟨e0, e1⟩, -⟩ := idx_in t
  show m ((c : Thread nD τ).loc main_arg2) _ = _
  refine congrArg (m ((c : Thread nD τ).loc main_arg2)) (Common.ext2 ?_ ?_)
  · show win0_3.index t 0 * 1024 + 1 * (y 0).val = (i 0).val; rw [e0, h0]; omega
  · show win0_3.index t 1 * 1024 + 1 * (y 1).val = (i 1).val; rw [e1, h1]; omega

theorem iblk4 (c : Dev nD) (t : Fin cfg0.N) (y : S1024x1024.Idx) (i : S8192x2048.Idx)
    (h0 : (i 0).val = t.val % 8 * 1024 + (y 0).val) (h1 : (i 1).val = t.val / 8 * 1024 + (y 1).val) :
    (iblk m c 4 t : Vec F S1024x1024 .f32) y = m ((c : Thread nD τ).loc main_arg3) i := by
  obtain ⟨-, -, -, -, e0, e1⟩ := idx_in t
  show m ((c : Thread nD τ).loc main_arg3) _ = _
  refine congrArg (m ((c : Thread nD τ).loc main_arg3)) (Common.ext2 ?_ ?_)
  · show win0_4.index t 0 * 1024 + 1 * (y 0).val = (i 0).val; rw [e0, h0]; omega
  · show win0_4.index t 1 * 1024 + 1 * (y 1).val = (i 1).val; rw [e1, h1]; omega

/-- The casting case: both scratch buffers are set to the blocks staged, and the block of the result is the payload. -/
theorem at_A (c : Dev nD) (t : Fin cfg0.N) (h0 : t.val % 8 = 0) : outsAt0 m c t.val t.isLt
    = (k0_pay3 (iblk m c 0 t) (k0_pay1 (iblk m c 2 t)) (iblk m c 1 t) (k0_pay2 (iblk m c 3 t)) (iblk m c 4 t),
      k0_pay1 (iblk m c 2 t), k0_pay2 (iblk m c 3 t)) := by
  rw [outsAt0_A m c t h0]
  refine Prod.ext ?_ (Prod.ext ?_ ?_) <;> dsimp only
  · unfold out0_A_5
    rw [View.read_writes_eq_canon _ _ _ (fun y => cover0_A_5 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, View.readCov_unit_zero (S := S1024x1024) _ hz, View.ld_unit_zero (S := S1024x1024) hz]
  · unfold sout0_A_0
    rw [View.read_writes_eq_canon _ _ _ (fun y => scover0_A_0 (y := y) ..)]
    unfold kernelRun0_A
    dsimp only
    sl_unfold_words
    rw [View.canon_unit_zero hz]
    simp only [View.readAt_eq_ld, (hs0_2 t).read_unread, View.ld_unit_zero (S := S1024x1024) hz]
  · unfold sout0_A_1
    rw [View.read_writes_eq_canon _ _ _ (fun y => scover0_A_1 (y := y) ..)]
    unfold kernelRun0_A
    dsimp only
    sl_unfold_words
    rw [View.canon_unit_zero hz]
    simp only [View.readAt_eq_ld, (hs0_3 t).read_unread, View.ld_unit_zero (S := S1024x1024) hz]

/-- The other case: both are kept, and the block of the result is the payload over what they hold. -/
theorem at_B (c : Dev nD) (t : Fin cfg0.N) (h0 : ¬t.val % 8 = 0) : outsAt0 m c t.val t.isLt
    = (k0_pay3 (iblk m c 0 t) (outsAt0 m c (t.val - 1) (Nat.lt_of_le_of_lt (Nat.sub_le _ _) t.isLt)).2.1 (iblk m c 1 t)
        (outsAt0 m c (t.val - 1) (Nat.lt_of_le_of_lt (Nat.sub_le _ _) t.isLt)).2.2 (iblk m c 4 t),
      (outsAt0 m c (t.val - 1) (Nat.lt_of_le_of_lt (Nat.sub_le _ _) t.isLt)).2) := by
  rw [outsAt0_B m c t h0]
  refine Prod.ext ?_ rfl
  dsimp only
  generalize (outsAt0 m c (t.val - 1) (Nat.lt_of_le_of_lt (Nat.sub_le _ _) t.isLt)).2.1 = s0
  generalize (outsAt0 m c (t.val - 1) (Nat.lt_of_le_of_lt (Nat.sub_le _ _) t.isLt)).2.2 = s1
  unfold out0_B_5
  rw [View.read_writes_eq_canon _ _ _ (fun y => cover0_B_5 (y := y) ..)]
  unfold kernelRun0_B
  dsimp only
  sl_unfold_words
  rw [View.canon_unit_zero hz]
  simp only [View.readAt_eq_ld, (hs0_0 t).read_unread, (hs0_1 t).read_unread, (hs0_4 t).read_unread,
    (Memref.isWhole_whole _).read_unread, View.ld_unit_zero (S := S1024x1024) hz]

/-- The weights' blocks do not change while the scratch is kept. -/
theorem iblk_const (c : Dev nD) (t : Fin cfg0.N) (h0 : ¬t.val % 8 = 0) :
    ((iblk m c 2 t : Vec F S1024x1024 .f32) = iblk m c 2 ⟨t.val - 1, Nat.lt_of_le_of_lt (Nat.sub_le _ _) t.isLt⟩)
    ∧ ((iblk m c 3 t : Vec F S1024x1024 .f32) = iblk m c 3 ⟨t.val - 1, Nat.lt_of_le_of_lt (Nat.sub_le _ _) t.isLt⟩) := by
  have hN := lt_of_lt_of_eq t.isLt (show cfg0.N = 16 from N_0)
  have hd : (t.val - 1) / 8 = t.val / 8 := by omega
  constructor <;> funext y <;> have hy0 : (y 0).val < 1024 := (y 0).isLt <;> have hy : (y 1).val < 1024 := (y 1).isLt
  · rw [iblk2 m c t y (ix2 ⟨(y 0).val, by omega⟩ ⟨t.val / 8 * 1024 + (y 1).val, by omega⟩) rfl rfl]
    exact (iblk2 m c _ y _ rfl (by show t.val / 8 * 1024 + (y 1).val = (t.val - 1) / 8 * 1024 + (y 1).val; rw [hd])).symm
  · rw [iblk3 m c t y (ix2 ⟨1024 + (y 0).val, by omega⟩ ⟨t.val / 8 * 1024 + (y 1).val, by omega⟩) rfl rfl]
    exact (iblk3 m c _ y _ rfl (by show t.val / 8 * 1024 + (y 1).val = (t.val - 1) / 8 * 1024 + (y 1).val; rw [hd])).symm

/-- At every point the scratch buffers hold the weights' blocks the point stages. -/
theorem scratch_eq (c : Dev nD) (t : Fin cfg0.N) : (outsAt0 m c t.val t.isLt).2 = (k0_pay1 (iblk m c 2 t), k0_pay2 (iblk m c 3 t)) :=
  Common.carried 8 (fun t : Fin cfg0.N => (outsAt0 m c t.val t.isLt).2) (fun t => (k0_pay1 (iblk m c 2 t), k0_pay2 (iblk m c 3 t)))
    (fun t h0 => by rw [at_A m c t h0]) (fun t h0 => by rw [at_B m c t h0])
    (fun t h0 => by rw [(iblk_const m c t h0).1, (iblk_const m c t h0).2]) t

/-- What the point leaves in its block of the result, from the blocks it stages. -/
theorem out_eq (c : Dev nD) (t : Fin cfg0.N) : (outsAt0 m c t.val t.isLt).1
    = k0_pay3 (iblk m c 0 t) (k0_pay1 (iblk m c 2 t)) (iblk m c 1 t) (k0_pay2 (iblk m c 3 t)) (iblk m c 4 t) := by
  by_cases h0 : t.val % 8 = 0
  · rw [at_A m c t h0]
  · have e := scratch_eq m c t
    rw [at_B m c t h0] at e ⊢
    dsimp only at e ⊢
    rw [e]

variable (m : (ℓ : Loc nD τ sig) → Buf (Elt Ideal) ℓ)

/-- The block payload read at an index. -/
theorem pay_apply (x0 x1 : Vec Ideal S1024x1024 .bf16) (w0 w1 h : Vec Ideal S1024x1024 .f32) (y : S1024x1024.Idx) :
    (k0_pay3 x0 (k0_pay1 w0) x1 (k0_pay2 w1) h : FVec Ideal S1024x1024 .f32) y
      = (fun z a b : EReal => z + (a + b)) (h y) (∑ k : Fin 1024, x0 (ix2 (y 0) k) * w0 (ix2 k (y 1)))
          (∑ k : Fin 1024, x1 (ix2 (y 0) k) * w1 (ix2 k (y 1))) := by
  unfold k0_pay3 k0_pay1 k0_pay2
  refine congrArg₂ (fun a b : EReal => _ + (a + b)) ((Common.mm_plain _ _ y).trans ?_) ((Common.mm_plain _ _ y).trans ?_)
    <;> rw [shapeCast_self] <;> rfl

/-- The concatenation the reference multiplies, read in its first half … -/
theorem cat_left (x0 x1 : Vec Ideal S8192x1024 .bf16) (j : S8192x2048.Idx) (i : S8192x1024.Idx) (h0 : (i 0).val = (j 0).val)
    (h1 : (i 1).val = (j 1).val) : OutProjRefIdeal.Read.val_main_v2 (F := Ideal) x0 x1 j = x0 i := by
  unfold OutProjRefIdeal.Read.val_main_v2
  exact concatenate_pair_apply_left (s₁ := S8192x1024) (s₂ := S8192x1024) 1 _ _ _ j rfl i fun b => match b with | ⟨0, _⟩ => h0 | ⟨1, _⟩ => h1

/-- … and in its second. -/
theorem cat_right (x0 x1 : Vec Ideal S8192x1024 .bf16) (j : S8192x2048.Idx) (i : S8192x1024.Idx) (h0 : (i 0).val = (j 0).val)
    (h1 : (i 1).val + 1024 = (j 1).val) : OutProjRefIdeal.Read.val_main_v2 (F := Ideal) x0 x1 j = x1 i := by
  unfold OutProjRefIdeal.Read.val_main_v2
  exact concatenate_pair_apply_right (s₁ := S8192x1024) (s₂ := S8192x1024) 1 _ _ _ j rfl rfl i (fun b => match b with
    | ⟨0, _⟩ => fun _ => h0 | ⟨1, _⟩ => fun h => absurd rfl h) h1

/-- The result array is the reference's. -/
theorem G_eq (c : Dev nD) : G5 m c = OutProjRefIdeal.Read.val_main_v4 (F := Ideal) (m ((c : Thread nD τ).loc main_arg0))
    (m ((c : Thread nD τ).loc main_arg1)) (m ((c : Thread nD τ).loc main_arg2)) (m ((c : Thread nD τ).loc main_arg3)) := by
  funext i
  have hi0 : (i 0).val < 8192 := (i 0).isLt
  have hi1 : (i 1).val < 2048 := (i 1).isLt
  have hp : pt5Of i < cfg0.N := lt_of_lt_of_eq (by show 1 * ((i 0).val / 1024 - 0) + 8 * ((i 1).val / 1024 - 0) < 16; omega) N_0.symm
  have hv : pt5Of i = 1 * ((i 0).val / 1024 - 0) + 8 * ((i 1).val / 1024 - 0) := rfl
  have e0 : (i 0).val = pt5Of i % 8 * 1024 + (i 0).val % 1024 := by omega
  have e1 : (i 1).val = pt5Of i / 8 * 1024 + (i 1).val % 1024 := by omega
  unfold G5
  rw [dif_pos hp, ← outsAt0_sweep m c _ hp, out_eq m c ⟨pt5Of i, hp⟩, pay_apply, OutProjRefIdeal.Read.val_main_v4_apply,
    OutProjRefIdeal.Read.val_main_v3_apply]
  refine congrArg₂ (fun a b : EReal => a + b) (iblk4 m c ⟨pt5Of i, hp⟩ _ i e0 e1) (Eq.trans ?_ (Fin.sum_univ_add (a := 1024) (b := 1024) _).symm)
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · rw [cat_left _ _ (OutProjRefIdeal.Read.lidx_main_v3 i (Fin.castAdd 1024 k)) (ix2 (i 0) k) rfl rfl]
    exact iblk0 m c ⟨pt5Of i, hp⟩ _ (ix2 (i 0) k) e0 rfl
  · exact iblk2 m c ⟨pt5Of i, hp⟩ _ (OutProjRefIdeal.Read.ridx_main_v3 i (Fin.castAdd 1024 k)) rfl e1
  · rw [cat_right _ _ (OutProjRefIdeal.Read.lidx_main_v3 i (Fin.natAdd 1024 k)) (ix2 (i 0) k) rfl (Nat.add_comm _ _)]
    exact iblk1 m c ⟨pt5Of i, hp⟩ _ (ix2 (i 0) k) e0 rfl
  · exact iblk3 m c ⟨pt5Of i, hp⟩ _ (OutProjRefIdeal.Read.ridx_main_v3 i (Fin.natAdd 1024 k)) rfl e1

end Cert.OutProjIdeal.Hand

end
-- ==== Proof.PleValue.lean ====
/- The per-layer-embedding call (`cc0_ple`): `h + sigmoid(hn @ w_gate) * (p @ w_proj)`, one 1024 × 1024 block of the result
   per point. The two blocks of the weights are cast once per block column into two scratch buffers the kernel carries
   (`scratch_eq`). -/
module

public import proofs.«01_k».proof.Proof.Gen.PleIdeal.Value
public import proofs.«01_k».proof.Proof.Gen.PleRefIdeal.Read
public import Idealize.ShloMosaic.Lib.Tactic
public import proofs.«01_k».proof.Proof.Common

@[expose] public section

set_option maxRecDepth 16384

noncomputable section

namespace Cert.PleIdeal.Hand

open Cert.PleIdeal Cert.PleIdeal.Gen Cert.PleIdeal.Value Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz : (![0, 0] : Fin 2 → Nat) = fun _ => 0 := funext fun a => by fin_cases a <;> rfl

/-- The printed index maps over the grid: row block `t % 8`, column block `t / 8`. -/
theorem idx_in : ∀ t : Fin cfg0.N, (win0_0.index t 0 = t.val % 8 ∧ win0_0.index t 1 = 0)
    ∧ (win0_1.index t 0 = t.val % 8 ∧ win0_1.index t 1 = 0)
    ∧ (win0_2.index t 0 = 0 ∧ win0_2.index t 1 = t.val / 8)
    ∧ (win0_3.index t 0 = 0 ∧ win0_3.index t 1 = t.val / 8)
    ∧ (win0_4.index t 0 = t.val % 8 ∧ win0_4.index t 1 = t.val / 8) :=
  (by decide +kernel : ∀ t : Fin grid0.N, _)

theorem iblk0 (c : Dev nD) (t : Fin cfg0.N) (y : S1024x2048.Idx) (i : S8192x2048.Idx)
    (h0 : (i 0).val = t.val % 8 * 1024 + (y 0).val) (h1 : (i 1).val = (y 1).val) :
    (iblk m c 0 t : Vec F S1024x2048 .bf16) y = m ((c : Thread nD τ).loc main_arg0) i := by
  obtain ⟨⟨e0, e1⟩, -⟩ := idx_in t
  show m ((c : Thread nD τ).loc main_arg0) _ = _
  refine congrArg (m ((c : Thread nD τ).loc main_arg0)) (Common.ext2 ?_ ?_)
  · show win0_0.index t 0 * 1024 + 1 * (y 0).val = (i 0).val; rw [e0, h0]; omega
  · show win0_0.index t 1 * 2048 + 1 * (y 1).val = (i 1).val; rw [e1, h1]; omega

theorem iblk1 (c : Dev nD) (t : Fin cfg0.N) (y : S1024x256.Idx) (i : S8192x256.Idx)
    (h0 : (i 0).val = t.val % 8 * 1024 + (y 0).val) (h1 : (i 1).val = (y 1).val) :
    (iblk m c 1 t : Vec F S1024x256 .f32) y = m ((c : Thread nD τ).loc main_arg1) i := by
  obtain ⟨-, ⟨e0, e1⟩, -⟩ := idx_in t
  show m ((c : Thread nD τ).loc main_arg1) _ = _
  refine congrArg (m ((c : Thread nD τ).loc main_arg1)) (Common.ext2 ?_ ?_)
  · show win0_1.index t 0 * 1024 + 1 * (y 0).val = (i 0).val; rw [e0, h0]; omega
  · show win0_1.index t 1 * 256 + 1 * (y 1).val = (i 1).val; rw [e1, h1]; omega

theorem iblk2 (c : Dev nD) (t : Fin cfg0.N) (y : S2048x1024.Idx) (i : S2048x2048.Idx)
    (h0 : (i 0).val = (y 0).val) (h1 : (i 1).val = t.val / 8 * 1024 + (y 1).val) :
    (iblk m c 2 t : Vec F S2048x1024 .f32) y = m ((c : Thread nD τ).loc main_arg2) i := by
  obtain ⟨-, -, ⟨e0, e1⟩, -⟩ := idx_in t
  show m ((c : Thread nD τ).loc main_arg2) _ = _
  refine congrArg (m ((c : Thread nD τ).loc main_arg2)) (Common.ext2 ?_ ?_)
  · show win0_2.index t 0 * 2048 + 1 * (y 0).val = (i 0).val; rw [e0, h0]; omega
  · show win0_2.index t 1 * 1024 + 1 * (y 1).val = (i 1).val; rw [e1, h1]; omega

theorem iblk3 (c : Dev nD) (t : Fin cfg0.N) (y : S256x1024.Idx) (i : S256x2048.Idx)
    (h0 : (i 0).val = (y 0).val) (h1 : (i 1).val = t.val / 8 * 1024 + (y 1).val) :
    (iblk m c 3 t : Vec F S256x1024 .f32) y = m ((c : Thread nD τ).loc main_arg3) i := by
  obtain ⟨-, -, -, ⟨e0, e1⟩, -⟩ := idx_in t
  show m ((c : Thread nD τ).loc main_arg3) _ = _
  refine congrArg (m ((c : Thread nD τ).loc main_arg3)) (Common.ext2 ?_ ?_)
  · show win0_3.index t 0 * 256 + 1 * (y 0).val = (i 0).val; rw [e0, h0]; omega
  · show win0_3.index t 1 * 1024 + 1 * (y 1).val = (i 1).val; rw [e1, h1]; omega

theorem iblk4 (c : Dev nD) (t : Fin cfg0.N) (y : S1024x1024.Idx) (i : S8192x2048.Idx)
    (h0 : (i 0).val = t.val % 8 * 1024 + (y 0).val) (h1 : (i 1).val = t.val / 8 * 1024 + (y 1).val) :
    (iblk m c 4 t : Vec F S1024x1024 .f32) y = m ((c : Thread nD τ).loc main_arg4) i := by
  obtain ⟨-, -, -, -, e0, e1⟩ := idx_in t
  show m ((c : Thread nD τ).loc main_arg4) _ = _
  refine congrArg (m ((c : Thread nD τ).loc main_arg4)) (Common.ext2 ?_ ?_)
  · show win0_4.index t 0 * 1024 + 1 * (y 0).val = (i 0).val; rw [e0, h0]; omega
  · show win0_4.index t 1 * 1024 + 1 * (y 1).val = (i 1).val; rw [e1, h1]; omega

/-- The casting case: both scratch buffers are set to the blocks staged, and the block of the result is the payload. -/
theorem at_A (c : Dev nD) (t : Fin cfg0.N) (h0 : t.val % 8 = 0) : outsAt0 m c t.val t.isLt
    = (k0_pay3 (iblk m c 0 t) (k0_pay1 (iblk m c 2 t)) (iblk m c 1 t) (k0_pay2 (iblk m c 3 t)) (iblk m c 4 t),
      k0_pay1 (iblk m c 2 t), k0_pay2 (iblk m c 3 t)) := by
  rw [outsAt0_A m c t h0]
  refine Prod.ext ?_ (Prod.ext ?_ ?_) <;> dsimp only
  · unfold out0_A_5
    rw [View.read_writes_eq_canon _ _ _ (fun y => cover0_A_5 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, View.readCov_unit_zero (S := S2048x1024) _ hz, View.readCov_unit_zero (S := S256x1024) _ hz,
      View.ld_unit_zero (S := S1024x2048) hz, View.ld_unit_zero (S := S1024x256) hz, View.ld_unit_zero (S := S2048x1024) hz,
      View.ld_unit_zero (S := S256x1024) hz, View.ld_unit_zero (S := S1024x1024) hz]
  · unfold sout0_A_0
    rw [View.read_writes_eq_canon _ _ _ (fun y => scover0_A_0 (y := y) ..)]
    unfold kernelRun0_A
    dsimp only
    sl_unfold_words
    rw [View.canon_unit_zero hz]
    simp only [View.readAt_eq_ld, (hs0_2 t).read_unread, View.ld_unit_zero (S := S2048x1024) hz]
  · unfold sout0_A_1
    rw [View.read_writes_eq_canon _ _ _ (fun y => scover0_A_1 (y := y) ..)]
    unfold kernelRun0_A
    dsimp only
    sl_unfold_words
    rw [View.canon_unit_zero hz]
    simp only [View.readAt_eq_ld, (hs0_3 t).read_unread, View.ld_unit_zero (S := S256x1024) hz]

/-- The other case: both are kept, and the block of the result is the payload over what they hold. -/
theorem at_B (c : Dev nD) (t : Fin cfg0.N) (h0 : ¬t.val % 8 = 0) : outsAt0 m c t.val t.isLt
    = (k0_pay3 (iblk m c 0 t) (outsAt0 m c (t.val - 1) (Nat.lt_of_le_of_lt (Nat.sub_le _ _) t.isLt)).2.1 (iblk m c 1 t)
        (outsAt0 m c (t.val - 1) (Nat.lt_of_le_of_lt (Nat.sub_le _ _) t.isLt)).2.2 (iblk m c 4 t),
      (outsAt0 m c (t.val - 1) (Nat.lt_of_le_of_lt (Nat.sub_le _ _) t.isLt)).2) := by
  rw [outsAt0_B m c t h0]
  refine Prod.ext ?_ rfl
  dsimp only
  generalize (outsAt0 m c (t.val - 1) (Nat.lt_of_le_of_lt (Nat.sub_le _ _) t.isLt)).2.1 = s0
  generalize (outsAt0 m c (t.val - 1) (Nat.lt_of_le_of_lt (Nat.sub_le _ _) t.isLt)).2.2 = s1
  unfold out0_B_5
  rw [View.read_writes_eq_canon _ _ _ (fun y => cover0_B_5 (y := y) ..)]
  unfold kernelRun0_B
  dsimp only
  sl_unfold_words
  rw [View.canon_unit_zero hz]
  simp only [View.readAt_eq_ld, (hs0_0 t).read_unread, (hs0_1 t).read_unread, (hs0_4 t).read_unread,
    (Memref.isWhole_whole _).read_unread, View.ld_unit_zero (S := S1024x2048) hz, View.ld_unit_zero (S := S1024x256) hz,
    View.ld_unit_zero (S := S2048x1024) hz, View.ld_unit_zero (S := S256x1024) hz, View.ld_unit_zero (S := S1024x1024) hz]

/-- The weights' blocks do not change while the scratch is kept. -/
theorem iblk_const (c : Dev nD) (t : Fin cfg0.N) (h0 : ¬t.val % 8 = 0) :
    ((iblk m c 2 t : Vec F S2048x1024 .f32) = iblk m c 2 ⟨t.val - 1, Nat.lt_of_le_of_lt (Nat.sub_le _ _) t.isLt⟩)
    ∧ ((iblk m c 3 t : Vec F S256x1024 .f32) = iblk m c 3 ⟨t.val - 1, Nat.lt_of_le_of_lt (Nat.sub_le _ _) t.isLt⟩) := by
  have hN := lt_of_lt_of_eq t.isLt (show cfg0.N = 16 from N_0)
  have hd : (t.val - 1) / 8 = t.val / 8 := by omega
  constructor <;> funext y <;> have hy : (y 1).val < 1024 := (y 1).isLt
  · rw [iblk2 m c t y (ix2 ⟨(y 0).val, (y 0).isLt⟩ ⟨t.val / 8 * 1024 + (y 1).val, by omega⟩) rfl rfl]
    exact (iblk2 m c _ y _ rfl (by show t.val / 8 * 1024 + (y 1).val = (t.val - 1) / 8 * 1024 + (y 1).val; rw [hd])).symm
  · rw [iblk3 m c t y (ix2 ⟨(y 0).val, (y 0).isLt⟩ ⟨t.val / 8 * 1024 + (y 1).val, by omega⟩) rfl rfl]
    exact (iblk3 m c _ y _ rfl (by show t.val / 8 * 1024 + (y 1).val = (t.val - 1) / 8 * 1024 + (y 1).val; rw [hd])).symm

/-- At every point the scratch buffers hold the weights' blocks the point stages. -/
theorem scratch_eq (c : Dev nD) (t : Fin cfg0.N) : (outsAt0 m c t.val t.isLt).2 = (k0_pay1 (iblk m c 2 t), k0_pay2 (iblk m c 3 t)) :=
  Common.carried 8 (fun t : Fin cfg0.N => (outsAt0 m c t.val t.isLt).2) (fun t => (k0_pay1 (iblk m c 2 t), k0_pay2 (iblk m c 3 t)))
    (fun t h0 => by rw [at_A m c t h0]) (fun t h0 => by rw [at_B m c t h0])
    (fun t h0 => by rw [(iblk_const m c t h0).1, (iblk_const m c t h0).2]) t

/-- What the point leaves in its block of the result, from the blocks it stages. -/
theorem out_eq (c : Dev nD) (t : Fin cfg0.N) : (outsAt0 m c t.val t.isLt).1
    = k0_pay3 (iblk m c 0 t) (k0_pay1 (iblk m c 2 t)) (iblk m c 1 t) (k0_pay2 (iblk m c 3 t)) (iblk m c 4 t) := by
  by_cases h0 : t.val % 8 = 0
  · rw [at_A m c t h0]
  · have e := scratch_eq m c t
    rw [at_B m c t h0] at e ⊢
    dsimp only at e ⊢
    rw [e]

variable (m : (ℓ : Loc nD τ sig) → Buf (Elt Ideal) ℓ)

/-- The gated embedding added to the hidden state, over the extended reals. -/
def mixed (h a b : EReal) : EReal := h + Ideal.logistic a * b

/-- The block payload read at an index. -/
theorem pay_apply (x0 : Vec Ideal S1024x2048 .bf16) (w0 : Vec Ideal S2048x1024 .f32) (x1 : Vec Ideal S1024x256 .f32)
    (w1 : Vec Ideal S256x1024 .f32) (h : Vec Ideal S1024x1024 .f32) (y : S1024x1024.Idx) :
    (k0_pay3 x0 (k0_pay1 w0) x1 (k0_pay2 w1) h : FVec Ideal S1024x1024 .f32) y
      = mixed (h y) (∑ k : Fin 2048, x0 (ix2 (y 0) k) * w0 (ix2 k (y 1))) (∑ k : Fin 256, x1 (ix2 (y 0) k) * w1 (ix2 k (y 1))) := by
  unfold k0_pay3 k0_pay1 k0_pay2
  refine congrArg₂ (mixed (h y)) ((Common.mm_plain _ _ y).trans ?_) ((Common.mm_plain _ _ y).trans ?_) <;> rw [shapeCast_self] <;> rfl

/-- The reference read at an index. -/
theorem ref_apply (x0 : Vec Ideal S8192x2048 .bf16) (x1 : Vec Ideal S8192x256 .f32) (x2 : Vec Ideal S2048x2048 .f32)
    (x3 : Vec Ideal S256x2048 .f32) (x4 : Vec Ideal S8192x2048 .f32) (i : S8192x2048.Idx) :
    PleRefIdeal.Read.val_main_v10 (F := Ideal) x0 x1 x2 x3 x4 i
      = mixed (x4 i) (PleRefIdeal.Read.val_main_v1 (F := Ideal) x0 x2 i) (PleRefIdeal.Read.val_main_v8 (F := Ideal) x1 x3 i) := by
  rw [PleRefIdeal.Read.val_main_v10_apply, PleRefIdeal.Read.val_main_v9_apply, PleRefIdeal.Read.val_main_v7_apply,
    PleRefIdeal.Read.val_main_v6_apply, PleRefIdeal.Read.val_main_v5_apply, PleRefIdeal.Read.val_main_v4_apply,
    PleRefIdeal.Read.val_main_v3_apply, PleRefIdeal.Read.val_main_v2_apply]
  exact congrArg (fun z : EReal => _ + z * _) (Common.logistic_host _)

/-- The result array is the reference's. -/
theorem G_eq (c : Dev nD) : G5 m c = PleRefIdeal.Read.val_main_v10 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  funext i
  have hi0 : (i 0).val < 8192 := (i 0).isLt
  have hi1 : (i 1).val < 2048 := (i 1).isLt
  have hp : pt5Of i < cfg0.N := lt_of_lt_of_eq (by show 1 * ((i 0).val / 1024 - 0) + 8 * ((i 1).val / 1024 - 0) < 16; omega) N_0.symm
  have hv : pt5Of i = 1 * ((i 0).val / 1024 - 0) + 8 * ((i 1).val / 1024 - 0) := rfl
  have e0 : (i 0).val = pt5Of i % 8 * 1024 + (i 0).val % 1024 := by omega
  have e1 : (i 1).val = pt5Of i / 8 * 1024 + (i 1).val % 1024 := by omega
  unfold G5
  rw [dif_pos hp, ← outsAt0_sweep m c _ hp, out_eq m c ⟨pt5Of i, hp⟩, pay_apply]
  refine Eq.trans ?_ (ref_apply _ _ _ _ _ i).symm
  rw [iblk4 m c ⟨pt5Of i, hp⟩ _ i e0 e1, PleRefIdeal.Read.val_main_v1_apply, PleRefIdeal.Read.val_main_v8_apply]
  refine congrArg₂ (mixed _) (Finset.sum_congr rfl fun k _ => congrArg₂ (fun a b : EReal => a * b) ?_ ?_)
    (Finset.sum_congr rfl fun k _ => congrArg₂ (fun a b : EReal => a * b) ?_ ?_)
  · exact iblk0 m c ⟨pt5Of i, hp⟩ _ (PleRefIdeal.Read.lidx_main_v1 i k) e0 rfl
  · exact iblk2 m c ⟨pt5Of i, hp⟩ _ (PleRefIdeal.Read.ridx_main_v1 i k) rfl e1
  · exact iblk1 m c ⟨pt5Of i, hp⟩ _ (PleRefIdeal.Read.lidx_main_v8 i k) e0 rfl
  · exact iblk3 m c ⟨pt5Of i, hp⟩ _ (PleRefIdeal.Read.ridx_main_v8 i k) rfl e1

end Cert.PleIdeal.Hand

end
-- ==== Proof.GatesScan.lean ====
/- Sums over the rows above: `acc f s r` adds the last `s` values of `f` ending at `r`, stopping at the first; doubling `s`
   is adding the same sum `s` rows further up, which is the kernel's step with a rotation and a mask, and the whole sum is the host's
   padded window. Then the one function applied to a gate before the sums, written two ways. -/
module

public import proofs.«01_k».proof.Proof.Common

@[expose] public section

set_option maxRecDepth 16384

noncomputable section

namespace Cert.GatesIdeal.Hand

open Idealize.ShloMosaic Idealize.ShloMosaic.ValueIdx

/-! ## The sums -/

/-- The sum of the last `s` values of `f` ending at `r`, none before the first. -/
def acc (f : ℕ → EReal) (s r : ℕ) : EReal := ∑ j ∈ Finset.range s, if j ≤ r then f (r - j) else 0

theorem acc_one (f : ℕ → EReal) (r : ℕ) : acc f 1 r = f r := by
  unfold acc
  rw [Finset.sum_range_one, if_pos (Nat.zero_le r), Nat.sub_zero]

theorem acc_double (f : ℕ → EReal) (s r : ℕ) : acc f (s + s) r = acc f s r + if s ≤ r then acc f s (r - s) else 0 := by
  unfold acc
  rw [Finset.sum_range_add]
  refine congrArg (fun z : EReal => _ + z) ?_
  split_ifs with h
  · refine Finset.sum_congr rfl fun j _ => ?_
    by_cases hj : j ≤ r - s
    · rw [if_pos hj, if_pos (by omega), Nat.sub_sub]
    · rw [if_neg hj, if_neg (by omega)]
  · exact Finset.sum_eq_zero fun j _ => if_neg (by omega)

/-- The sum of everything up to `r`, in the order of the host's window: padding first, then the rows upward. -/
theorem acc_window (f : ℕ → EReal) (N r : ℕ) (hr : r ≤ N) :
    ∑ n : Fin (N + 1), (if N ≤ r + n.val then f (r + n.val - N) else 0) = acc f (N + 1) r := by
  unfold acc
  rw [Fin.sum_univ_eq_sum_range (fun n => if N ≤ r + n then f (r + n - N) else 0) (N + 1), ← Finset.sum_range_reflect]
  refine Finset.sum_congr rfl fun j hj => ?_
  have hj' : j < N + 1 := Finset.mem_range.1 hj
  by_cases h : j ≤ r
  · rw [if_pos h, if_pos (by omega)]
    exact congrArg f (by omega)
  · rw [if_neg h, if_neg (by omega)]

/-! ## The kernel's step -/

abbrev Rows : Shape := ⟨2, ![2048, 128]⟩

/-- One step: to every row from the `w`-th on, the row `w` above is added. -/
def step (hi : Rows.Iotas .tc 32 [0]) (hr : Rows.Rotates 0 none) (w : BitVec 32) (x : FVec Ideal Rows .f32) : FVec Ideal Rows .f32 :=
  addf x (select (cmpi .sge (iota .tc Rows 32 [0] hi) (broadcast Rows w)) (dynamicRotate 0 w none x hr)
    (broadcast Rows (Scalar.ofBits .f32 0x00000000#32)))

theorem step_apply (hi : Rows.Iotas .tc 32 [0]) (hr : Rows.Rotates 0 none) (w : BitVec 32) (s : ℕ) (hw : w.toNat = s) (hs : s < 2048)
    (x : FVec Ideal Rows .f32) (r : Fin 2048) (l : Fin 128) :
    (step hi hr w x (ix2 r l) : EReal) = x (ix2 r l) + if h : s ≤ r.val then x (ix2 ⟨r.val - s, by omega⟩ l) else 0 := by
  have hm : IntOp.cmpi .sge (BitVec.ofNat 32 (0 * 2048 + r.val)) w = BitVec.ofBool (decide (s ≤ r.val)) := by
    have hr' := r.isLt
    have e : w.sle (BitVec.ofNat 32 (0 * 2048 + r.val)) = decide (s ≤ r.val) := by
      have h1 : (BitVec.ofNat 32 (0 * 2048 + r.val)).toInt = (r.val : Int) := by
        rw [BitVec.toInt_eq_toNat_of_lt (by rw [BitVec.toNat_ofNat]; omega), BitVec.toNat_ofNat]
        omega
      have h2 : w.toInt = (s : Int) := by
        rw [BitVec.toInt_eq_toNat_of_lt (by omega), hw]
      rw [BitVec.sle, h1, h2]
      exact decide_eq_decide.2 Int.ofNat_le
    show BitVec.ofBool (w.sle _) = _
    rw [e]
  show (x (ix2 r l) + Scalar.select (IntOp.cmpi .sge (BitVec.ofNat 32 (0 * 2048 + r.val)) w) (dynamicRotate 0 w none x hr (ix2 r l))
    (Ideal.ofBits .f32 0x00000000#32) : EReal) = _
  rw [hm]
  refine congrArg (fun z : EReal => x (ix2 r l) + z) ?_
  by_cases h : s ≤ r.val
  · rw [dif_pos h, decide_eq_true h]
    show x _ = x _
    refine congrArg x (Common.ext2 ?_ rfl)
    show (r.val + 2048 - (w.toNat + 0) % 2048) % 2048 = r.val - s
    have hr' := r.isLt
    rw [hw]
    omega
  · rw [dif_neg h, decide_eq_false h]
    exact Ideal.ofBits_zero_f32

/-- So a step doubles the number of rows summed. -/
theorem step_acc (hi : Rows.Iotas .tc 32 [0]) (hr : Rows.Rotates 0 none) (w : BitVec 32) (s : ℕ) (hw : w.toNat = s) (hs : s < 2048)
    (x : FVec Ideal Rows .f32) (l : Fin 128) (f : ℕ → EReal) (hx : ∀ r : Fin 2048, (x (ix2 r l) : EReal) = acc f s r.val) (r : Fin 2048) :
    (step hi hr w x (ix2 r l) : EReal) = acc f (s + s) r.val := by
  rw [step_apply hi hr w s hw hs x r l, acc_double, hx r]
  refine congrArg (fun z : EReal => acc f s r.val + z) ?_
  split_ifs with h
  · exact hx _
  · rfl

/-! ## The function of a gate -/

/-- The gate's logarithm of the logistic function, as the kernel writes it. -/
def gate (x : EReal) : EReal := min x 0 - Ideal.log1p (Ideal.exp (0 - max x (-x)))

theorem exp_nonneg (x : EReal) : 0 ≤ Ideal.exp x := by
  induction x with
  | bot => exact le_refl _
  | top => exact le_top
  | coe r => exact EReal.coe_nonneg.2 (Real.exp_pos r).le

theorem log1p_nonneg (x : EReal) (h : 0 ≤ x) : 0 ≤ Ideal.log1p x := by
  induction x with
  | bot => exact absurd h (by simp)
  | top => show 0 ≤ Ideal.log (1 + ⊤); rw [EReal.add_top_of_ne_bot (by decide)]; exact le_top
  | coe r =>
    have hr : 0 ≤ r := EReal.coe_nonneg.1 h
    have e : (1 : EReal) + (r : EReal) = ((1 + r : ℝ) : EReal) := by rw [EReal.coe_add, EReal.coe_one]
    show 0 ≤ Ideal.log (1 + (r : EReal))
    rw [e]
    show 0 ≤ (if 1 + r ≤ 0 then (⊥ : EReal) else ((Real.log (1 + r) : ℝ) : EReal))
    rw [if_neg (by linarith)]
    exact EReal.coe_nonneg.2 (Real.log_nonneg (by linarith))

/-- The host's writing of it: the negated sum of the positive part of the negated gate and the same logarithm. -/
theorem gate_host (x : EReal) : -(max (-x) 0 + Ideal.log1p (Ideal.exp (-max (-x - 0) (-(-x - 0))))) = gate x := by
  have h0 : (0 : EReal) ≤ max (-x) 0 := le_max_right _ _
  have hn : ∀ y : EReal, 0 ≤ y → y ≠ ⊥ := fun y hy e => by rw [e] at hy; exact absurd hy (by simp)
  have hm : max (-x - 0) (-(-x - 0)) = max x (-x) := by rw [sub_zero, neg_neg, max_comm]
  have hl := log1p_nonneg _ (exp_nonneg (-max x (-x)))
  unfold gate
  rw [hm, zero_sub, EReal.neg_add (Or.inl (hn _ h0)) (Or.inr (hn _ hl))]
  refine congrArg (fun z : EReal => z - _) ?_
  rw [← EReal.min_neg_neg, neg_neg, neg_zero]

end Cert.GatesIdeal.Hand

end
-- ==== Proof.GatesRef.lean ====
/- The reference of the gates' cumulative sums read at an index: a logarithm of the logistic function of each gate, summed over the rows
   up to each row, as the host's padded window of 2048 rows. -/
module

public import proofs.«01_k».proof.Proof.Gen.GatesRefIdeal.Read
public import proofs.«01_k».proof.Proof.GatesScan

@[expose] public section

set_option maxRecDepth 16384

noncomputable section

namespace Cert.GatesIdeal.Hand

open Cert.GatesRefIdeal Cert.GatesRefIdeal.Gen Cert.GatesRefIdeal.Read Idealize.ShloMosaic Idealize.ShloMosaic.TcCoe
open Idealize.ShloMosaic.ValueIdx

/-- A fold of sums is the sum. -/
theorem fold_sum {N : ℕ} (g : Fin N → EReal) (v : EReal) : (List.finRange N).foldl (fun r n => r + g n) v = v + ∑ n, g n := by
  have h : ∀ (L : List (Fin N)) (v : EReal), L.foldl (fun r n => r + g n) v = v + (L.map g).sum := by
    intro L
    induction L with
    | nil => intro v; exact (add_zero v).symm
    | cons a L ih => intro v; rw [List.foldl_cons, ih, List.map_cons, List.sum_cons, add_assoc]
  rw [h, Fin.sum_univ_def]

/-- The window's indices are its rows. -/
def windowRows : (⟨3, ![1, 2048, 1]⟩ : Shape).Idx ≃ Fin 2048 where
  toFun p := p 1
  invFun k := ix3 0 k 0
  left_inv p := funext fun a => Fin.ext (match a with
    | ⟨0, _⟩ => by have h : (p 0).val < 1 := (p 0).isLt; show 0 = (p 0).val; omega
    | ⟨1, _⟩ => rfl
    | ⟨2, _⟩ => by have h : (p 2).val < 1 := (p 2).isLt; show 0 = (p 2).val; omega)
  right_inv _ := rfl

/-- A column of an array of rows, as a function of every natural number. -/
def column (y : FVec Ideal S4x2048x8 .f32) (b : Fin 4) (l : Fin 8) (n : ℕ) : EReal := if h : n < 2048 then y (ix3 b ⟨n, h⟩ l) else 0

/-- The host's padded window sum, read at an index. -/
theorem window_apply (y : FVec Ideal S4x2048x8 .f32) (z : FVec Ideal S_ .f32) (hz : ∀ i, (z i : EReal) = 0)
    (h : S4x2048x8.ReduceWindows ![1, 2048, 1] ![1, 1, 1] ![0, 2047, 0] ![0, 0, 0] S4x2048x8) (hu : 0 < S_.numel)
    (b : Fin 4) (r : Fin 2048) (l : Fin 8) :
    (Host.reduceWindowAdd ![1, 2048, 1] ![1, 1, 1] ![0, 2047, 0] ![0, 0, 0] y z h hu (ix3 b r l) : EReal) = acc (column y b l) 2048 r.val := by
  have hr := r.isLt
  have hb := b.isLt
  have hl := l.isLt
  let g : (⟨3, ![1, 2048, 1]⟩ : Shape).Idx → EReal := fun q =>
    if hin : ∀ a : Fin 3, (![0, 2047, 0] : Fin 3 → ℕ) a ≤ ((ix3 b r l : S4x2048x8.Idx) a).val * (![1, 1, 1] : Fin 3 → ℕ) a + (q a).val
        ∧ ((ix3 b r l : S4x2048x8.Idx) a).val * (![1, 1, 1] : Fin 3 → ℕ) a + (q a).val - (![0, 2047, 0] : Fin 3 → ℕ) a < S4x2048x8.size a
    then y (fun a => ⟨((ix3 b r l : S4x2048x8.Idx) a).val * (![1, 1, 1] : Fin 3 → ℕ) a + (q a).val - (![0, 2047, 0] : Fin 3 → ℕ) a, (hin a).2⟩)
    else 0
  unfold Host.reduceWindowAdd
  rw [hz]
  show (Ideal.hostReduceWindowAdd _ _ _ _ h y 0 (ix3 b r l) : EReal) = _
  unfold Ideal.hostReduceWindowAdd Host.reduceWindow
  dsimp only
  rw [fold_sum, zero_add]
  refine Eq.trans (b := ∑ n, g ((⟨3, ![1, 2048, 1]⟩ : Shape).rowMajor.symm n)) (Finset.sum_congr rfl fun n _ => ?_)
    ((Equiv.sum_comp (⟨3, ![1, 2048, 1]⟩ : Shape).rowMajor.symm g).trans ?_)
  · dsimp only [g]
    split_ifs with h1 h2 h2
    · rfl
    · exact absurd h1 h2
    · exact absurd h2 h1
    · rfl
  rw [← Equiv.sum_comp windowRows.symm g,
    ← acc_window (column y b l) 2047 r.val (by omega)]
  refine Finset.sum_congr rfl fun k _ => ?_
  have hk := k.isLt
  show g (ix3 0 k 0) = _
  by_cases hc : 2047 ≤ r.val + k.val
  · rw [if_pos hc]
    have hin : ∀ a : Fin 3, (![0, 2047, 0] : Fin 3 → ℕ) a ≤ ((ix3 b r l : S4x2048x8.Idx) a).val * (![1, 1, 1] : Fin 3 → ℕ) a
          + ((ix3 0 k 0 : (⟨3, ![1, 2048, 1]⟩ : Shape).Idx) a).val
        ∧ ((ix3 b r l : S4x2048x8.Idx) a).val * (![1, 1, 1] : Fin 3 → ℕ) a
          + ((ix3 0 k 0 : (⟨3, ![1, 2048, 1]⟩ : Shape).Idx) a).val - (![0, 2047, 0] : Fin 3 → ℕ) a < S4x2048x8.size a := fun a => match a with
      | ⟨0, _⟩ => by show 0 ≤ b.val * 1 + 0 ∧ b.val * 1 + 0 - 0 < 4; omega
      | ⟨1, _⟩ => by show 2047 ≤ r.val * 1 + k.val ∧ r.val * 1 + k.val - 2047 < 2048; omega
      | ⟨2, _⟩ => by show 0 ≤ l.val * 1 + 0 ∧ l.val * 1 + 0 - 0 < 8; omega
    refine (dif_pos hin).trans ?_
    unfold column
    rw [dif_pos (show r.val + k.val - 2047 < 2048 by omega)]
    refine congrArg y (funext fun a => Fin.ext (match a with
      | ⟨0, _⟩ => by show b.val * 1 + 0 - 0 = b.val; omega
      | ⟨1, _⟩ => by show r.val * 1 + k.val - 2047 = r.val + k.val - 2047; omega
      | ⟨2, _⟩ => by show l.val * 1 + 0 - 0 = l.val; omega))
  · rw [if_neg hc]
    refine dif_neg fun hin => hc ?_
    have := (hin 1).1
    have e : 2047 ≤ r.val * 1 + k.val := this
    omega

variable (u : FVec Ideal S4x2048x2048 .bf16) (w : FVec Ideal S2048x6152 .f32) (bias : FVec Ideal S8 .f32)

/-- A gate before its function: the token's product with the gate's column, plus the gate's bias. -/
def logit (b : Fin 4) (l : Fin 8) (r : Fin 2048) : EReal :=
  ∑ k : Fin 2048, u (ix3 b r k) * w (ix2 k ⟨6144 + l.val, by omega⟩) + bias (ix1 l)

/-- A head's gates under their function, as a function of every natural number. -/
def gates (b : Fin 4) (l : Fin 8) (n : ℕ) : EReal := if h : n < 2048 then gate (logit u w bias b l ⟨n, h⟩) else 0

theorem zero_apply (i : S4x2048x8.Idx) : (val_main_call0_call0_v0 (F := Ideal) i : EReal) = 0 ∧ (val_main_call0_call0_v2 (F := Ideal) i : EReal) = 0 := by
  rw [val_main_call0_call0_v0_apply, val_main_call0_call0_v2_apply]
  exact ⟨Ideal.ofBits_zero_f32, Ideal.ofBits_zero_f32⟩

theorem ref_logit (b : Fin 4) (r : Fin 2048) (l : Fin 8) :
    (val_main_v5 (F := Ideal) u w bias (ix3 b r l) : EReal) = logit u w bias b l r := by
  rw [val_main_v5_apply, val_main_v2_apply, val_main_v4_apply, val_main_v3_apply]
  refine congrArg₂ (fun x y : EReal => x + y) (Finset.sum_congr rfl fun k _ => ?_) (congrArg bias (funext fun a => Fin.ext (match a with
    | ⟨0, _⟩ => rfl)))
  rw [val_main_v0_apply, val_main_v1_apply]
  refine congrArg₂ (fun x y : EReal => x * y) (congrArg u (funext fun a => Fin.ext (match a with
    | ⟨0, _⟩ => rfl
    | ⟨1, _⟩ => rfl
    | ⟨2, _⟩ => rfl))) (congrArg w (Common.ext2 rfl rfl))

theorem ref_gate (i : S4x2048x8.Idx) : (val_main_v6 (F := Ideal) u w bias i : EReal) = gate (val_main_v5 (F := Ideal) u w bias i) := by
  rw [← gate_host]
  obtain ⟨h0, h2⟩ := zero_apply i
  rw [val_main_v6_apply, val_main_call0_v1_apply, val_main_call0_call0_v4_apply, val_main_call0_call0_v11_apply, val_main_call0_call0_v10_apply,
    val_main_call0_call0_v9_apply, val_main_call0_call0_v8_apply, val_main_call0_call0_v7_apply, val_main_call0_call0_v1_apply,
    val_main_call0_call0_v3_apply, val_main_call0_v0_apply, h0, h2]
  generalize (val_main_v5 (F := Ideal) u w bias i : EReal) = x
  have hc : (FloatOps.cmpf .une (FloatOps.subf (FloatOps.hostNegf x) 0) (FloatOps.subf (FloatOps.hostNegf x) (0 : Ideal .f32)) : BitVec 1) = 0#1 := by
    show BitVec.ofBool (decide (_ ≠ _)) = 0#1
    rw [decide_eq_false (not_not.2 rfl)]
    rfl
  rw [hc]
  rfl

/-- The reference's cumulative sums, read at an index. -/
theorem ref_sum (b : Fin 4) (r : Fin 2048) (l : Fin 8) :
    (val_main_v7 (F := Ideal) u w bias (ix3 b r l) : EReal) = acc (gates u w bias b l) 2048 r.val := by
  unfold val_main_v7
  refine (window_apply _ _ (fun i => (val_main_call1_call0_v0_apply (F := Ideal) i).trans Ideal.ofBits_zero_f32) _ _ b r l).trans ?_
  refine congrArg (fun f => acc f 2048 r.val) (funext fun n => ?_)
  unfold column gates
  split_ifs with h
  · rw [ref_gate, ref_logit]
  · rfl

theorem ref_first (b : Fin 4) (r : Fin 2048) (l : Fin 128) (hl : l.val < 8) :
    (val_main_v9 (F := Ideal) u w bias (ix3 b r l) : EReal) = acc (gates u w bias b ⟨l.val, hl⟩) 2048 r.val := by
  rw [← ref_sum]
  unfold val_main_v9
  exact concatenate_pair_apply_left (s₁ := S4x2048x8) (s₂ := S4x2048x120) 2 _ _ _ (ix3 b r l) rfl (ix3 b r ⟨l.val, hl⟩) fun a => match a with
    | ⟨0, _⟩ => rfl
    | ⟨1, _⟩ => rfl
    | ⟨2, _⟩ => rfl

theorem ref_second (b : Fin 4) (l : Fin 8) (r : Fin 2048) :
    (val_main_v10 (F := Ideal) u w bias (ix3 b l r) : EReal) = acc (gates u w bias b l) 2048 r.val := by
  rw [← ref_sum, val_main_v10_apply]
  exact congrArg (val_main_v7 (F := Ideal) u w bias) (funext fun a => Fin.ext (match a with
    | ⟨0, _⟩ => rfl
    | ⟨1, _⟩ => rfl
    | ⟨2, _⟩ => rfl))

end Cert.GatesIdeal.Hand

end
-- ==== Proof.GatesValue.lean ====
/- The gates' cumulative sums: on the eight heads' lanes both result arrays are the reference's. The kernel pads the gates'
   eight columns to 128 lanes, sums down the rows in eleven doubling steps, and writes the sums twice, lanes last and lanes first. -/
module

public import proofs.«01_k».proof.Proof.Gen.GatesIdeal.Value
public import proofs.«01_k».proof.Proof.GatesRef
public import proofs.«01_k».proof.On_gates_heads
public import Idealize.ShloMosaic.Lib.StableHlo.RunRead
public import Idealize.ShloMosaic.Lib.Tactic

@[expose] public section

set_option maxRecDepth 16384

noncomputable section

namespace Cert.On_gates_heads.Gen

/-- The mask's side conditions. -/
instance facts : Cert.On_gates_heads.Facts := by constructor <;> decide

end Cert.On_gates_heads.Gen

namespace Cert.GatesIdeal.Hand

open Cert.GatesIdeal Cert.GatesIdeal.Gen Cert.GatesIdeal.Value Idealize.ShloMosaic Idealize.ShloMosaic.TcCoe Idealize.SL.Sem
open Idealize.ShloMosaic.ValueIdx

/-- Two indices of three axes with the same coordinates are one. -/
theorem ext3 {A B C : ℕ} {i j : (⟨3, ![A, B, C]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

/-! ## The kernel's vectors -/

/-- The gates' columns, padded to 128. -/
def columns (w : FVec Ideal S8x2048 .f32) : FVec Ideal S128x2048 .f32 :=
  concatenate S128x2048 0 [⟨S8x2048, shapeCast S8x2048 w shapeCasts_S8x2048_S8x2048⟩,
    ⟨S120x2048, broadcast S120x2048 (Scalar.ofBits .f32 0x00000000#32)⟩] concatenates_S8x2048_S120x2048_S128x2048_d0

theorem columns_apply (w : FVec Ideal S8x2048 .f32) (l : Fin 128) (hl : l.val < 8) (k : Fin 2048) :
    columns w (ix2 l k) = w (ix2 ⟨l.val, hl⟩ k) := by
  unfold columns
  rw [concatenate_pair_apply_left (s₁ := S8x2048) (s₂ := S120x2048) 0 _ _ _ (ix2 l k) rfl (ix2 ⟨l.val, hl⟩ k) fun a => match a with
    | ⟨0, _⟩ => rfl
    | ⟨1, _⟩ => rfl]
  exact shapeCast_apply _ _ _ _ rfl

/-- The gates' logits. -/
def logits (w : FVec Ideal S8x2048 .f32) (u : FVec Ideal S1x2048x2048 .bf16) (b : FVec Ideal S1x128 .f32) : FVec Ideal S2048x128 .f32 :=
  addf (FloatOps.matmul (DotDims.transposedRhs 2048 2048 128) none (shapeCast S2048x2048 u shapeCasts_S1x2048x2048_S2048x2048)
      (truncf .bf16 (columns w) bitsLt_bf16_f32) (constant S2048x128 .f32 0x00000000#32))
    (broadcastTo S2048x128 (shapeCast S1x128 b shapeCasts_S1x128_S1x128) broadcasts_S1x128_S2048x128)

theorem logits_apply (w : FVec Ideal S8x2048 .f32) (u : FVec Ideal S1x2048x2048 .bf16) (b : FVec Ideal S1x128 .f32)
    (r : Fin 2048) (l : Fin 128) (hl : l.val < 8) :
    (logits w u b (ix2 r l) : EReal) = ∑ k : Fin 2048, u (ix3 0 r k) * w (ix2 ⟨l.val, hl⟩ k) + b (ix2 0 l) := by
  refine congrArg₂ (fun x y : EReal => x + y) ((Common.mm_trans _ _ (ix2 r l)).trans (Finset.sum_congr rfl fun k _ => ?_)) ?_
  · refine congrArg₂ (fun x y : EReal => x * y) (shapeCast_apply _ _ (ix2 r k) (ix3 0 r k) ?_) (columns_apply w l hl k)
    rw [Shape.rowMajor_val_three, Shape.rowMajor_val_two]
    show (0 * 2048 + r.val) * 2048 + k.val = r.val * 2048 + k.val
    omega
  · refine (broadcastTo_apply _ _ (ix2 r l) (ix2 0 l) fun a => ?_).trans (shapeCast_apply _ _ _ _ rfl)
    match a with
    | ⟨0, _⟩ => rfl
    | ⟨1, _⟩ => rfl

/-- The gates under their function. -/
def elems (x : FVec Ideal S2048x128 .f32) : FVec Ideal S2048x128 .f32 :=
  subf (minimumf x (broadcast S2048x128 (Scalar.ofBits .f32 0x00000000#32)))
    (log1p (exp (subf (broadcast S2048x128 (Scalar.ofBits .f32 0x00000000#32)) (absf x))))

theorem elems_apply (x : FVec Ideal S2048x128 .f32) (i : S2048x128.Idx) : (elems x i : EReal) = gate (x i) := by
  show (min (x i : EReal) (Ideal.ofBits .f32 0x00000000#32)
    - Ideal.log1p (Ideal.exp (Ideal.ofBits .f32 0x00000000#32 - max (x i : EReal) (-(x i)))) : EReal) = _
  rw [Ideal.ofBits_zero_f32]
  rfl

/-- The first `n` steps, by one row, two, four and so on. -/
def scan (n : ℕ) (x : FVec Ideal S2048x128 .f32) : FVec Ideal S2048x128 .f32 :=
  (List.range n).foldl (fun x k => step iota_S2048x128_d0_w32 rotates_S2048x128_d0 (BitVec.ofNat 32 (2 ^ k)) x) x

theorem scan_apply (n : ℕ) (hn : n ≤ 11) (x : FVec Ideal S2048x128 .f32) (l : Fin 128) (f : ℕ → EReal)
    (hx : ∀ r : Fin 2048, (x (ix2 r l) : EReal) = f r.val) (r : Fin 2048) : (scan n x (ix2 r l) : EReal) = acc f (2 ^ n) r.val := by
  induction n generalizing r with
  | zero => exact (hx r).trans (acc_one f r.val).symm
  | succ n ih =>
    have hp : 2 ^ n < 2048 := lt_of_lt_of_le (Nat.pow_lt_pow_right (by decide) (by omega : n < 11)) (by decide)
    have e : scan (n + 1) x = step iota_S2048x128_d0_w32 rotates_S2048x128_d0 (BitVec.ofNat 32 (2 ^ n)) (scan n x) := by
      unfold scan
      rw [List.range_succ, List.foldl_append]
      rfl
    rw [e, pow_succ, Nat.mul_two]
    exact step_acc _ _ _ _ (by rw [BitVec.toNat_ofNat]; exact Nat.mod_eq_of_lt (lt_trans hp (by decide))) hp _ l f (ih (by omega)) r

/-- What a point computes from its blocks. -/
def sums (w : FVec Ideal S8x2048 .f32) (u : FVec Ideal S1x2048x2048 .bf16) (b : FVec Ideal S1x128 .f32) : FVec Ideal S2048x128 .f32 :=
  scan 11 (elems (logits w u b))

theorem pay4_eq (w : FVec Ideal S8x2048 .f32) (u : FVec Ideal S1x2048x2048 .bf16) (b : FVec Ideal S1x128 .f32) :
    k0_pay4 (F := Ideal) w u b = scan 3 (elems (logits w u b)) := rfl

theorem pay1_eq (w : FVec Ideal S8x2048 .f32) (u : FVec Ideal S1x2048x2048 .bf16) (b : FVec Ideal S1x128 .f32)
    (v : IVec S2048x128 32) (hv : v = iota .tc S2048x128 32 [0] iota_S2048x128_d0_w32) :
    k0_pay1 (F := Ideal) v (k0_pay5 v (k0_pay4 w u b)) (k0_pay6 v) (k0_pay7 v (k0_pay4 w u b)) (Scalar.ofBits .f32 0x00000000#32)
      = sums w u b := by
  subst hv
  rw [pay4_eq]
  unfold sums
  rfl

/-! ## The blocks a point stages -/

variable (m : (ℓ : Loc nD τ sig) → Buf (Elt Ideal) ℓ) (c : Dev nD)

/-- The arguments: the tokens, the weights and the gates' biases. -/
abbrev tokens : FVec Ideal S4x2048x2048 .bf16 := m ((c : Thread nD τ).loc main_arg0)
abbrev weights : FVec Ideal S2048x6152 .f32 := m ((c : Thread nD τ).loc main_arg1)
abbrev biases : FVec Ideal S8 .f32 := m ((c : Thread nD τ).loc main_arg2)

/-- The host's transpose of the weights. -/
theorem V_main_v0 (i : Fin 6152) (k : Fin 2048) : (V m c main_v0 : FVec Ideal S6152x2048 .f32) (ix2 i k) = weights m c (ix2 k i) := by
  unfold V
  after_reads_simp
  exact transpose_apply _ _ _ (ix2 i k) (ix2 k i) fun a => match a with | ⟨0, _⟩ => rfl | ⟨1, _⟩ => rfl

/-- The host's padded row of biases. -/
theorem V_main_v2 (l : Fin 128) (hl : l.val < 8) : (V m c main_v2 : FVec Ideal S1x128 .f32) (ix2 0 l) = biases m c (ix1 ⟨l.val, hl⟩) := by
  unfold V
  after_reads_simp
  refine (shapeCast_apply _ _ (ix2 0 l) (ix1 l) ?_).trans ?_
  · rw [Shape.rowMajor_val_one, Shape.rowMajor_val_two]
    show l.val = 0 * 128 + l.val
    omega
  unfold pad
  have hin : ∀ a : Fin 1, (![0] : Fin 1 → ℕ) a ≤ ((ix1 l : S128.Idx) a).val ∧ (((ix1 l : S128.Idx) a).val - (![0] : Fin 1 → ℕ) a) % ((![0] : Fin 1 → ℕ) a + 1) = 0
      ∧ (((ix1 l : S128.Idx) a).val - (![0] : Fin 1 → ℕ) a) / ((![0] : Fin 1 → ℕ) a + 1) < S8.size a := fun a => match a with
    | ⟨0, _⟩ => by show 0 ≤ l.val ∧ (l.val - 0) % (0 + 1) = 0 ∧ (l.val - 0) / (0 + 1) < 8; omega
  refine (dif_pos hin).trans (congrArg (m ((c : Thread nD τ).loc main_arg2)) (funext fun a => Fin.ext (match a with
    | ⟨0, _⟩ => by show (l.val - 0) / (0 + 1) = l.val; omega)))

/-- The printed index maps over the grid: a batch a point, and the same eight rows and the same biases at every point. -/
theorem idx_in : ∀ t : Fin cfg0.N, (win0_0.index t 0 = t.val ∧ win0_0.index t 1 = 0 ∧ win0_0.index t 2 = 0)
    ∧ (win0_1.index t 0 = 768 ∧ win0_1.index t 1 = 0) ∧ (win0_2.index t 0 = 0 ∧ win0_2.index t 1 = 0)
    ∧ (win0_3.index t 0 = t.val ∧ win0_3.index t 1 = 0 ∧ win0_3.index t 2 = 0)
    ∧ (win0_4.index t 0 = t.val ∧ win0_4.index t 1 = 0 ∧ win0_4.index t 2 = 0) :=
  (by decide +kernel : ∀ t : Fin grid0.N, _)

variable (t : Fin cfg0.N)

theorem iblk0 (b : Fin 4) (hb : b.val = t.val) (r k : Fin 2048) :
    (iblk m c 0 t : FVec Ideal S1x2048x2048 .bf16) (ix3 0 r k) = tokens m c (ix3 b r k) := by
  obtain ⟨⟨e0, e1, e2⟩, -⟩ := idx_in t
  show V m c main_arg0 _ = _
  rw [V_main_arg0]
  refine congrArg (m ((c : Thread nD τ).loc main_arg0)) (ext3 ?_ ?_ ?_)
  · show win0_0.index t 0 * 1 + 1 * 0 = b.val; omega
  · show win0_0.index t 1 * 2048 + 1 * r.val = r.val; omega
  · show win0_0.index t 2 * 2048 + 1 * k.val = k.val; omega

theorem iblk1 (l : Fin 8) (k : Fin 2048) :
    (iblk m c 1 t : FVec Ideal S8x2048 .f32) (ix2 l k) = weights m c (ix2 k ⟨6144 + l.val, by omega⟩) := by
  obtain ⟨-, ⟨e0, e1⟩, -⟩ := idx_in t
  rw [← V_main_v0 m c]
  show V m c main_v0 _ = _
  refine congrArg (V m c main_v0) (Common.ext2 ?_ ?_)
  · show win0_1.index t 0 * 8 + 1 * l.val = 6144 + l.val; omega
  · show win0_1.index t 1 * 2048 + 1 * k.val = k.val; omega

theorem iblk2 (l : Fin 128) (hl : l.val < 8) :
    (iblk m c 2 t : FVec Ideal S1x128 .f32) (ix2 0 l) = biases m c (ix1 ⟨l.val, hl⟩) := by
  obtain ⟨-, -, ⟨e0, e1⟩, -⟩ := idx_in t
  rw [← V_main_v2 m c l hl]
  show V m c main_v2 _ = _
  refine congrArg (V m c main_v2) (Common.ext2 ?_ ?_)
  · show win0_2.index t 0 * 1 + 1 * 0 = 0; omega
  · show win0_2.index t 1 * 128 + 1 * l.val = l.val; omega

/-! ## What a point writes -/

/-- A point's sums on a head's lane are the head's gates' sums. -/
theorem sums_apply (b : Fin 4) (hb : b.val = t.val) (r : Fin 2048) (l : Fin 128) (hl : l.val < 8) :
    (sums (iblk m c 1 t) (iblk m c 0 t) (iblk m c 2 t) (ix2 r l) : EReal)
      = acc (gates (tokens m c) (weights m c) (biases m c) b ⟨l.val, hl⟩) 2048 r.val := by
  refine scan_apply 11 (le_refl _) _ l _ (fun r => ?_) r
  rw [elems_apply, logits_apply _ _ _ r l hl]
  unfold gates
  rw [dif_pos r.isLt]
  refine congrArg gate (congrArg₂ (fun x y : EReal => x + y) (Finset.sum_congr rfl fun k _ => ?_) (iblk2 m c t l hl))
  exact congrArg₂ (fun x y : EReal => x * y) (iblk0 m c t b hb r k) (iblk1 m c t ⟨l.val, hl⟩ k)

theorem z2 : (![0, 0] : Fin 2 → Nat) = fun _ => 0 := funext fun a => by fin_cases a <;> rfl
theorem z3 : (![0, 0, 0] : Fin 3 → Nat) = fun _ => 0 := funext fun a => by fin_cases a <;> rfl

/-- The value the body stores, from the staged blocks. -/
theorem stored (x0 : Vec Ideal S1x2048x2048 .bf16) (x1 : Vec Ideal S8x2048 .f32) (x2 : Vec Ideal S1x128 .f32) :
    k0_pay1 (F := Ideal) (k0_pay8 x0 x1 x2) (k0_pay10 x0 x1 x2) (k0_pay11 x0 x1 x2) (k0_pay12 x0 x1 x2) (Scalar.ofBits .f32 0x00000000#32)
      = sums x1 x0 x2 := by
  unfold k0_pay10 k0_pay11 k0_pay12 k0_pay9 r0_0 r0_1 r0_2
  rw [View.ld_unit_zero (S := S8x2048) z2, View.ld_unit_zero (S := S1x2048x2048) z3, View.ld_unit_zero (S := S1x128) z2]
  exact pay1_eq _ _ _ _ rfl

theorem out3_apply (x0 : Vec Ideal S1x2048x2048 .bf16) (x1 : Vec Ideal S8x2048 .f32) (x2 : Vec Ideal S1x128 .f32) (r : Fin 2048) (l : Fin 128) :
    out0_3 x0 x1 x2 (ix3 0 r l) = sums x1 x0 x2 (ix2 r l) := by
  unfold out0_3 k0_pay2
  rw [stored]
  have e : r0_3.emb (ix3 0 r l) = ix3 0 r l := ext3 rfl (by show 0 + 1 * r.val = r.val; omega) (by show 0 + 1 * l.val = l.val; omega)
  refine ((congrArg _ e).symm.trans (View.canon_cons_emb r0_3 _ [] (ix3 0 r l))).trans (shapeCast_apply _ _ _ _ ?_)
  rw [Shape.rowMajor_val_three, Shape.rowMajor_val_two]
  show r.val * 128 + l.val = (0 * 2048 + r.val) * 128 + l.val
  omega

theorem out4_apply (x0 : Vec Ideal S1x2048x2048 .bf16) (x1 : Vec Ideal S8x2048 .f32) (x2 : Vec Ideal S1x128 .f32) (l : Fin 8) (r : Fin 2048) :
    out0_4 x0 x1 x2 (ix3 0 l r) = sums x1 x0 x2 (ix2 r ⟨l.val, by omega⟩) := by
  unfold out0_4 k0_pay3
  rw [stored]
  have e : r0_4.emb (ix3 0 l r) = ix3 0 l r := ext3 rfl (by show 0 + 1 * l.val = l.val; omega) (by show 0 + 1 * r.val = r.val; omega)
  refine ((congrArg _ e).symm.trans (View.canon_cons_emb r0_4 _ [] (ix3 0 l r))).trans ((shapeCast_apply _ _ _ (ix2 l r) ?_).trans ?_)
  · rw [Shape.rowMajor_val_three, Shape.rowMajor_val_two]
    show l.val * 2048 + r.val = (0 * 8 + l.val) * 2048 + r.val
    omega
  refine (extractStridedSlice_apply _ _ _ (ix2 l r) (ix2 ⟨l.val, by omega⟩ r) (fun a => match a with
    | ⟨0, _⟩ => (Nat.zero_add _).symm
    | ⟨1, _⟩ => (Nat.zero_add _).symm)).trans ?_
  exact transpose_apply _ _ _ _ _ fun a => match a with | ⟨0, _⟩ => rfl | ⟨1, _⟩ => rfl

/-! ## The result arrays -/

/-- Where a point's block lies in the first result, and in the second. -/
theorem emb3 (b : Fin 4) (hb : b.val = t.val) (r : Fin 2048) (l : Fin 128) : ((cfg0.win 3).blk t).view.emb (ix3 0 r l) = ix3 b r l := by
  obtain ⟨-, -, -, ⟨e0, e1, e2⟩, -⟩ := idx_in t
  refine ext3 ?_ ?_ ?_
  · show win0_3.index t 0 * 1 + 1 * 0 = b.val; omega
  · show win0_3.index t 1 * 2048 + 1 * r.val = r.val; omega
  · show win0_3.index t 2 * 128 + 1 * l.val = l.val; omega

theorem emb4 (b : Fin 4) (hb : b.val = t.val) (l : Fin 8) (r : Fin 2048) : ((cfg0.win 4).blk t).view.emb (ix3 0 l r) = ix3 b l r := by
  obtain ⟨-, -, -, -, e0, e1, e2⟩ := idx_in t
  refine ext3 ?_ ?_ ?_
  · show win0_4.index t 0 * 1 + 1 * 0 = b.val; omega
  · show win0_4.index t 1 * 8 + 1 * l.val = l.val; omega
  · show win0_4.index t 2 * 2048 + 1 * r.val = r.val; omega

/-- The first result on the heads' lanes. -/
theorem first_eq (i : S4x2048x128.Idx) (h : (i 2).val < 8) : (dats m 0 c).arrAt 3 cfg0.N i
    = GatesRefIdeal.Read.val_main_v9 (F := Ideal) (tokens m c) (weights m c) (biases m c) i := by
  obtain ⟨b, r, l, rfl⟩ : ∃ b r l, i = ix3 b r l := ⟨i 0, i 1, i 2, ext3 rfl rfl rfl⟩
  have hl : l.val < 8 := h
  rw [ref_first _ _ _ b r l hl]
  have hN : b.val < cfg0.N := lt_of_lt_of_eq b.isLt (show 4 = cfg0.N from N_0.symm)
  have hv := congrFun (blocks3 m c ⟨b.val, hN⟩ (flush0_3 _)) (ix3 0 r l)
  rw [flushed3] at hv
  exact ((congrArg ((dats m 0 c).arrAt 3 cfg0.N) (emb3 _ b rfl r l)).symm.trans hv).trans ((out3_apply _ _ _ r l).trans (sums_apply m c _ b rfl r l hl))

/-- The second result, whose lanes are the heads. -/
theorem second_eq : (dats m 0 c).arrAt 4 cfg0.N
    = GatesRefIdeal.Read.val_main_v10 (F := Ideal) (tokens m c) (weights m c) (biases m c) := by
  funext i
  obtain ⟨b, l, r, rfl⟩ : ∃ b l r, i = ix3 b l r := ⟨i 0, i 1, i 2, ext3 rfl rfl rfl⟩
  rw [ref_second]
  have hN : b.val < cfg0.N := lt_of_lt_of_eq b.isLt (show 4 = cfg0.N from N_0.symm)
  have hv := congrFun (blocks4 m c ⟨b.val, hN⟩ (flush0_4 _)) (ix3 0 l r)
  rw [flushed4] at hv
  exact ((congrArg ((dats m 0 c).arrAt 4 cfg0.N) (emb4 _ b rfl l r)).symm.trans hv).trans
    ((out4_apply _ _ _ l r).trans (sums_apply m c _ b rfl r ⟨l.val, by omega⟩ l.isLt))

/-- The mask of the first result selects the heads' lanes. -/
theorem mask_first (u : FVec Ideal S4x2048x2048 .bf16) (w : FVec Ideal S2048x6152 .f32) (b : FVec Ideal S8 .f32) (i : S4x2048x128.Idx)
    (h : (On_gates_heads.fn (F := Ideal) u w b).1 i = 1#1) : (i 2).val < 8 := by
  have h2 : (i 2).val < 128 := (i 2).isLt
  have h' : BitVec.ofBool ((BitVec.ofNat 32 (i 2).val).slt 8#32) = 1#1 := h
  revert h'
  generalize (i 2).val = n at h2 ⊢
  interval_cases n <;> decide

end Cert.GatesIdeal.Hand

end
-- ==== Proof.NormValue.lean ====
/- The first normalizations (`cc0_rmsnorm`, rounded to bf16): each block of 512 rows of the result is the rows of the block staged, normalized by their mean square, times
   the gain; the gain comes through a host reshape to one row. -/
module

public import proofs.«01_k».proof.Proof.Gen.NormIdeal.Value
public import proofs.«01_k».proof.Proof.Gen.NormRefIdeal.Read
public import Idealize.ShloMosaic.Lib.Tactic
public import proofs.«01_k».proof.Proof.Common

@[expose] public section

set_option maxRecDepth 16384

noncomputable section

namespace Cert.NormIdeal.Hand

open Cert.NormIdeal Cert.NormIdeal.Gen Cert.NormIdeal.Value Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz : (![0, 0] : Fin 2 → Nat) = fun _ => 0 := funext fun a => by fin_cases a <;> rfl

/-- The printed index maps over the grid: rows in blocks of 512, and the one row of the gain. -/
theorem idx_in : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) :=
  (by decide +kernel : ∀ t : Fin grid0.N, _)

theorem iblk0 (c : Dev nD) (t : Fin cfg0.N) (y : S512x2048.Idx) (i : S8192x2048.Idx)
    (h0 : (i 0).val = t.val * 512 + (y 0).val) (h1 : (i 1).val = (y 1).val) :
    (iblk m c 0 t : Vec F S512x2048 .f32) y = m ((c : Thread nD τ).loc main_arg0) i := by
  obtain ⟨⟨e0, e1⟩, -⟩ := idx_in t
  show V m c main_arg0 _ = _
  rw [V_main_arg0]
  refine congrArg (m ((c : Thread nD τ).loc main_arg0)) (Common.ext2 ?_ ?_)
  · show win0_0.index t 0 * 512 + 1 * (y 0).val = (i 0).val; rw [e0, h0]; omega
  · show win0_0.index t 1 * 2048 + 1 * (y 1).val = (i 1).val; rw [e1, h1]; omega

/-- The host's reshape of the gain, read at an index. -/
theorem V_main_v0 (c : Dev nD) (i : S1x2048.Idx) (k : S2048.Idx) (h : (k 0).val = (i 1).val) :
    V m c main_v0 i = m ((c : Thread nD τ).loc main_arg1) k := by
  unfold V hostOps0
  rw [StableHlo.after_cons, StableHlo.after_nil, StableHlo.reshape_result]
  refine shapeCast_apply _ _ i k ?_
  have h0 : (i 0).val < 1 := (i 0).isLt
  rw [Shape.rowMajor_val_one, Shape.rowMajor_val_two]
  show (k 0).val = (i 0).val * 2048 + (i 1).val
  omega

theorem iblk1 (c : Dev nD) (t : Fin cfg0.N) (y : S1x2048.Idx) (i : S2048.Idx) (h : (i 0).val = (y 1).val) :
    (iblk m c 1 t : Vec F S1x2048 .f32) y = m ((c : Thread nD τ).loc main_arg1) i := by
  obtain ⟨-, ⟨-, e1⟩, -⟩ := idx_in t
  refine V_main_v0 m c _ i ?_
  show (i 0).val = win0_1.index t 1 * 2048 + 1 * (y 1).val
  rw [e1, h]; omega

/-- What a point writes back, read at an index of the array under its block. -/
theorem arr_apply (c : Dev nD) (i : S8192x2048.Idx) (t : Fin cfg0.N) (y : S512x2048.Idx) (h0 : (i 0).val = t.val * 512 + (y 0).val)
    (h1 : (i 1).val = (y 1).val) : (dats m 0 c).arrAt 2 cfg0.N i = E2 (iblk m c 0 t) (iblk m c 1 t) y := by
  have e : ((cfg0.win 2).blk t).view.emb y = i := by
    obtain ⟨-, -, e0, e1⟩ := idx_in t
    refine Common.ext2 ?_ ?_
    · show win0_2.index t 0 * 512 + 1 * (y 0).val = (i 0).val; rw [e0, h0]; omega
    · show win0_2.index t 1 * 2048 + 1 * (y 1).val = (i 1).val; rw [e1, h1]; omega
  have b := congrFun (blocks2 m c t (flush0_2 t)) y
  rw [flushed2] at b
  refine ((congrArg ((dats m 0 c).arrAt 2 cfg0.N) e).symm.trans b).trans ?_
  show out0_2 (iblk m c 0 t) (iblk m c 1 t) y = _
  unfold out0_2
  rw [canon2_eq, View.ld_unit_zero (S := S512x2048) hz, View.ld_unit_zero (S := S1x2048) hz]

variable (m : (ℓ : Loc nD τ sig) → Buf (Elt Ideal) ℓ)

/-- The block's element over the extended reals. -/
theorem pay_apply (x0 : Vec Ideal S512x2048 .f32) (x1 : Vec Ideal S1x2048 .f32) (y : S512x2048.Idx) :
    (E2 x0 x1 y : EReal) = Common.normed (∑ k : Fin 2048, x0 (ix2 (y 0) k) * x0 (ix2 (y 0) k)) (x0 y) (x1 (ix2_2 y)) :=
  (congrArg (fun s : EReal => Common.normed s (x0 (ix2_0 y)) (x1 (ix2_2 y))) (Common.row_squares x0 _ _ _ (ix2_1 y))).trans
    (congrArg (fun z : S512x2048.Idx => Common.normed _ (x0 z) _) (Common.ext2 rfl rfl))

/-- The reference read at an index. -/
theorem ref_apply (x0 : Vec Ideal S8192x2048 .f32) (x1 : Vec Ideal S2048 .f32) (i : S8192x2048.Idx) :
    (NormRefIdeal.Read.val_main_v13 (F := Ideal) x0 x1 i : EReal)
      = Common.normed (∑ k : Fin 2048, x0 (ix2 (i 0) k) * x0 (ix2 (i 0) k)) (x0 i)
          (x1 (NormRefIdeal.Read.idx_main_v10 (NormRefIdeal.Read.idx_main_v11 i))) := by
  rw [NormRefIdeal.Read.val_main_v13_apply, NormRefIdeal.Read.val_main_v12_apply, NormRefIdeal.Read.val_main_v11_apply, NormRefIdeal.Read.val_main_v10_apply,
    NormRefIdeal.Read.val_main_v9_apply, NormRefIdeal.Read.val_main_v8_apply, NormRefIdeal.Read.val_main_v7_apply,
    NormRefIdeal.Read.val_main_v6_apply, NormRefIdeal.Read.val_main_v5_apply, NormRefIdeal.Read.val_main_v4_apply,
    NormRefIdeal.Read.val_main_v3_apply, NormRefIdeal.Read.val_main_v2_apply, NormRefIdeal.Read.val_main_v1_apply]
  refine congrArg (fun s : EReal => Common.normed s _ _) ((congrArg (fun z : EReal => z + _) Ideal.ofBits_zero_f32).trans ((zero_add _).trans
    (Finset.sum_congr rfl fun k _ => ?_)))
  exact congrArg (fun z : S8192x2048.Idx => (x0 z * x0 z : EReal)) (Common.ext2 rfl rfl)

/-- The result array is the reference's. -/
theorem G_eq (c : Dev nD) : (dats m 0 c).arrAt 2 cfg0.N = NormRefIdeal.Read.val_main_v13 (F := Ideal)
    (m ((c : Thread nD τ).loc main_arg0)) (m ((c : Thread nD τ).loc main_arg1)) := by
  funext i
  have hi0 : (i 0).val < 8192 := (i 0).isLt
  have hp : (i 0).val / 512 < cfg0.N := lt_of_lt_of_eq (by omega) (show 16 = cfg0.N from N_0.symm)
  have e0 : (i 0).val = (⟨(i 0).val / 512, hp⟩ : Fin cfg0.N).val * 512 + (i 0).val % 512 := by show _ = (i 0).val / 512 * 512 + _; omega
  rw [arr_apply m c i ⟨(i 0).val / 512, hp⟩ (Common.at2 ((i 0).val % 512) (by omega) (i 1).val (i 1).isLt) e0 rfl]
  refine (pay_apply _ _ _).trans (Eq.trans ?_ (ref_apply _ _ i).symm)
  have hx : ∀ (y : S512x2048.Idx) (j : S8192x2048.Idx), (y 0).val = (i 0).val % 512 → (j 0).val = (i 0).val → (j 1).val = (y 1).val →
      (iblk m c 0 ⟨(i 0).val / 512, hp⟩ : Vec Ideal S512x2048 .f32) y = m ((c : Thread nD τ).loc main_arg0) j :=
    fun y j hy hj h1 => iblk0 m c _ y j (by rw [hj, hy]; exact e0) h1
  rw [hx _ i rfl rfl rfl, iblk1 m c _ _ (NormRefIdeal.Read.idx_main_v10 (NormRefIdeal.Read.idx_main_v11 i)) rfl]
  refine congrArg (fun s : EReal => Common.normed s _ _) (Finset.sum_congr rfl fun k _ => ?_)
  exact congrArg (fun z : EReal => z * z) (hx _ (ix2 (i 0) k) rfl rfl rfl)

end Cert.NormIdeal.Hand

end
-- ==== Proof.LastNormValue.lean ====
/- The last normalization (`cc0_rmsnorm`, kept in f32): each block of 512 rows of the result is the rows of the block staged, normalized by their mean square, times
   the gain; the gain comes through a host reshape to one row. -/
module

public import proofs.«01_k».proof.Proof.Gen.LastNormIdeal.Value
public import proofs.«01_k».proof.Proof.Gen.LastNormRefIdeal.Read
public import Idealize.ShloMosaic.Lib.Tactic
public import proofs.«01_k».proof.Proof.Common

@[expose] public section

set_option maxRecDepth 16384

noncomputable section

namespace Cert.LastNormIdeal.Hand

open Cert.LastNormIdeal Cert.LastNormIdeal.Gen Cert.LastNormIdeal.Value Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz : (![0, 0] : Fin 2 → Nat) = fun _ => 0 := funext fun a => by fin_cases a <;> rfl

/-- The printed index maps over the grid: rows in blocks of 512, and the one row of the gain. -/
theorem idx_in : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) :=
  (by decide +kernel : ∀ t : Fin grid0.N, _)

theorem iblk0 (c : Dev nD) (t : Fin cfg0.N) (y : S512x2048.Idx) (i : S8192x2048.Idx)
    (h0 : (i 0).val = t.val * 512 + (y 0).val) (h1 : (i 1).val = (y 1).val) :
    (iblk m c 0 t : Vec F S512x2048 .f32) y = m ((c : Thread nD τ).loc main_arg0) i := by
  obtain ⟨⟨e0, e1⟩, -⟩ := idx_in t
  show V m c main_arg0 _ = _
  rw [V_main_arg0]
  refine congrArg (m ((c : Thread nD τ).loc main_arg0)) (Common.ext2 ?_ ?_)
  · show win0_0.index t 0 * 512 + 1 * (y 0).val = (i 0).val; rw [e0, h0]; omega
  · show win0_0.index t 1 * 2048 + 1 * (y 1).val = (i 1).val; rw [e1, h1]; omega

/-- The host's reshape of the gain, read at an index. -/
theorem V_main_v0 (c : Dev nD) (i : S1x2048.Idx) (k : S2048.Idx) (h : (k 0).val = (i 1).val) :
    V m c main_v0 i = m ((c : Thread nD τ).loc main_arg1) k := by
  unfold V hostOps0
  rw [StableHlo.after_cons, StableHlo.after_nil, StableHlo.reshape_result]
  refine shapeCast_apply _ _ i k ?_
  have h0 : (i 0).val < 1 := (i 0).isLt
  rw [Shape.rowMajor_val_one, Shape.rowMajor_val_two]
  show (k 0).val = (i 0).val * 2048 + (i 1).val
  omega

theorem iblk1 (c : Dev nD) (t : Fin cfg0.N) (y : S1x2048.Idx) (i : S2048.Idx) (h : (i 0).val = (y 1).val) :
    (iblk m c 1 t : Vec F S1x2048 .f32) y = m ((c : Thread nD τ).loc main_arg1) i := by
  obtain ⟨-, ⟨-, e1⟩, -⟩ := idx_in t
  refine V_main_v0 m c _ i ?_
  show (i 0).val = win0_1.index t 1 * 2048 + 1 * (y 1).val
  rw [e1, h]; omega

/-- What a point writes back, read at an index of the array under its block. -/
theorem arr_apply (c : Dev nD) (i : S8192x2048.Idx) (t : Fin cfg0.N) (y : S512x2048.Idx) (h0 : (i 0).val = t.val * 512 + (y 0).val)
    (h1 : (i 1).val = (y 1).val) : (dats m 0 c).arrAt 2 cfg0.N i = E2 (iblk m c 0 t) (iblk m c 1 t) y := by
  have e : ((cfg0.win 2).blk t).view.emb y = i := by
    obtain ⟨-, -, e0, e1⟩ := idx_in t
    refine Common.ext2 ?_ ?_
    · show win0_2.index t 0 * 512 + 1 * (y 0).val = (i 0).val; rw [e0, h0]; omega
    · show win0_2.index t 1 * 2048 + 1 * (y 1).val = (i 1).val; rw [e1, h1]; omega
  have b := congrFun (blocks2 m c t (flush0_2 t)) y
  rw [flushed2] at b
  refine ((congrArg ((dats m 0 c).arrAt 2 cfg0.N) e).symm.trans b).trans ?_
  show out0_2 (iblk m c 0 t) (iblk m c 1 t) y = _
  unfold out0_2
  rw [canon2_eq, View.ld_unit_zero (S := S512x2048) hz, View.ld_unit_zero (S := S1x2048) hz]

variable (m : (ℓ : Loc nD τ sig) → Buf (Elt Ideal) ℓ)

/-- The block's element over the extended reals. -/
theorem pay_apply (x0 : Vec Ideal S512x2048 .f32) (x1 : Vec Ideal S1x2048 .f32) (y : S512x2048.Idx) :
    (E2 x0 x1 y : EReal) = Common.normed (∑ k : Fin 2048, x0 (ix2 (y 0) k) * x0 (ix2 (y 0) k)) (x0 y) (x1 (ix2_2 y)) :=
  (congrArg (fun s : EReal => Common.normed s (x0 (ix2_0 y)) (x1 (ix2_2 y))) (Common.row_squares x0 _ _ _ (ix2_1 y))).trans
    (congrArg (fun z : S512x2048.Idx => Common.normed _ (x0 z) _) (Common.ext2 rfl rfl))

/-- The reference read at an index. -/
theorem ref_apply (x0 : Vec Ideal S8192x2048 .f32) (x1 : Vec Ideal S2048 .f32) (i : S8192x2048.Idx) :
    (LastNormRefIdeal.Read.val_main_v12 (F := Ideal) x0 x1 i : EReal)
      = Common.normed (∑ k : Fin 2048, x0 (ix2 (i 0) k) * x0 (ix2 (i 0) k)) (x0 i)
          (x1 (LastNormRefIdeal.Read.idx_main_v10 (LastNormRefIdeal.Read.idx_main_v11 i))) := by
  rw [LastNormRefIdeal.Read.val_main_v12_apply, LastNormRefIdeal.Read.val_main_v11_apply, LastNormRefIdeal.Read.val_main_v10_apply,
    LastNormRefIdeal.Read.val_main_v9_apply, LastNormRefIdeal.Read.val_main_v8_apply, LastNormRefIdeal.Read.val_main_v7_apply,
    LastNormRefIdeal.Read.val_main_v6_apply, LastNormRefIdeal.Read.val_main_v5_apply, LastNormRefIdeal.Read.val_main_v4_apply,
    LastNormRefIdeal.Read.val_main_v3_apply, LastNormRefIdeal.Read.val_main_v2_apply, LastNormRefIdeal.Read.val_main_v1_apply]
  refine congrArg (fun s : EReal => Common.normed s _ _) ((congrArg (fun z : EReal => z + _) Ideal.ofBits_zero_f32).trans ((zero_add _).trans
    (Finset.sum_congr rfl fun k _ => ?_)))
  exact congrArg (fun z : S8192x2048.Idx => (x0 z * x0 z : EReal)) (Common.ext2 rfl rfl)

/-- The result array is the reference's. -/
theorem G_eq (c : Dev nD) : (dats m 0 c).arrAt 2 cfg0.N = LastNormRefIdeal.Read.val_main_v12 (F := Ideal)
    (m ((c : Thread nD τ).loc main_arg0)) (m ((c : Thread nD τ).loc main_arg1)) := by
  funext i
  have hi0 : (i 0).val < 8192 := (i 0).isLt
  have hp : (i 0).val / 512 < cfg0.N := lt_of_lt_of_eq (by omega) (show 16 = cfg0.N from N_0.symm)
  have e0 : (i 0).val = (⟨(i 0).val / 512, hp⟩ : Fin cfg0.N).val * 512 + (i 0).val % 512 := by show _ = (i 0).val / 512 * 512 + _; omega
  rw [arr_apply m c i ⟨(i 0).val / 512, hp⟩ (Common.at2 ((i 0).val % 512) (by omega) (i 1).val (i 1).isLt) e0 rfl]
  refine (pay_apply _ _ _).trans (Eq.trans ?_ (ref_apply _ _ i).symm)
  have hx : ∀ (y : S512x2048.Idx) (j : S8192x2048.Idx), (y 0).val = (i 0).val % 512 → (j 0).val = (i 0).val → (j 1).val = (y 1).val →
      (iblk m c 0 ⟨(i 0).val / 512, hp⟩ : Vec Ideal S512x2048 .f32) y = m ((c : Thread nD τ).loc main_arg0) j :=
    fun y j hy hj h1 => iblk0 m c _ y j (by rw [hj, hy]; exact e0) h1
  rw [hx _ i rfl rfl rfl, iblk1 m c _ _ (LastNormRefIdeal.Read.idx_main_v10 (LastNormRefIdeal.Read.idx_main_v11 i)) rfl]
  refine congrArg (fun s : EReal => Common.normed s _ _) (Finset.sum_congr rfl fun k _ => ?_)
  exact congrArg (fun z : EReal => z * z) (hx _ (ix2 (i 0) k) rfl rfl rfl)

end Cert.LastNormIdeal.Hand

end
-- ==== Proof.ForgetRun.lean ====
/- The forgetting attention with its gates, the run: the two calls one after the other end with the result array at what the
   second call writes back, the arguments unchanged. The launch is the frame's; what is read at the end is one array more. -/
module

public import proofs.«01_k».proof.Proof.Gen.ForgetIdeal.Frame

@[expose] public section

set_option maxRecDepth 16384

noncomputable section

namespace Cert.ForgetIdeal.Hand

open Cert.ForgetIdeal Cert.ForgetIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ fun r => ∀ c : Dev nD,
      r.2.mem ((c : Thread nD τ).loc main_v4) = (dat1 (V4 m ρ) c).arrAt 5 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v4 (by decide))).trans (W5_arr m ρ c 5),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.ForgetIdeal.Hand

end
-- ==== Proof.ForgetValue.lean ====
/- The forgetting attention with its gates: the two calls one after the other leave the reference's result. The first call's
   arrays are those of the gates' call alone on the same arguments; the second call's array is that of the attention alone on
   the projection and the first call's arrays. -/
module

public import proofs.«01_k».proof.Proof.Gen.ForgetIdeal.Frame
public import proofs.«01_k».proof.Proof.FoxValue
public import proofs.«01_k».proof.Proof.GatesValue
public import Idealize.ShloMosaic.Lib.StableHlo.RunRead

@[expose] public section

set_option maxRecDepth 16384

noncomputable section

namespace Cert.ForgetIdeal.Hand

open Cert.ForgetIdeal Cert.ForgetIdeal.Gen Idealize.ShloMosaic Idealize.ShloMosaic.TcCoe Idealize.SL.Sem
open Idealize.ShloMosaic.ValueIdx

/-! ## The first call -/

section First

variable (V : (c : Dev nD) → (b : Ref sig .tc) → Buf (Elt Ideal) ((c : Thread nD τ).loc b)) (c : Dev nD)
  (mG : (ℓ : Loc GatesIdeal.nD GatesIdeal.τ GatesIdeal.sig) → Buf (Elt Ideal) ℓ)

/-- The memory of the gates' call alone holds what this program's first call finds. -/
structure SameGates : Prop where
  tokens : (V c main_arg1 : FVec Ideal S4x2048x2048 .bf16) = GatesIdeal.Gen.V mG c GatesIdeal.main_arg0
  weights : (V c main_v0 : FVec Ideal S6152x2048 .f32) = GatesIdeal.Gen.V mG c GatesIdeal.main_v0
  biases : (V c main_v2 : FVec Ideal S1x128 .f32) = GatesIdeal.Gen.V mG c GatesIdeal.main_v2

variable {V c mG} (h : SameGates V c mG) (t : Fin cfg0.N)
include h

theorem block0 : (iblk0 V c 0 t : FVec Ideal S1x2048x2048 .bf16) = GatesIdeal.Gen.iblk mG c 0 t :=
  congrArg (fun X : FVec Ideal S4x2048x2048 .bf16 => ((GatesIdeal.cfg0.win 0).blk t).view.read (Elt Ideal) X) h.tokens

theorem block1 : (iblk0 V c 1 t : FVec Ideal S8x2048 .f32) = GatesIdeal.Gen.iblk mG c 1 t :=
  congrArg (fun X : FVec Ideal S6152x2048 .f32 => ((GatesIdeal.cfg0.win 1).blk t).view.read (Elt Ideal) X) h.weights

theorem block2 : (iblk0 V c 2 t : FVec Ideal S1x128 .f32) = GatesIdeal.Gen.iblk mG c 2 t :=
  congrArg (fun X : FVec Ideal S1x128 .f32 => ((GatesIdeal.cfg0.win 2).blk t).view.read (Elt Ideal) X) h.biases

theorem left3 : (out0_3 (iblk0 V c 0 t) (iblk0 V c 1 t) (iblk0 V c 2 t) : FVec Ideal S1x2048x128 .f32)
    = GatesIdeal.Gen.out0_3 (GatesIdeal.Gen.iblk mG c 0 t) (GatesIdeal.Gen.iblk mG c 1 t) (GatesIdeal.Gen.iblk mG c 2 t) := by
  rw [← block0 h t, ← block1 h t, ← block2 h t]
  rfl

theorem left4 : (out0_4 (iblk0 V c 0 t) (iblk0 V c 1 t) (iblk0 V c 2 t) : FVec Ideal S1x8x2048 .f32)
    = GatesIdeal.Gen.out0_4 (GatesIdeal.Gen.iblk mG c 0 t) (GatesIdeal.Gen.iblk mG c 1 t) (GatesIdeal.Gen.iblk mG c 2 t) := by
  rw [← block0 h t, ← block1 h t, ← block2 h t]
  rfl

/-- The first call's first array holds the running sums on the heads' lanes. -/
theorem first_at (b : Fin 4) (r : Fin 2048) (l : Fin 128) (hl : l.val < 8) : ((dat0 V c).arrAt 3 cfg0.N : FVec Ideal S4x2048x128 .f32) (ix3 b r l)
    = GatesIdeal.Hand.acc (GatesIdeal.Hand.gates (GatesIdeal.Hand.tokens mG c) (GatesIdeal.Hand.weights mG c) (GatesIdeal.Hand.biases mG c) b ⟨l.val, hl⟩) 2048 r.val := by
  have hN : b.val < cfg0.N := lt_of_lt_of_eq b.isLt (show 4 = cfg0.N from N_0.symm)
  have hf : (dat0 V c).flushed 3 ⟨b.val, hN⟩ = (cfg0.win 3).cut (grid0.coords ⟨b.val, hN⟩) (out0_3 (iblk0 V c 0 ⟨b.val, hN⟩) (iblk0 V c 1 ⟨b.val, hN⟩) (iblk0 V c 2 ⟨b.val, hN⟩)) := by
    unfold Pipeline.Dat.flushed
    rw [after0_3]
  have hv := congrFun ((dat0 V c).read_blk_arrAt_eq_flushed 3 (fun t t' _ _ hne => (cfg0.win 3).disjoint_blk fun e => hne (GatesIdeal.Value.idx_inj3 t t' e))
    cfg0.N ⟨b.val, hN⟩ hN (flush0_3 _)) (ix3 0 r l)
  rw [hf] at hv
  exact ((congrArg ((dat0 V c).arrAt 3 cfg0.N) (GatesIdeal.Hand.emb3 ⟨b.val, hN⟩ b rfl r l)).symm.trans hv).trans ((congrFun (left3 h ⟨b.val, hN⟩) (ix3 0 r l)).trans
    ((GatesIdeal.Hand.out3_apply _ _ _ r l).trans (GatesIdeal.Hand.sums_apply mG c _ b rfl r l hl)))

/-- Its second array holds them head by head. -/
theorem second_at (b : Fin 4) (l : Fin 8) (r : Fin 2048) : ((dat0 V c).arrAt 4 cfg0.N : FVec Ideal S4x8x2048 .f32) (ix3 b l r)
    = GatesIdeal.Hand.acc (GatesIdeal.Hand.gates (GatesIdeal.Hand.tokens mG c) (GatesIdeal.Hand.weights mG c) (GatesIdeal.Hand.biases mG c) b l) 2048 r.val := by
  have hN : b.val < cfg0.N := lt_of_lt_of_eq b.isLt (show 4 = cfg0.N from N_0.symm)
  have hf : (dat0 V c).flushed 4 ⟨b.val, hN⟩ = (cfg0.win 4).cut (grid0.coords ⟨b.val, hN⟩) (out0_4 (iblk0 V c 0 ⟨b.val, hN⟩) (iblk0 V c 1 ⟨b.val, hN⟩) (iblk0 V c 2 ⟨b.val, hN⟩)) := by
    unfold Pipeline.Dat.flushed
    rw [after0_4]
  have hv := congrFun ((dat0 V c).read_blk_arrAt_eq_flushed 4 (fun t t' _ _ hne => (cfg0.win 4).disjoint_blk fun e => hne (GatesIdeal.Value.idx_inj4 t t' e))
    cfg0.N ⟨b.val, hN⟩ hN (flush0_4 _)) (ix3 0 l r)
  rw [hf] at hv
  exact ((congrArg ((dat0 V c).arrAt 4 cfg0.N) (GatesIdeal.Hand.emb4 ⟨b.val, hN⟩ b rfl l r)).symm.trans hv).trans ((congrFun (left4 h ⟨b.val, hN⟩) (ix3 0 l r)).trans
    ((GatesIdeal.Hand.out4_apply _ _ _ l r).trans (GatesIdeal.Hand.sums_apply mG c _ b rfl r ⟨l.val, by omega⟩ l.isLt)))

end First

/-! ## The second call -/

section Second

/-- What a point leaves in its block is a row of attention at every row. -/
theorem left5 (c : Dev nD) (i : grid1.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .f32) (harg5 : arg5.IsWhole) (arg6 : Memref sig .tc .vmem S1x8x2048 .f32) (harg6 : arg6.IsWhole)
    (arg7 : Memref sig .tc .vmem S1x2048x128 .bf16) (harg7 : arg7.IsWhole)
    (x0 x1 x2 : Vec Ideal S1x2048x128 .bf16) (x3 : Vec Ideal S1x2048x128 .f32) (x4 : Vec Ideal S1x8x2048 .f32) (r : Fin 2048) (e : Fin 128) :
    out1_A_5 (F := Ideal) c i arg2 harg2 arg3 harg3 arg4 harg4 arg5 harg5 arg6 harg6 arg7 harg7 x0 x1 x2 x3 x4 (ix3 0 r e)
      = FoxIdeal.Hand.pointRow i x0 x1 x2 x3 x4 r e := by
  unfold out1_A_5
  rw [View.read_writes_junk_eq_canon]
  exact View.canon_eq_of_allAt _ _ _ (cover1_A_5 (y := ix3 0 r e) ..)
    (FoxIdeal.Hand.tiles_at i arg2 harg2 arg3 harg3 arg4 harg4 arg5 harg5 arg6 harg6 x0 x1 x2 x3 x4 r e)

variable (V : (c : Dev nD) → (r : Ref sig .tc) → Buf (Elt Ideal) ((c : Thread nD τ).loc r)) (c : Dev nD)
  (mF : (ℓ : Loc FoxIdeal.nD FoxIdeal.τ FoxIdeal.sig) → Buf (Elt Ideal) ℓ)

/-- The memory of the attention alone holds what this program's second call finds. -/
structure SameFox : Prop where
  proj : (V c main_arg0 : FVec Ideal S4x2048x6144 .bf16) = mF ((c : Thread FoxIdeal.nD FoxIdeal.τ).loc FoxIdeal.main_arg0)
  first : (V c main_v3_0 : FVec Ideal S4x2048x128 .f32) = mF ((c : Thread FoxIdeal.nD FoxIdeal.τ).loc FoxIdeal.main_arg1)
  second : (V c main_v3_1 : FVec Ideal S4x8x2048 .f32) = mF ((c : Thread FoxIdeal.nD FoxIdeal.τ).loc FoxIdeal.main_arg2)

variable {V c mF} (h : SameFox V c mF) (t : Fin cfg1.N)
include h

theorem stage0 : (iblk1 V c 0 t : FVec Ideal S1x2048x128 .bf16) = FoxIdeal.Gen.iblk mF c 0 t :=
  congrArg (fun X : FVec Ideal S4x2048x6144 .bf16 => ((FoxIdeal.cfg0.win 0).blk t).view.read (Elt Ideal) X) h.proj

theorem stage1 : (iblk1 V c 1 t : FVec Ideal S1x2048x128 .bf16) = FoxIdeal.Gen.iblk mF c 1 t :=
  congrArg (fun X : FVec Ideal S4x2048x6144 .bf16 => ((FoxIdeal.cfg0.win 1).blk t).view.read (Elt Ideal) X) h.proj

theorem stage2 : (iblk1 V c 2 t : FVec Ideal S1x2048x128 .bf16) = FoxIdeal.Gen.iblk mF c 2 t :=
  congrArg (fun X : FVec Ideal S4x2048x6144 .bf16 => ((FoxIdeal.cfg0.win 2).blk t).view.read (Elt Ideal) X) h.proj

theorem stage3 : (iblk1 V c 3 t : FVec Ideal S1x2048x128 .f32) = FoxIdeal.Gen.iblk mF c 3 t :=
  congrArg (fun X : FVec Ideal S4x2048x128 .f32 => ((FoxIdeal.cfg0.win 3).blk t).view.read (Elt Ideal) X) h.first

theorem stage4 : (iblk1 V c 4 t : FVec Ideal S1x8x2048 .f32) = FoxIdeal.Gen.iblk mF c 4 t :=
  congrArg (fun X : FVec Ideal S4x8x2048 .f32 => ((FoxIdeal.cfg0.win 4).blk t).view.read (Elt Ideal) X) h.second

/-- The blocks of the result array. -/
theorem block5 (r : Fin 2048) (e : Fin 128) : ((dat1 V c).arrAt 5 cfg1.N : Vec Ideal S4x2048x1024 .bf16) (((FoxIdeal.cfg0.win 5).blk t).view.emb (ix3 0 r e))
    = FoxIdeal.Hand.pointRow (FoxIdeal.grid0.coords t) (FoxIdeal.Gen.iblk mF c 0 t) (FoxIdeal.Gen.iblk mF c 1 t) (FoxIdeal.Gen.iblk mF c 2 t)
      (FoxIdeal.Gen.iblk mF c 3 t) (FoxIdeal.Gen.iblk mF c 4 t) r e := by
  have hf : (dat1 V c).flushed 5 t = (cfg1.win 5).cut (grid1.coords t) (outsAt1 V c t) := by
    unfold Pipeline.Dat.flushed
    rw [after1_5]
  have hv := congrFun ((dat1 V c).read_blk_arrAt_eq_flushed 5 (fun t t' _ _ hne => (cfg1.win 5).disjoint_blk fun e => hne (FoxIdeal.Value.idx_inj5 t t' e))
    cfg1.N t t.isLt (flush1_5 _)) (ix3 0 r e)
  rw [hf] at hv
  refine hv.trans ((left5 c (grid1.coords t) _ _ _ _ _ _ _ _ _ _ _ _ _ _ _ _ _ r e).trans ?_)
  rw [stage0 h t, stage1 h t, stage2 h t, stage3 h t, stage4 h t]

end Second

end Cert.ForgetIdeal.Hand

end
-- ==== Proof.ForgetRef.lean ====
/- The forgetting attention with its gates, the reference: it is the attention's reference on the projection and the gates'
   reference's two results. Then the gates' running sums are real when the arguments are. -/
module

public import proofs.«01_k».proof.Proof.Gen.ForgetRefIdeal.Read
public import proofs.«01_k».proof.Proof.FoxRef
public import proofs.«01_k».proof.Proof.GatesRef
public import proofs.«01_k».proof.Proof.Real

@[expose] public section

set_option maxRecDepth 16384

noncomputable section

namespace Cert.ForgetIdeal.Hand

open Cert.Attn Idealize.ShloMosaic Idealize.ShloMosaic.ValueIdx
open Cert.ForgetRefIdeal Cert.ForgetRefIdeal.Gen Cert.ForgetRefIdeal.Read

variable (z : FVec Ideal S4x2048x6144 .bf16) (u : FVec Ideal S4x2048x2048 .bf16) (w : FVec Ideal S2048x6152 .f32) (bias : FVec Ideal S8 .f32)

/-! ## The reference -/

/-- The running sums, head by head, are the second result of the gates' reference. -/
theorem ref_sums : val_main_v15 (F := Ideal) u w bias = GatesRefIdeal.Read.val_main_v10 (F := Ideal) u w bias := rfl

/-- The attention's reference reads of the first result the heads' lanes, which are the same sums. -/
theorem ref_lanes : FoxRefIdeal.Read.val_main_v8 (F := Ideal) (GatesRefIdeal.Read.val_main_v9 (F := Ideal) u w bias) = val_main_v15 (F := Ideal) u w bias := by
  rw [ref_sums]
  funext i
  obtain ⟨b, l, r, rfl⟩ : ∃ b l r, i = ix3 b l r := ⟨i 0, i 1, i 2, FoxIdeal.Hand.ext3 rfl rfl rfl⟩
  have hl := l.isLt
  rw [GatesIdeal.Hand.ref_second, FoxRefIdeal.Read.val_main_v8_apply, FoxRefIdeal.Read.val_main_v7_apply]
  rw [← GatesIdeal.Hand.ref_first u w bias b r ⟨l.val, by omega⟩ hl]
  exact congrArg _ (FoxIdeal.Hand.ext3 rfl rfl rfl)

/-- The scores after the mask. -/
theorem ref_scores : val_main_v33 (F := Ideal) z u w bias
    = FoxRefIdeal.Read.val_main_v26 (F := Ideal) z (GatesRefIdeal.Read.val_main_v9 u w bias) (GatesRefIdeal.Read.val_main_v10 u w bias) := by
  unfold val_main_v33 val_main_v24 val_main_v21 val_main_v20 val_main_v19 val_main_v23 val_main_v22
  unfold FoxRefIdeal.Read.val_main_v26 FoxRefIdeal.Read.val_main_v17 FoxRefIdeal.Read.val_main_v14 FoxRefIdeal.Read.val_main_v13
    FoxRefIdeal.Read.val_main_v12 FoxRefIdeal.Read.val_main_v16 FoxRefIdeal.Read.val_main_v15
  rw [ref_lanes, ref_sums]
  rfl

theorem ref_eq : val_main_v48 (F := Ideal) z u w bias
    = FoxRefIdeal.Read.val_main_v41 (F := Ideal) z (GatesRefIdeal.Read.val_main_v9 u w bias) (GatesRefIdeal.Read.val_main_v10 u w bias) := by
  have h := ref_scores z u w bias
  unfold val_main_v48 val_main_v47 val_main_v46 val_main_v45 val_main_v44 val_main_v43 val_main_v42 val_main_v41 val_main_v40 val_main_v39
    val_main_v38 val_main_v37 val_main_v36 val_main_v34
  rw [h]
  rfl

/-! ## The running sums are real -/

theorem isReal_gate {x : EReal} (h : IsReal x) : IsReal (GatesIdeal.Hand.gate x) := by
  obtain ⟨r, rfl⟩ := h
  have e : Ideal.log1p (Ideal.exp (0 - max (r : EReal) (-r))) = ((Real.log (1 + Real.exp (0 - max r (-r))) : ℝ) : EReal) := by
    rw [← EReal.coe_neg, ← EReal.coe_strictMono.monotone.map_max, ← EReal.coe_zero, ← EReal.coe_sub]
    show Ideal.log (1 + ((Real.exp (0 - max r (-r)) : ℝ) : EReal)) = _
    rw [← EReal.coe_one, ← EReal.coe_add]
    show (if 1 + Real.exp (0 - max r (-r)) ≤ 0 then (⊥ : EReal) else _) = _
    rw [if_neg (by have := Real.exp_pos (0 - max r (-r)); linarith)]
  unfold GatesIdeal.Hand.gate
  rw [e, ← EReal.coe_zero, ← EReal.coe_strictMono.monotone.map_min]
  exact isReal_sub ⟨_, rfl⟩ ⟨_, rfl⟩

theorem isReal_zero : IsReal 0 := ⟨0, EReal.coe_zero.symm⟩

theorem isReal_acc {f : ℕ → EReal} (h : ∀ n, IsReal (f n)) (s r : ℕ) : IsReal (GatesIdeal.Hand.acc f s r) := by
  unfold GatesIdeal.Hand.acc
  rw [← Fin.sum_univ_eq_sum_range (fun j => if j ≤ r then f (r - j) else 0)]
  exact isReal_sum fun j => by
    split
    · exact h _
    · exact isReal_zero

theorem isReal_gates (hu : ∀ i, IsReal (u i)) (hw : ∀ i, IsReal (w i)) (hb : ∀ i, IsReal (bias i)) (b : Fin 4) (l : Fin 8) (n : ℕ) :
    IsReal (GatesIdeal.Hand.gates u w bias b l n) := by
  unfold GatesIdeal.Hand.gates
  split
  · exact isReal_gate (isReal_add (isReal_sum fun k => isReal_mul (hu _) (hw _)) (hb _))
  · exact isReal_zero

end Cert.ForgetIdeal.Hand

end
-- ==== Proof.ForgetJoin.lean ====
/- The forgetting attention with its gates: what the second call writes back is the reference's result. Each call alone is
   given a memory that holds what this program's call finds; the two calls' own equations then meet in the middle. -/
module

public import proofs.«01_k».proof.Proof.ForgetValue
public import proofs.«01_k».proof.Proof.ForgetRef
public import proofs.«01_k».proof.Pre_finite_forget

@[expose] public section

set_option maxRecDepth 16384

noncomputable section

namespace Cert.Pre_finite_forget.Gen

/-- The side conditions the precondition's operations take. -/
instance facts : Cert.Pre_finite_forget.Facts := by constructor <;> decide

end Cert.Pre_finite_forget.Gen

namespace Cert.ForgetIdeal.Hand

open Cert.Attn Cert.ForgetIdeal Cert.ForgetIdeal.Gen Idealize.ShloMosaic Idealize.ShloMosaic.TcCoe Idealize.SL.Sem
open Idealize.ShloMosaic.ValueIdx

/-- What the precondition says: every argument is real everywhere. -/
theorem real_of_pre (z : FVec Ideal S4x2048x6144 .bf16) (u : FVec Ideal S4x2048x2048 .bf16) (w : FVec Ideal S2048x6152 .f32) (bias : FVec Ideal S8 .f32)
    (h : Pre_finite_forget.fn (F := Ideal) z u w bias = fun _ => 1#1) :
    (∀ i, IsReal (z i)) ∧ (∀ i, IsReal (u i)) ∧ (∀ i, IsReal (w i)) ∧ ∀ i, IsReal (bias i) := by
  have e := congrFun h ix0
  obtain ⟨e1, e2⟩ := IntOp.andi_eq_one.1 e
  obtain ⟨e3, e4⟩ := IntOp.andi_eq_one.1 e1
  obtain ⟨e5, e6⟩ := IntOp.andi_eq_one.1 e3
  exact ⟨Attn.real_of_all (s := S4x2048x6144) z _ _ _ _ _ e5, Attn.real_of_all (s := S4x2048x2048) u _ _ _ _ _ e6,
    Attn.real_of_all (s := S2048x6152) w _ _ _ _ _ e4, Attn.real_of_all (s := S8) bias _ _ _ _ _ e2⟩

/-- There is a memory with three given arrays at three different places of a device. -/
theorem exists_memory {nD : ℕ} {τ : Topo} {sig : RefSig} (c : Dev nD) (b0 b1 b2 : Ref sig .tc) (h01 : Proc.devRef (τ := τ) .tc b0 ≠ Proc.devRef .tc b1)
    (h02 : Proc.devRef (τ := τ) .tc b0 ≠ Proc.devRef .tc b2) (h12 : Proc.devRef (τ := τ) .tc b1 ≠ Proc.devRef .tc b2)
    (x0 : Buf (Elt Ideal) ((c : Thread nD τ).loc b0)) (x1 : Buf (Elt Ideal) ((c : Thread nD τ).loc b1)) (x2 : Buf (Elt Ideal) ((c : Thread nD τ).loc b2)) :
    ∃ m : (ℓ : Loc nD τ sig) → Buf (Elt Ideal) ℓ,
      m ((c : Thread nD τ).loc b0) = x0 ∧ m ((c : Thread nD τ).loc b1) = x1 ∧ m ((c : Thread nD τ).loc b2) = x2 := by
  classical
  refine ⟨Function.update (Function.update (Function.update (fun _ _ => Classical.arbitrary _) _ x2) _ x1) _ x0, ?_, ?_, ?_⟩
  · exact Function.update_self ..
  · exact (Function.update_of_ne (fun e => h01 (congrArg Prod.snd e).symm) ..).trans (Function.update_self ..)
  · exact (Function.update_of_ne (fun e => h02 (congrArg Prod.snd e).symm) ..).trans
      ((Function.update_of_ne (fun e => h12 (congrArg Prod.snd e).symm) ..).trans (Function.update_self ..))

variable (m : (ℓ : Loc nD τ sig) → Buf (Elt Ideal) ℓ) (ρ : Dev nD → PrngReg) (c : Dev nD)

/-- The arguments. -/
abbrev proj : FVec Ideal S4x2048x6144 .bf16 := m ((c : Thread nD τ).loc main_arg0)
abbrev tokens : FVec Ideal S4x2048x2048 .bf16 := m ((c : Thread nD τ).loc main_arg1)
abbrev weights : FVec Ideal S2048x6152 .f32 := m ((c : Thread nD τ).loc main_arg2)
abbrev biases : FVec Ideal S8 .f32 := m ((c : Thread nD τ).loc main_arg3)

/-- The first call finds what the gates' call alone finds on the same arguments. -/
theorem same_gates (mG : (ℓ : Loc GatesIdeal.nD GatesIdeal.τ GatesIdeal.sig) → Buf (Elt Ideal) ℓ) (h0 : GatesIdeal.Hand.tokens mG c = tokens m c)
    (h1 : GatesIdeal.Hand.weights mG c = weights m c) (h2 : GatesIdeal.Hand.biases mG c = biases m c) : SameGates (V3 m ρ) c mG where
  tokens := (W3_args m ρ c main_arg1 (by decide)).trans (h0.symm.trans (GatesIdeal.Gen.V_main_arg0 mG c).symm)
  weights := by
    unfold GatesIdeal.Gen.V
    after_reads_simp
    exact congrArg (transpose S6152x2048 [1, 0] · transposes_S2048x6152_S6152x2048_1_0) h1.symm
  biases := by
    unfold GatesIdeal.Gen.V
    after_reads_simp
    exact congrArg (fun x : FVec Ideal S8 .f32 => shapeCast S1x128 (pad S128 ![0] ![120] ![0] x (sitofp .f32 (constantI S_ 32 0#32)) pads_S8_S128_01200 h_S_) shapeCasts_S128_S1x128) h2.symm

/-- What the second call writes back is the reference's result. -/
theorem G_eq (hp : Pre_finite_forget.fn (F := Ideal) (proj m c) (tokens m c) (weights m c) (biases m c) = fun _ => 1#1) :
    ((dat1 (V4 m ρ) c).arrAt 5 cfg1.N : Vec Ideal S4x2048x1024 .bf16)
      = ForgetRefIdeal.Read.val_main_v48 (F := Ideal) (proj m c) (tokens m c) (weights m c) (biases m c) := by
  obtain ⟨hz, hu, hw, hb⟩ := real_of_pre _ _ _ _ hp
  obtain ⟨mG, g0, g1, g2⟩ := exists_memory (τ := GatesIdeal.τ) c GatesIdeal.main_arg0 GatesIdeal.main_arg1 GatesIdeal.main_arg2 (by decide) (by decide) (by decide)
    (tokens m c) (weights m c) (biases m c)
  have hg := same_gates m ρ c mG g0 g1 g2
  obtain ⟨mF, f0, f1, f2⟩ := exists_memory (τ := FoxIdeal.τ) c FoxIdeal.main_arg0 FoxIdeal.main_arg1 FoxIdeal.main_arg2 (by decide) (by decide) (by decide)
    (proj m c) ((dat0 (V3 m ρ) c).arrAt 3 cfg0.N) ((dat0 (V3 m ρ) c).arrAt 4 cfg0.N)
  have hf : SameFox (V4 m ρ) c mF := ⟨(W4_args m ρ c main_arg0 (by decide)).trans f0.symm, (W4_arr m ρ c 3).trans f1.symm, (W4_arr m ρ c 4).trans f2.symm⟩
  have hr : (mF ((c : Thread FoxIdeal.nD FoxIdeal.τ).loc FoxIdeal.main_arg2) : FVec Ideal S4x8x2048 .f32)
      = GatesRefIdeal.Read.val_main_v10 (F := Ideal) (tokens m c) (weights m c) (biases m c) := by
    refine f2.trans (funext fun i => ?_)
    obtain ⟨b, l, r, rfl⟩ : ∃ b l r, i = ix3 b l r := ⟨i 0, i 1, i 2, FoxIdeal.Hand.ext3 rfl rfl rfl⟩
    rw [second_at hg, GatesIdeal.Hand.ref_second, show GatesIdeal.Hand.tokens mG c = _ from g0, show GatesIdeal.Hand.weights mG c = _ from g1,
      show GatesIdeal.Hand.biases mG c = _ from g2]
  have hs : ∀ b l r, IsReal (GatesIdeal.Hand.acc (GatesIdeal.Hand.gates (tokens m c) (weights m c) (biases m c) b l) 2048 r) :=
    fun b l r => isReal_acc (isReal_gates _ _ _ hu hw hb b l) 2048 r
  rw [ref_eq]
  refine (FoxIdeal.Hand.eq_of_blocks mF c _ (GatesRefIdeal.Read.val_main_v9 (F := Ideal) (tokens m c) (weights m c) (biases m c))
    (fun t r e => block5 hf t r e) (fun b r l => ?_) (fun i => ?_) (fun b r l => ?_) (fun i => ?_)).trans ?_
  · rw [f1, GatesIdeal.Hand.ref_first _ _ _ b r ⟨l.val, by omega⟩ l.isLt]
    refine (first_at hg b r ⟨l.val, by omega⟩ l.isLt).trans ?_
    rw [show GatesIdeal.Hand.tokens mG c = _ from g0, show GatesIdeal.Hand.weights mG c = _ from g1, show GatesIdeal.Hand.biases mG c = _ from g2]
  · rw [f0]
    exact hz i
  · rw [GatesIdeal.Hand.ref_first _ _ _ b r ⟨l.val, by omega⟩ l.isLt]
    exact hs _ _ _
  · rw [hr]
    obtain ⟨b, l, r, rfl⟩ : ∃ b l r, i = ix3 b l r := ⟨i 0, i 1, i 2, FoxIdeal.Hand.ext3 rfl rfl rfl⟩
    rw [GatesIdeal.Hand.ref_second]
    exact hs _ _ _
  · rw [hr, f0]

end Cert.ForgetIdeal.Hand

end
-- ==== Proof.lean ====
/- The claims of the certificate, put together. Each program of the layer has its frame (it runs, keeps its arguments and
   leaves every counter at zero); a host reference's frame is its run, weakened. Each value claim joins the kernel's run,
   the reference's run and the equation of the two results, which the `Value` modules prove. -/
module

public import proofs.«01_k».proof.Defs
public import proofs.«01_k».proof.Proof.Gen.Fox.Frame
public import proofs.«01_k».proof.Proof.FoxValue
public import proofs.«01_k».proof.Proof.Gen.FoxRefIdeal.Read
public import proofs.«01_k».proof.Proof.Gen.Band.Frame
public import proofs.«01_k».proof.Proof.BandValue
public import proofs.«01_k».proof.Proof.Gen.BandRefIdeal.Read
public import proofs.«01_k».proof.Proof.Gen.GateUp.Frame
public import proofs.«01_k».proof.Proof.GateUpValue
public import proofs.«01_k».proof.Proof.Gen.GateUpRefIdeal.Read
public import proofs.«01_k».proof.Proof.Gen.Down.Frame
public import proofs.«01_k».proof.Proof.DownValue
public import proofs.«01_k».proof.Proof.Gen.DownRefIdeal.Read
public import proofs.«01_k».proof.Proof.Gen.InProj.Frame
public import proofs.«01_k».proof.Proof.InProjValue
public import proofs.«01_k».proof.Proof.Gen.InProjRefIdeal.Read
public import proofs.«01_k».proof.Proof.Gen.OutProj.Frame
public import proofs.«01_k».proof.Proof.OutProjValue
public import proofs.«01_k».proof.Proof.Gen.OutProjRefIdeal.Read
public import proofs.«01_k».proof.Proof.Gen.Ple.Frame
public import proofs.«01_k».proof.Proof.PleValue
public import proofs.«01_k».proof.Proof.Gen.PleRefIdeal.Read
public import proofs.«01_k».proof.Proof.Gen.Gates.Frame
public import proofs.«01_k».proof.Proof.GatesValue
public import proofs.«01_k».proof.Proof.Gen.GatesRefIdeal.Read
public import proofs.«01_k».proof.Proof.Gen.Norm.Frame
public import proofs.«01_k».proof.Proof.NormValue
public import proofs.«01_k».proof.Proof.Gen.NormRefIdeal.Read
public import proofs.«01_k».proof.Proof.Gen.LastNorm.Frame
public import proofs.«01_k».proof.Proof.LastNormValue
public import proofs.«01_k».proof.Proof.Gen.LastNormRefIdeal.Read
public import proofs.«01_k».proof.Proof.Gen.Forget.Frame
public import proofs.«01_k».proof.Proof.ForgetRun
public import proofs.«01_k».proof.Proof.ForgetJoin
public import proofs.«01_k».proof.Proof.Gen.ForgetRefIdeal.Read
public import Idealize.ShloMosaic.Lib.Claim

@[expose] public section

set_option maxRecDepth 16384

noncomputable section

namespace Cert.Proof

open Idealize.ShloMosaic Idealize.ShloMosaic.TcCoe Idealize.SL.Sem

theorem frame_fox_ref : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

theorem frame_band_ref : Cert.quiescent_BandRefIdeal := fun m ρ _ =>
  (θ_run Cert.BandRefIdeal.defs _ _).mono (fun r h => ⟨fun c => (h c).2, sem_eq_zero_of_no_sems (by decide) r.2⟩)
    (Cert.BandRefIdeal.Value.run (F := Ideal) m ρ)

theorem frame_gateup_ref : Cert.quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

theorem frame_down_ref : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem frame_inproj_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem frame_outproj_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem frame_ple_ref : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

theorem frame_gates_ref : Cert.quiescent_GatesRefIdeal := fun m ρ _ =>
  (θ_run Cert.GatesRefIdeal.defs _ _).mono (fun r h => ⟨fun c => (h c).2.2, sem_eq_zero_of_no_sems (by decide) r.2⟩)
    (Cert.GatesRefIdeal.Value.run (F := Ideal) m ρ)

theorem frame_norm_ref : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

theorem frame_lastnorm_ref : Cert.quiescent_LastNormRefIdeal := fun m ρ _ =>
  (θ_run Cert.LastNormRefIdeal.defs _ _).mono (fun r h => ⟨fun c => (h c).2, sem_eq_zero_of_no_sems (by decide) r.2⟩)
    (Cert.LastNormRefIdeal.Value.run (F := Ideal) m ρ)

theorem frame_forget_ref : Cert.quiescent_ForgetRefIdeal := fun m ρ _ =>
  (θ_run Cert.ForgetRefIdeal.defs _ _).mono (fun r h => ⟨fun c => (h c).2, sem_eq_zero_of_no_sems (by decide) r.2⟩)
    (Cert.ForgetRefIdeal.Value.run (F := Ideal) m ρ)

theorem algebraic_fox : Cert.algebraic_FoxIdeal_FoxRefIdeal_pre_finite_fox := by
  pair_intro
  · run_from Cert.FoxIdeal.Value.run_blocks m g
  · run_from Cert.FoxRefIdeal.Value.run m' g'
    obtain ⟨e0, e1, e2⟩ := hagree c
    rw [Cert.FoxRefIdeal.Read.val_main_v41_eq, e0, e1, e2]
    exact (Cert.FoxIdeal.Hand.G_eq m c (hpre c)).symm

theorem algebraic_band : Cert.algebraic_BandIdeal_BandRefIdeal_pre_finite_band := by
  pair_intro
  · run_from Cert.BandIdeal.Value.run_blocks m g
  · run_from Cert.BandRefIdeal.Value.run m' g'
    obtain ⟨e0, e1⟩ := hagree c
    rw [Cert.BandRefIdeal.Read.val_main_v58_eq, e0, e1]
    exact (Cert.BandIdeal.Hand.G_eq m c (hpre c)).symm

theorem algebraic_gateup : Cert.algebraic_GateUpIdeal_GateUpRefIdeal := by
  pair_intro
  · run_from Cert.GateUpIdeal.Value.run m g
  · run_from Cert.GateUpRefIdeal.Value.run m' g'
    exact (Cert.GateUpIdeal.Hand.G_eq m c).symm

theorem algebraic_down : Cert.algebraic_DownIdeal_DownRefIdeal := by
  pair_intro
  · run_from Cert.DownIdeal.Value.run m g
  · run_from Cert.DownRefIdeal.Value.run m' g'
    exact (Cert.DownIdeal.Hand.G_eq m c).symm

theorem algebraic_inproj : Cert.algebraic_InProjIdeal_InProjRefIdeal := by
  pair_intro
  · run_from Cert.InProjIdeal.Value.run m g
  · run_from Cert.InProjRefIdeal.Value.run m' g'
    exact (Cert.InProjIdeal.Hand.G_eq m c).symm

theorem algebraic_outproj : Cert.algebraic_OutProjIdeal_OutProjRefIdeal := by
  pair_intro
  · run_from Cert.OutProjIdeal.Value.run m g
  · run_from Cert.OutProjRefIdeal.Value.run m' g'
    exact (Cert.OutProjIdeal.Hand.G_eq m c).symm

theorem algebraic_ple : Cert.algebraic_PleIdeal_PleRefIdeal := by
  pair_intro
  · run_from Cert.PleIdeal.Value.run m g
  · run_from Cert.PleRefIdeal.Value.run m' g'
    exact (Cert.PleIdeal.Hand.G_eq m c).symm

theorem algebraic_gates : Cert.algebraic_GatesIdeal_GatesRefIdeal_on_gates_heads := by
  intro m g m' g' _ hagree
  refine ⟨fun c => (Cert.GatesIdeal.Gen.dats m 0 c).arrAt 3 Cert.GatesIdeal.cfg0.N, fun c => (Cert.GatesIdeal.Gen.dats m 0 c).arrAt 4 Cert.GatesIdeal.cfg0.N,
    (θ_run Cert.GatesIdeal.defs _ _).mono (fun r h c => ⟨fun i _ => congrFun (h c).1 i, fun i _ => congrFun (h c).2.1 i, (h c).2.2⟩)
      (Cert.GatesIdeal.Value.run_blocks m g),
    (θ_run Cert.GatesRefIdeal.defs _ _).mono (fun r h c => ⟨fun i hi => ?_, fun i _ => ?_, (h c).2.2⟩) (Cert.GatesRefIdeal.Value.run m' g')⟩
  · obtain ⟨e0, e1, e2⟩ := hagree c
    have h1 := (h c).1
    rw [Cert.GatesRefIdeal.Read.val_main_v9_eq, e0, e1, e2] at h1
    exact (congrFun h1 i).trans (Cert.GatesIdeal.Hand.first_eq m c i (Cert.GatesIdeal.Hand.mask_first _ _ _ i hi)).symm
  · obtain ⟨e0, e1, e2⟩ := hagree c
    have h1 := (h c).2.1
    rw [Cert.GatesRefIdeal.Read.val_main_v10_eq, e0, e1, e2] at h1
    exact (congrFun h1 i).trans (congrFun (Cert.GatesIdeal.Hand.second_eq m c) i).symm

theorem algebraic_norm : Cert.algebraic_NormIdeal_NormRefIdeal := by
  pair_intro
  · run_from Cert.NormIdeal.Value.run_blocks m g
  · run_from Cert.NormRefIdeal.Value.run m' g'
    exact (Cert.NormIdeal.Hand.G_eq m c).symm

theorem algebraic_lastnorm : Cert.algebraic_LastNormIdeal_LastNormRefIdeal := by
  pair_intro
  · run_from Cert.LastNormIdeal.Value.run_blocks m g
  · run_from Cert.LastNormRefIdeal.Value.run m' g'
    exact (Cert.LastNormIdeal.Hand.G_eq m c).symm

theorem algebraic_forget : Cert.algebraic_ForgetIdeal_ForgetRefIdeal_pre_finite_forget := by
  pair_intro
  · run_from Cert.ForgetIdeal.Hand.run m g
  · run_from Cert.ForgetRefIdeal.Value.run m' g'
    obtain ⟨e0, e1, e2, e3⟩ := hagree c
    rw [Cert.ForgetRefIdeal.Read.val_main_v48_eq, e0, e1, e2, e3]
    exact (Cert.ForgetIdeal.Hand.G_eq m g c (hpre c)).symm

/-- Everything claimed. -/
theorem claim : Cert.Claim := ⟨Cert.Fox.Gen.facts,
  Cert.FoxIdeal.Gen.facts,
  Cert.FoxRefIdeal.Gen.facts,
  Cert.Band.Gen.facts,
  Cert.BandIdeal.Gen.facts,
  Cert.BandRefIdeal.Gen.facts,
  Cert.GateUp.Gen.facts,
  Cert.GateUpIdeal.Gen.facts,
  Cert.GateUpRefIdeal.Gen.facts,
  Cert.Down.Gen.facts,
  Cert.DownIdeal.Gen.facts,
  Cert.DownRefIdeal.Gen.facts,
  Cert.InProj.Gen.facts,
  Cert.InProjIdeal.Gen.facts,
  Cert.InProjRefIdeal.Gen.facts,
  Cert.OutProj.Gen.facts,
  Cert.OutProjIdeal.Gen.facts,
  Cert.OutProjRefIdeal.Gen.facts,
  Cert.Ple.Gen.facts,
  Cert.PleIdeal.Gen.facts,
  Cert.PleRefIdeal.Gen.facts,
  Cert.Gates.Gen.facts,
  Cert.GatesIdeal.Gen.facts,
  Cert.GatesRefIdeal.Gen.facts,
  Cert.Norm.Gen.facts,
  Cert.NormIdeal.Gen.facts,
  Cert.NormRefIdeal.Gen.facts,
  Cert.LastNorm.Gen.facts,
  Cert.LastNormIdeal.Gen.facts,
  Cert.LastNormRefIdeal.Gen.facts,
  Cert.Forget.Gen.facts,
  Cert.ForgetIdeal.Gen.facts,
  Cert.ForgetRefIdeal.Gen.facts,
  Cert.Pre_finite_fox.Gen.facts,
  Cert.Pre_finite_band.Gen.facts,
  Cert.Pre_finite_forget.Gen.facts,
  Cert.On_gates_heads.Gen.facts,
  fun m ρ _ => Cert.Fox.Gen.frame m ρ,
  fun m ρ _ => Cert.FoxIdeal.Gen.frame m ρ,
  fun m ρ _ => Cert.FoxIdeal.Gen.frame m ρ,
  frame_fox_ref,
  fun m ρ _ => frame_fox_ref m ρ trivial,
  fun m ρ _ => Cert.Band.Gen.frame m ρ,
  fun m ρ _ => Cert.BandIdeal.Gen.frame m ρ,
  fun m ρ _ => Cert.BandIdeal.Gen.frame m ρ,
  frame_band_ref,
  fun m ρ _ => frame_band_ref m ρ trivial,
  fun m ρ _ => Cert.GateUp.Gen.frame m ρ,
  fun m ρ _ => Cert.GateUpIdeal.Gen.frame m ρ,
  frame_gateup_ref,
  fun m ρ _ => Cert.Down.Gen.frame m ρ,
  fun m ρ _ => Cert.DownIdeal.Gen.frame m ρ,
  frame_down_ref,
  fun m ρ _ => Cert.InProj.Gen.frame m ρ,
  fun m ρ _ => Cert.InProjIdeal.Gen.frame m ρ,
  frame_inproj_ref,
  fun m ρ _ => Cert.OutProj.Gen.frame m ρ,
  fun m ρ _ => Cert.OutProjIdeal.Gen.frame m ρ,
  frame_outproj_ref,
  fun m ρ _ => Cert.Ple.Gen.frame m ρ,
  fun m ρ _ => Cert.PleIdeal.Gen.frame m ρ,
  frame_ple_ref,
  fun m ρ _ => Cert.Gates.Gen.frame m ρ,
  fun m ρ _ => Cert.GatesIdeal.Gen.frame m ρ,
  frame_gates_ref,
  fun m ρ _ => Cert.Norm.Gen.frame m ρ,
  fun m ρ _ => Cert.NormIdeal.Gen.frame m ρ,
  frame_norm_ref,
  fun m ρ _ => Cert.LastNorm.Gen.frame m ρ,
  fun m ρ _ => Cert.LastNormIdeal.Gen.frame m ρ,
  frame_lastnorm_ref,
  fun m ρ _ => Cert.Forget.Gen.frame m ρ,
  fun m ρ _ => Cert.ForgetIdeal.Gen.frame m ρ,
  fun m ρ _ => Cert.ForgetIdeal.Gen.frame m ρ,
  frame_forget_ref,
  fun m ρ _ => frame_forget_ref m ρ trivial,
  IdealRules.named_const.statement Cert.FoxIdeal.κ "mask" .f32 0xF149F2CA#32 ⊥ rfl,
  algebraic_fox,
  IdealRules.named_const.statement Cert.BandIdeal.κ "mask" .f32 0xF149F2CA#32 ⊥ rfl,
  algebraic_band,
  trivial,
  algebraic_gateup,
  trivial,
  algebraic_down,
  trivial,
  algebraic_inproj,
  trivial,
  algebraic_outproj,
  trivial,
  algebraic_ple,
  trivial,
  algebraic_gates,
  trivial,
  algebraic_norm,
  trivial,
  algebraic_lastnorm,
  IdealRules.named_const.statement Cert.ForgetIdeal.κ "mask" .f32 0xF149F2CA#32 ⊥ rfl,
  algebraic_forget⟩

end Cert.Proof

end
